-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)) (v2 : (c : Dev Cert.Kernel2Ideal.nD) → Buf (Elt Ideal) ((c.tc : Thread Cert.Kernel2Ideal.nD Cert.Kernel2Ideal.τ).loc Cert.Kernel2Ideal.main_v31_2)) (v3 : (c : Dev Cert.Kernel2Ideal.nD) → Buf (Elt Ideal) ((c.tc : Thread Cert.Kernel2Ideal.nD Cert.Kernel2Ideal.τ).loc Cert.Kernel2Ideal.main_v31_3)) (v4 : (c : Dev Cert.Kernel2Ideal.nD) → Buf (Elt Ideal) ((c.tc : Thread Cert.Kernel2Ideal.nD Cert.Kernel2Ideal.τ).loc Cert.Kernel2Ideal.main_v31_4)) (v5 : (c : Dev Cert.Kernel2Ideal.nD) → Buf (Elt Ideal) ((c.tc : Thread Cert.Kernel2Ideal.nD Cert.Kernel2Ideal.τ).loc Cert.Kernel2Ideal.main_v31_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_v31_2) = v2 c
          ∧ r.2.mem ((c.tc : Thread Cert.Kernel2Ideal.nD Cert.Kernel2Ideal.τ).loc Cert.Kernel2Ideal.main_v31_3) = v3 c
          ∧ r.2.mem ((c.tc : Thread Cert.Kernel2Ideal.nD Cert.Kernel2Ideal.τ).loc Cert.Kernel2Ideal.main_v31_4) = v4 c
          ∧ r.2.mem ((c.tc : Thread Cert.Kernel2Ideal.nD Cert.Kernel2Ideal.τ).loc Cert.Kernel2Ideal.main_v31_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_v2) = v1 c
          ∧ r.2.mem ((c.tc : Thread Cert.Reference2Ideal.nD Cert.Reference2Ideal.τ).loc Cert.Reference2Ideal.main_v97) = v2 c
          ∧ r.2.mem ((c.tc : Thread Cert.Reference2Ideal.nD Cert.Reference2Ideal.τ).loc Cert.Reference2Ideal.main_v98) = v3 c
          ∧ r.2.mem ((c.tc : Thread Cert.Reference2Ideal.nD Cert.Reference2Ideal.τ).loc Cert.Reference2Ideal.main_v103) = v4 c
          ∧ r.2.mem ((c.tc : Thread Cert.Reference2Ideal.nD Cert.Reference2Ideal.τ).loc Cert.Reference2Ideal.main_v104) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v44_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44_1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S4x1024x4096 : Shape := ⟨3, ![4, 1024, 4096]⟩
abbrev S4x4x256x64 : Shape := ⟨4, ![4, 4, 256, 64]⟩
abbrev S4x4x64x256 : Shape := ⟨4, ![4, 4, 64, 256]⟩
abbrev S4x4096x128 : Shape := ⟨3, ![4, 4096, 128]⟩
abbrev S_ : Shape := ⟨0, ![]⟩

class Facts : Prop where
  bcast_S_S4x1024x4096 : S_.BroadcastsInDim S4x1024x4096 (![] : Fin 0 → Fin S4x1024x4096.rank)
  bcast_S_S4x4x256x64 : S_.BroadcastsInDim S4x4x256x64 (![] : Fin 0 → Fin S4x4x256x64.rank)

variable [Facts]

def fn {F : FTy → Type} [FloatOps F] (main_arg0 : FVec F S4x1024x4096 .bf16) (main_arg1 : FVec F S4x1024x4096 .bf16) (main_arg2 : FVec F S4x4x256x64 .bf16) (main_arg3 : FVec F S4x4x64x256 .bf16) (main_arg4 : FVec F S4x4096x128 .f32) : IVec S4x1024x4096 1 × IVec S4x1024x4096 1 × IVec S4x4x256x64 1 :=
  let main_v0 : IVec S4x1024x4096 32 := iotaInDim S4x1024x4096 32 1
  let main_c : IVec S_ 32 := constantI S_ 32 256#32
  let main_v1 : IVec S4x1024x4096 32 := broadcastInDim S4x1024x4096 ![] bcast_S_S4x1024x4096 main_c
  let main_v2 : IVec S4x1024x4096 32 := andi main_v0 main_v1
  let main_c_0 : IVec S_ 32 := constantI S_ 32 0#32
  let main_v3 : IVec S4x1024x4096 32 := broadcastInDim S4x1024x4096 ![] bcast_S_S4x1024x4096 main_c_0
  let main_v4 : IVec S4x1024x4096 1 := cmpi .ne main_v2 main_v3
  let main_v5 : FVec F S4x1024x4096 .bf16 := Host.absf main_arg0
  let main_cst : FVec F S_ .bf16 := constant S_ .bf16 0x7F80#16
  let main_v6 : FVec F S4x1024x4096 .bf16 := broadcastInDim S4x1024x4096 ![] bcast_S_S4x1024x4096 main_cst
  let main_v7 : IVec S4x1024x4096 1 := cmpf .olt main_v5 main_v6
  let main_v8 : FVec F S4x1024x4096 .bf16 := Host.absf main_arg1
  let main_cst_1 : FVec F S_ .bf16 := constant S_ .bf16 0x7F80#16
  let main_v9 : FVec F S4x1024x4096 .bf16 := broadcastInDim S4x1024x4096 ![] bcast_S_S4x1024x4096 main_cst_1
  let main_v10 : IVec S4x1024x4096 1 := cmpf .olt main_v8 main_v9
  let main_v11 : IVec S4x1024x4096 1 := ori main_v4 main_v10
  let main_v12 : FVec F S4x4x256x64 .bf16 := Host.absf main_arg2
  let main_cst_2 : FVec F S_ .bf16 := constant S_ .bf16 0x7F80#16
  let main_v13 : FVec F S4x4x256x64 .bf16 := broadcastInDim S4x4x256x64 ![] bcast_S_S4x4x256x64 main_cst_2
  let main_v14 : IVec S4x4x256x64 1 := cmpf .olt main_v12 main_v13
  (main_v7, main_v11, main_v14)
-- ==== Kernel.lean ====
abbrev S4x1024x4096 : Shape := ⟨3, ![4, 1024, 4096]⟩
abbrev S4x4x256x64 : Shape := ⟨4, ![4, 4, 256, 64]⟩
abbrev S4x4x64x256 : Shape := ⟨4, ![4, 4, 64, 256]⟩
abbrev S4x4096x128 : Shape := ⟨3, ![4, 4096, 128]⟩
abbrev S256 : Shape := ⟨1, ![256]⟩
abbrev S_ : Shape := ⟨0, ![]⟩
abbrev S64 : Shape := ⟨1, ![64]⟩
abbrev S1x256 : Shape := ⟨2, ![1, 256]⟩
abbrev S64x1 : Shape := ⟨2, ![64, 1]⟩
abbrev S64x256 : Shape := ⟨2, ![64, 256]⟩
abbrev S1x64x1x256 : Shape := ⟨4, ![1, 64, 1, 256]⟩
abbrev S1x64x4x256 : Shape := ⟨4, ![1, 64, 4, 256]⟩
abbrev S64x1024 : Shape := ⟨2, ![64, 1024]⟩
abbrev S1x256x128 : Shape := ⟨3, ![1, 256, 128]⟩
abbrev S1x64x4096 : Shape := ⟨3, ![1, 64, 4096]⟩
abbrev S1x1x256x64 : Shape := ⟨4, ![1, 1, 256, 64]⟩
abbrev S1x1x64x256 : Shape := ⟨4, ![1, 1, 64, 256]⟩
abbrev S1x128x128 : Shape := ⟨3, ![1, 128, 128]⟩
abbrev S4096x64 : Shape := ⟨2, ![4096, 64]⟩
abbrev S64x128 : Shape := ⟨2, ![64, 128]⟩
abbrev S128x128 : Shape := ⟨2, ![128, 128]⟩
abbrev S64x4096 : Shape := ⟨2, ![64, 4096]⟩
abbrev S256x128 : Shape := ⟨2, ![256, 128]⟩
abbrev S64x512 : Shape := ⟨2, ![64, 512]⟩
abbrev S1x512 : Shape := ⟨2, ![1, 512]⟩
abbrev S1x128 : Shape := ⟨2, ![1, 128]⟩
abbrev S256x64 : Shape := ⟨2, ![256, 64]⟩
abbrev S256x512 : Shape := ⟨2, ![256, 512]⟩
abbrev S256x1 : Shape := ⟨2, ![256, 1]⟩
abbrev S512 : Shape := ⟨1, ![512]⟩
abbrev S1024x128 : Shape := ⟨2, ![1024, 128]⟩
abbrev S128x1 : Shape := ⟨2, ![128, 1]⟩
abbrev S128x64 : Shape := ⟨2, ![128, 64]⟩
abbrev S128x512 : Shape := ⟨2, ![128, 512]⟩
abbrev S1x64x128 : Shape := ⟨3, ![1, 64, 128]⟩

abbrev nBuf : Space → Nat
  | .hbm => 43
  | .vmem => 23
  | .smem => 0
  | _ => 0

abbrev bufTy : (tb : Table) → Fin (tcTables nBuf tb) → BufTy
  | .hbm, ⟨0, _⟩ => ⟨S4x1024x4096, .bf16⟩
  | .hbm, ⟨1, _⟩ => ⟨S4x1024x4096, .bf16⟩
  | .hbm, ⟨2, _⟩ => ⟨S4x4x256x64, .bf16⟩
  | .hbm, ⟨3, _⟩ => ⟨S4x4x64x256, .bf16⟩
  | .hbm, ⟨4, _⟩ => ⟨S4x4096x128, .f32⟩
  | .hbm, ⟨5, _⟩ => ⟨S256, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S1x256, .i32⟩
  | .hbm, ⟨14, _⟩ => ⟨S64x1, .i32⟩
  | .hbm, ⟨15, _⟩ => ⟨S_, .i32⟩
  | .hbm, ⟨16, _⟩ => ⟨S64x1, .i32⟩
  | .hbm, ⟨17, _⟩ => ⟨S64x1, .i32⟩
  | .hbm, ⟨18, _⟩ => ⟨S64x256, .i32⟩
  | .hbm, ⟨19, _⟩ => ⟨S64x256, .i32⟩
  | .hbm, ⟨20, _⟩ => ⟨S64x256, .i1⟩
  | .hbm, ⟨21, _⟩ => ⟨S1x256, .i32⟩
  | .hbm, ⟨22, _⟩ => ⟨S_, .i32⟩
  | .hbm, ⟨23, _⟩ => ⟨S1x256, .i32⟩
  | .hbm, ⟨24, _⟩ => ⟨S1x256, .i32⟩
  | .hbm, ⟨25, _⟩ => ⟨S64x1, .i32⟩
  | .hbm, ⟨26, _⟩ => ⟨S64x256, .i32⟩
  | .hbm, ⟨27, _⟩ => ⟨S64x256, .i32⟩
  | .hbm, ⟨28, _⟩ => ⟨S64x256, .i1⟩
  | .hbm, ⟨29, _⟩ => ⟨S64x256, .i1⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S1x256, .i1⟩
  | .hbm, ⟨35, _⟩ => ⟨S64x256, .i1⟩
  | .hbm, ⟨36, _⟩ => ⟨S64x256, .i1⟩
  | .hbm, ⟨37, _⟩ => ⟨S64x256, .f32⟩
  | .hbm, ⟨38, _⟩ => ⟨S1x64x1x256, .f32⟩
  | .hbm, ⟨39, _⟩ => ⟨S1x64x4x256, .f32⟩
  | .hbm, ⟨40, _⟩ => ⟨S64x1024, .f32⟩
  | .hbm, ⟨41, _⟩ => ⟨S64x1024, .bf16⟩
  | .hbm, ⟨42, _⟩ => ⟨S4x1024x4096, .f32⟩
  | .local _ .vmem, ⟨0, _⟩ => ⟨S1x256x128, .bf16⟩
  | .local _ .vmem, ⟨1, _⟩ => ⟨S1x256x128, .bf16⟩
  | .local _ .vmem, ⟨2, _⟩ => ⟨S1x64x4096, .bf16⟩
  | .local _ .vmem, ⟨3, _⟩ => ⟨S1x64x4096, .bf16⟩
  | .local _ .vmem, ⟨4, _⟩ => ⟨S1x64x4096, .bf16⟩
  | .local _ .vmem, ⟨5, _⟩ => ⟨S1x64x4096, .bf16⟩
  | .local _ .vmem, ⟨6, _⟩ => ⟨S1x64x4096, .bf16⟩
  | .local _ .vmem, ⟨7, _⟩ => ⟨S1x64x4096, .bf16⟩
  | .local _ .vmem, ⟨8, _⟩ => ⟨S1x64x4096, .bf16⟩
  | .local _ .vmem, ⟨9, _⟩ => ⟨S1x64x4096, .bf16⟩
  | .local _ .vmem, ⟨10, _⟩ => ⟨S1x1x256x64, .bf16⟩
  | .local _ .vmem, ⟨11, _⟩ => ⟨S1x1x256x64, .bf16⟩
  | .local _ .vmem, ⟨12, _⟩ => ⟨S1x1x64x256, .bf16⟩
  | .local _ .vmem, ⟨13, _⟩ => ⟨S1x1x64x256, .bf16⟩
  | .local _ .vmem, ⟨14, _⟩ => ⟨S1x128x128, .f32⟩
  | .local _ .vmem, ⟨15, _⟩ => ⟨S1x128x128, .f32⟩
  | .local _ .vmem, ⟨16, _⟩ => ⟨S64x1024, .bf16⟩
  | .local _ .vmem, ⟨17, _⟩ => ⟨S1x256x128, .f32⟩
  | .local _ .vmem, ⟨18, _⟩ => ⟨S1x256x128, .f32⟩
  | .local _ .vmem, ⟨19, _⟩ => ⟨S4096x64, .bf16⟩
  | .local _ .vmem, ⟨20, _⟩ => ⟨S4096x64, .bf16⟩
  | .local _ .vmem, ⟨21, _⟩ => ⟨S64x128, .f32⟩
  | .local _ .vmem, ⟨22, _⟩ => ⟨S128x128, .f32⟩
  | _, _ => ⟨S4x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 4, 32], ![false, false, false]⟩

@[reducible] def k0_t1_loop (i : grid0.Coords) : Scf.Loop 32 :=
  let c0_i32_299 : BitVec 32 := 0#32
  let arg2 : BitVec 32 := BitVec.ofNat 32 (i 2).val
  let c1_i32_298 : BitVec 32 := 1#32
  let v1188 : BitVec 32 := Scalar.addi arg2 c1_i32_298
  let v1189 : BitVec 32 := Scalar.subi v1188 c0_i32_299
  let c1_i32_300 : BitVec 32 := 1#32
  let v1191 : BitVec 32 := Scalar.divsi v1189 c1_i32_300
  let v1192 : BitVec 32 := Scalar.muli v1191 c1_i32_300
  let v1193 : BitVec 32 := Scalar.addi c0_i32_299 v1192
  let c1_i32_301 : BitVec 32 := 1#32
  ⟨c0_i32_299, v1193, c1_i32_301⟩
def k0_mult1 (i : grid0.Coords) (k0_t1 : Fin (k0_t1_loop i).trips) : BitVec 32 :=
  let c0_i32_299 : BitVec 32 := 0#32
  let c1_i32_301 : BitVec 32 := 1#32
  let arg17 : BitVec 32 := Scf.iv c0_i32_299 c1_i32_301 k0_t1
  let c128_i32_390 : BitVec 32 := 128#32
  let v1321 : BitVec 32 := Scalar.muli arg17 c128_i32_390
  v1321
def k0_off1 (i : grid0.Coords) (k0_t1 : Fin (k0_t1_loop i).trips) : Fin 2 → Nat :=
  let c0_i32_299 : BitVec 32 := 0#32
  let c1_i32_301 : BitVec 32 := 1#32
  let arg17 : BitVec 32 := Scf.iv c0_i32_299 c1_i32_301 k0_t1
  let c128_i32_390 : BitVec 32 := 128#32
  let v1321 : BitVec 32 := Scalar.muli arg17 c128_i32_390
  let v1322 : BitVec 32 := v1321
  let v1323 : Index := Scalar.indexCast v1322
  let c0_391 : Index := 0#32
  ![v1323.toNat, 0]
def k0_off2 (i : grid0.Coords) (k0_t1 : Fin (k0_t1_loop i).trips) (c0_i32_395 : BitVec 32) : Fin 2 → Nat :=
  let c2_i32_394 : BitVec 32 := 2#32
  let c0_i32_299 : BitVec 32 := 0#32
  let c1_i32_301 : BitVec 32 := 1#32
  let arg17 : BitVec 32 := Scf.iv c0_i32_299 c1_i32_301 k0_t1
  let v1332 : BitVec 32 := Scalar.muli c2_i32_394 arg17
  let v1333 : BitVec 32 := Scalar.addi v1332 c0_i32_395
  let v1334 : Index := Scalar.indexCast v1333
  let c0_396 : Index := 0#32
  ![v1334.toNat, 0]
def k0_off3 (i : grid0.Coords) (k0_t1 : Fin (k0_t1_loop i).trips) : Fin 3 → Nat :=
  let c0_404 : Index := 0#32
  let c0_405 : Index := 0#32
  let c0_i32_299 : BitVec 32 := 0#32
  let c1_i32_301 : BitVec 32 := 1#32
  let arg17 : BitVec 32 := Scf.iv c0_i32_299 c1_i32_301 k0_t1
  let c128_i32_390 : BitVec 32 := 128#32
  let v1321 : BitVec 32 := Scalar.muli arg17 c128_i32_390
  let v1322 : BitVec 32 := v1321
  let v1365 : Index := Scalar.indexCast v1322
  ![0, 0, v1365.toNat]
@[reducible] def k0_t2_loop (i : grid0.Coords) : Scf.Loop 32 :=
  let c0_i32_299 : BitVec 32 := 0#32
  let arg2 : BitVec 32 := BitVec.ofNat 32 (i 2).val
  let c1_i32_298 : BitVec 32 := 1#32
  let v1188 : BitVec 32 := Scalar.addi arg2 c1_i32_298
  let v1189 : BitVec 32 := Scalar.subi v1188 c0_i32_299
  let c1_i32_300 : BitVec 32 := 1#32
  let v1191 : BitVec 32 := Scalar.divsi v1189 c1_i32_300
  let v1192 : BitVec 32 := Scalar.muli v1191 c1_i32_300
  let v1193 : BitVec 32 := Scalar.addi c0_i32_299 v1192
  let v1190 : BitVec 32 := Scalar.addi c0_i32_299 v1189
  let c1_i32_302 : BitVec 32 := 1#32
  ⟨v1193, v1190, c1_i32_302⟩
def k0_mult2 (i : grid0.Coords) (k0_t2 : Fin (k0_t2_loop i).trips) : BitVec 32 :=
  let c0_i32_299 : BitVec 32 := 0#32
  let arg2 : BitVec 32 := BitVec.ofNat 32 (i 2).val
  let c1_i32_298 : BitVec 32 := 1#32
  let v1188 : BitVec 32 := Scalar.addi arg2 c1_i32_298
  let v1189 : BitVec 32 := Scalar.subi v1188 c0_i32_299
  let c1_i32_300 : BitVec 32 := 1#32
  let v1191 : BitVec 32 := Scalar.divsi v1189 c1_i32_300
  let v1192 : BitVec 32 := Scalar.muli v1191 c1_i32_300
  let v1193 : BitVec 32 := Scalar.addi c0_i32_299 v1192
  let c1_i32_302 : BitVec 32 := 1#32
  let arg17 : BitVec 32 := Scf.iv v1193 c1_i32_302 k0_t2
  let c128_i32_390 : BitVec 32 := 128#32
  let v1321 : BitVec 32 := Scalar.muli arg17 c128_i32_390
  v1321
def k0_off4 (i : grid0.Coords) (k0_t2 : Fin (k0_t2_loop i).trips) : Fin 2 → Nat :=
  let c0_i32_299 : BitVec 32 := 0#32
  let arg2 : BitVec 32 := BitVec.ofNat 32 (i 2).val
  let c1_i32_298 : BitVec 32 := 1#32
  let v1188 : BitVec 32 := Scalar.addi arg2 c1_i32_298
  let v1189 : BitVec 32 := Scalar.subi v1188 c0_i32_299
  let c1_i32_300 : BitVec 32 := 1#32
  let v1191 : BitVec 32 := Scalar.divsi v1189 c1_i32_300
  let v1192 : BitVec 32 := Scalar.muli v1191 c1_i32_300
  let v1193 : BitVec 32 := Scalar.addi c0_i32_299 v1192
  let c1_i32_302 : BitVec 32 := 1#32
  let arg17 : BitVec 32 := Scf.iv v1193 c1_i32_302 k0_t2
  let c128_i32_390 : BitVec 32 := 128#32
  let v1321 : BitVec 32 := Scalar.muli arg17 c128_i32_390
  let v1322 : BitVec 32 := v1321
  let v1323 : Index := Scalar.indexCast v1322
  let c0_391 : Index := 0#32
  ![v1323.toNat, 0]
def k0_off5 (i : grid0.Coords) (k0_t2 : Fin (k0_t2_loop i).trips) (c0_i32_395 : BitVec 32) : Fin 2 → Nat :=
  let c2_i32_394 : BitVec 32 := 2#32
  let c0_i32_299 : BitVec 32 := 0#32
  let arg2 : BitVec 32 := BitVec.ofNat 32 (i 2).val
  let c1_i32_298 : BitVec 32 := 1#32
  let v1188 : BitVec 32 := Scalar.addi arg2 c1_i32_298
  let v1189 : BitVec 32 := Scalar.subi v1188 c0_i32_299
  let c1_i32_300 : BitVec 32 := 1#32
  let v1191 : BitVec 32 := Scalar.divsi v1189 c1_i32_300
  let v1192 : BitVec 32 := Scalar.muli v1191 c1_i32_300
  let v1193 : BitVec 32 := Scalar.addi c0_i32_299 v1192
  let c1_i32_302 : BitVec 32 := 1#32
  let arg17 : BitVec 32 := Scf.iv v1193 c1_i32_302 k0_t2
  let v1332 : BitVec 32 := Scalar.muli c2_i32_394 arg17
  let v1333 : BitVec 32 := Scalar.addi v1332 c0_i32_395
  let v1334 : Index := Scalar.indexCast v1333
  let c0_396 : Index := 0#32
  ![v1334.toNat, 0]
def k0_off6 (i : grid0.Coords) (k0_t2 : Fin (k0_t2_loop i).trips) : Fin 3 → Nat :=
  let c0_404 : Index := 0#32
  let c0_405 : Index := 0#32
  let c0_i32_299 : BitVec 32 := 0#32
  let arg2 : BitVec 32 := BitVec.ofNat 32 (i 2).val
  let c1_i32_298 : BitVec 32 := 1#32
  let v1188 : BitVec 32 := Scalar.addi arg2 c1_i32_298
  let v1189 : BitVec 32 := Scalar.subi v1188 c0_i32_299
  let c1_i32_300 : BitVec 32 := 1#32
  let v1191 : BitVec 32 := Scalar.divsi v1189 c1_i32_300
  let v1192 : BitVec 32 := Scalar.muli v1191 c1_i32_300
  let v1193 : BitVec 32 := Scalar.addi c0_i32_299 v1192
  let c1_i32_302 : BitVec 32 := 1#32
  let arg17 : BitVec 32 := Scf.iv v1193 c1_i32_302 k0_t2
  let c128_i32_390 : BitVec 32 := 128#32
  let v1321 : BitVec 32 := Scalar.muli arg17 c128_i32_390
  let v1322 : BitVec 32 := v1321
  let v1365 : Index := Scalar.indexCast v1322
  ![0, 0, v1365.toNat]
@[reducible] def k0_t3_loop (i : grid0.Coords) : Scf.Loop 32 :=
  let arg2 : BitVec 32 := BitVec.ofNat 32 (i 2).val
  let c4_i32_303 : BitVec 32 := 4#32
  let v1198 : BitVec 32 := Scalar.subi arg2 c4_i32_303
  let c0_i32_304 : BitVec 32 := 0#32
  let v1199 : BitVec 32 := Scalar.maxsi v1198 c0_i32_304
  let c1_i32_305 : BitVec 32 := 1#32
  let v1200 : BitVec 32 := Scalar.addi arg2 c1_i32_305
  let v1201 : BitVec 32 := Scalar.subi v1200 v1199
  let c1_i32_306 : BitVec 32 := 1#32
  let v1203 : BitVec 32 := Scalar.divsi v1201 c1_i32_306
  let v1204 : BitVec 32 := Scalar.muli v1203 c1_i32_306
  let v1205 : BitVec 32 := Scalar.addi v1199 v1204
  let c1_i32_307 : BitVec 32 := 1#32
  ⟨v1199, v1205, c1_i32_307⟩
def k0_mult3 (i : grid0.Coords) (k0_t3 : Fin (k0_t3_loop i).trips) : BitVec 32 :=
  let arg2 : BitVec 32 := BitVec.ofNat 32 (i 2).val
  let c4_i32_303 : BitVec 32 := 4#32
  let v1198 : BitVec 32 := Scalar.subi arg2 c4_i32_303
  let c0_i32_304 : BitVec 32 := 0#32
  let v1199 : BitVec 32 := Scalar.maxsi v1198 c0_i32_304
  let c1_i32_307 : BitVec 32 := 1#32
  let arg17 : BitVec 32 := Scf.iv v1199 c1_i32_307 k0_t3
  let c128_i32_390 : BitVec 32 := 128#32
  let v1321 : BitVec 32 := Scalar.muli arg17 c128_i32_390
  v1321
def k0_off7 (i : grid0.Coords) (k0_t3 : Fin (k0_t3_loop i).trips) : Fin 2 → Nat :=
  let arg2 : BitVec 32 := BitVec.ofNat 32 (i 2).val
  let c4_i32_303 : BitVec 32 := 4#32
  let v1198 : BitVec 32 := Scalar.subi arg2 c4_i32_303
  let c0_i32_304 : BitVec 32 := 0#32
  let v1199 : BitVec 32 := Scalar.maxsi v1198 c0_i32_304
  let c1_i32_307 : BitVec 32 := 1#32
  let arg17 : BitVec 32 := Scf.iv v1199 c1_i32_307 k0_t3
  let c128_i32_390 : BitVec 32 := 128#32
  let v1321 : BitVec 32 := Scalar.muli arg17 c128_i32_390
  let v1322 : BitVec 32 := v1321
  let v1323 : Index := Scalar.indexCast v1322
  let c0_391 : Index := 0#32
  ![v1323.toNat, 0]
def k0_off8 (i : grid0.Coords) (k0_t3 : Fin (k0_t3_loop i).trips) : Fin 3 → Nat :=
  let c0_397 : Index := 0#32
  let c0_398 : Index := 0#32
  let arg2 : BitVec 32 := BitVec.ofNat 32 (i 2).val
  let c4_i32_303 : BitVec 32 := 4#32
  let v1198 : BitVec 32 := Scalar.subi arg2 c4_i32_303
  let c0_i32_304 : BitVec 32 := 0#32
  let v1199 : BitVec 32 := Scalar.maxsi v1198 c0_i32_304
  let c1_i32_307 : BitVec 32 := 1#32
  let arg17 : BitVec 32 := Scf.iv v1199 c1_i32_307 k0_t3
  let c128_i32_390 : BitVec 32 := 128#32
  let v1321 : BitVec 32 := Scalar.muli arg17 c128_i32_390
  let v1322 : BitVec 32 := v1321
  let v1354 : Index := Scalar.indexCast v1322
  ![0, 0, v1354.toNat]
@[reducible] def k0_t4_loop (i : grid0.Coords) : Scf.Loop 32 :=
  let arg2 : BitVec 32 := BitVec.ofNat 32 (i 2).val
  let c4_i32_303 : BitVec 32 := 4#32
  let v1198 : BitVec 32 := Scalar.subi arg2 c4_i32_303
  let c0_i32_304 : BitVec 32 := 0#32
  let v1199 : BitVec 32 := Scalar.maxsi v1198 c0_i32_304
  let c1_i32_305 : BitVec 32 := 1#32
  let v1200 : BitVec 32 := Scalar.addi arg2 c1_i32_305
  let v1201 : BitVec 32 := Scalar.subi v1200 v1199
  let c1_i32_306 : BitVec 32 := 1#32
  let v1203 : BitVec 32 := Scalar.divsi v1201 c1_i32_306
  let v1204 : BitVec 32 := Scalar.muli v1203 c1_i32_306
  let v1205 : BitVec 32 := Scalar.addi v1199 v1204
  let v1202 : BitVec 32 := Scalar.addi v1199 v1201
  let c1_i32_308 : BitVec 32 := 1#32
  ⟨v1205, v1202, c1_i32_308⟩
def k0_mult4 (i : grid0.Coords) (k0_t4 : Fin (k0_t4_loop i).trips) : BitVec 32 :=
  let arg2 : BitVec 32 := BitVec.ofNat 32 (i 2).val
  let c4_i32_303 : BitVec 32 := 4#32
  let v1198 : BitVec 32 := Scalar.subi arg2 c4_i32_303
  let c0_i32_304 : BitVec 32 := 0#32
  let v1199 : BitVec 32 := Scalar.maxsi v1198 c0_i32_304
  let c1_i32_305 : BitVec 32 := 1#32
  let v1200 : BitVec 32 := Scalar.addi arg2 c1_i32_305
  let v1201 : BitVec 32 := Scalar.subi v1200 v1199
  let c1_i32_306 : BitVec 32 := 1#32
  let v1203 : BitVec 32 := Scalar.divsi v1201 c1_i32_306
  let v1204 : BitVec 32 := Scalar.muli v1203 c1_i32_306
  let v1205 : BitVec 32 := Scalar.addi v1199 v1204
  let c1_i32_308 : BitVec 32 := 1#32
  let arg17 : BitVec 32 := Scf.iv v1205 c1_i32_308 k0_t4
  let c128_i32_390 : BitVec 32 := 128#32
  let v1321 : BitVec 32 := Scalar.muli arg17 c128_i32_390
  v1321
def k0_off9 (i : grid0.Coords) (k0_t4 : Fin (k0_t4_loop i).trips) : Fin 2 → Nat :=
  let arg2 : BitVec 32 := BitVec.ofNat 32 (i 2).val
  let c4_i32_303 : BitVec 32 := 4#32
  let v1198 : BitVec 32 := Scalar.subi arg2 c4_i32_303
  let c0_i32_304 : BitVec 32 := 0#32
  let v1199 : BitVec 32 := Scalar.maxsi v1198 c0_i32_304
  let c1_i32_305 : BitVec 32 := 1#32
  let v1200 : BitVec 32 := Scalar.addi arg2 c1_i32_305
  let v1201 : BitVec 32 := Scalar.subi v1200 v1199
  let c1_i32_306 : BitVec 32 := 1#32
  let v1203 : BitVec 32 := Scalar.divsi v1201 c1_i32_306
  let v1204 : BitVec 32 := Scalar.muli v1203 c1_i32_306
  let v1205 : BitVec 32 := Scalar.addi v1199 v1204
  let c1_i32_308 : BitVec 32 := 1#32
  let arg17 : BitVec 32 := Scf.iv v1205 c1_i32_308 k0_t4
  let c128_i32_390 : BitVec 32 := 128#32
  let v1321 : BitVec 32 := Scalar.muli arg17 c128_i32_390
  let v1322 : BitVec 32 := v1321
  let v1323 : Index := Scalar.indexCast v1322
  let c0_391 : Index := 0#32
  ![v1323.toNat, 0]
def k0_off10 (i : grid0.Coords) (k0_t4 : Fin (k0_t4_loop i).trips) : Fin 3 → Nat :=
  let c0_397 : Index := 0#32
  let c0_398 : Index := 0#32
  let arg2 : BitVec 32 := BitVec.ofNat 32 (i 2).val
  let c4_i32_303 : BitVec 32 := 4#32
  let v1198 : BitVec 32 := Scalar.subi arg2 c4_i32_303
  let c0_i32_304 : BitVec 32 := 0#32
  let v1199 : BitVec 32 := Scalar.maxsi v1198 c0_i32_304
  let c1_i32_305 : BitVec 32 := 1#32
  let v1200 : BitVec 32 := Scalar.addi arg2 c1_i32_305
  let v1201 : BitVec 32 := Scalar.subi v1200 v1199
  let c1_i32_306 : BitVec 32 := 1#32
  let v1203 : BitVec 32 := Scalar.divsi v1201 c1_i32_306
  let v1204 : BitVec 32 := Scalar.muli v1203 c1_i32_306
  let v1205 : BitVec 32 := Scalar.addi v1199 v1204
  let c1_i32_308 : BitVec 32 := 1#32
  let arg17 : BitVec 32 := Scf.iv v1205 c1_i32_308 k0_t4
  let c128_i32_390 : BitVec 32 := 128#32
  let v1321 : BitVec 32 := Scalar.muli arg17 c128_i32_390
  let v1322 : BitVec 32 := v1321
  let v1354 : Index := Scalar.indexCast v1322
  ![0, 0, v1354.toNat]
def k0_off11 (i : grid0.Coords) (c0_i32_310 : BitVec 32) (c0_i32_313 : BitVec 32) : Fin 2 → Nat :=
  let c16_i32_312 : BitVec 32 := 16#32
  let arg1 : BitVec 32 := BitVec.ofNat 32 (i 1).val
  let c4_i32_309 : BitVec 32 := 4#32
  let v1210 : BitVec 32 := Scalar.muli arg1 c4_i32_309
  let v1211 : BitVec 32 := Scalar.addi v1210 c0_i32_310
  let c3_i32_311 : BitVec 32 := 3#32
  let v1212 : BitVec 32 := Scalar.muli v1211 c3_i32_311
  let v1213 : BitVec 32 := Scalar.addi c16_i32_312 v1212
  let v1214 : BitVec 32 := Scalar.addi v1213 c0_i32_313
  let v1215 : Index := Scalar.indexCast v1214
  let c0_314 : Index := 0#32
  ![v1215.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, v0.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 1 → Memref sig .tc .vmem S64x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x1024x4096 : Shape := ⟨3, ![4, 1024, 4096]⟩
abbrev S4x4x256x64 : Shape := ⟨4, ![4, 4, 256, 64]⟩
abbrev S4x4x64x256 : Shape := ⟨4, ![4, 4, 64, 256]⟩
abbrev S4x4096x128 : Shape := ⟨3, ![4, 4096, 128]⟩
abbrev S4x4x4x64x4096 : Shape := ⟨5, ![4, 4, 4, 64, 4096]⟩
abbrev S4x4096x4x4x64 : Shape := ⟨5, ![4, 4096, 4, 4, 64]⟩
abbrev S4x4x4096x4x64 : Shape := ⟨5, ![4, 4, 4096, 4, 64]⟩
abbrev S1x4x4096x4x64 : Shape := ⟨5, ![1, 4, 4096, 4, 64]⟩
abbrev S4x4096x4x64 : Shape := ⟨4, ![4, 4096, 4, 64]⟩
abbrev S4x4x255x64 : Shape := ⟨4, ![4, 4, 255, 64]⟩
abbrev S4x255x4x64 : Shape := ⟨4, ![4, 255, 4, 64]⟩
abbrev S4x4x64x255 : Shape := ⟨4, ![4, 4, 64, 255]⟩
abbrev S4x4096x48 : Shape := ⟨3, ![4, 4096, 48]⟩
abbrev S_ : Shape := ⟨0, ![]⟩
abbrev S4x4096x4x4x3 : Shape := ⟨5, ![4, 4096, 4, 4, 3]⟩
abbrev S4096 : Shape := ⟨1, ![4096]⟩
abbrev S255 : Shape := ⟨1, ![255]⟩
abbrev S4x4x255x4096x4 : Shape := ⟨5, ![4, 4, 255, 4096, 4]⟩
abbrev S4x4x4x4096x255 : Shape := ⟨5, ![4, 4, 4, 4096, 255]⟩
abbrev S1x255 : Shape := ⟨2, ![1, 255]⟩
abbrev S4096x1 : Shape := ⟨2, ![4096, 1]⟩
abbrev S4096x255 : Shape := ⟨2, ![4096, 255]⟩
abbrev S4x4x4x4096 : Shape := ⟨4, ![4, 4, 4, 4096]⟩
abbrev S4x4x4x4096x1 : Shape := ⟨5, ![4, 4, 4, 4096, 1]⟩
abbrev S4x4x64x4x4096 : Shape := ⟨5, ![4, 4, 64, 4, 4096]⟩
abbrev S64 : Shape := ⟨1, ![64]⟩
abbrev S255x1 : Shape := ⟨2, ![255, 1]⟩
abbrev S1x64 : Shape := ⟨2, ![1, 64]⟩
abbrev S255x64 : Shape := ⟨2, ![255, 64]⟩
abbrev S4x4x4096x255 : Shape := ⟨4, ![4, 4, 4096, 255]⟩
abbrev S4x4x4096x64 : Shape := ⟨4, ![4, 4, 4096, 64]⟩
abbrev S4096x64 : Shape := ⟨2, ![4096, 64]⟩
abbrev S4x4x4096x16 : Shape := ⟨4, ![4, 4, 4096, 16]⟩
abbrev S4x64x64x4x64 : Shape := ⟨5, ![4, 64, 64, 4, 64]⟩
abbrev S4x4x64x64x64 : Shape := ⟨5, ![4, 4, 64, 64, 64]⟩
abbrev S4x4x4096x16x1 : Shape := ⟨5, ![4, 4, 4096, 16, 1]⟩
abbrev S4x4x4096x16x64x64 : Shape := ⟨6, ![4, 4, 4096, 16, 64, 64]⟩
abbrev S4x4x4096x16x64x4 : Shape := ⟨6, ![4, 4, 4096, 16, 64, 4]⟩
abbrev S4x4x4x4096x16x64 : Shape := ⟨6, ![4, 4, 4, 4096, 16, 64]⟩
abbrev S1x1x1x1x64 : Shape := ⟨5, ![1, 1, 1, 1, 64]⟩
abbrev S4x4x4096x16x64 : Shape := ⟨5, ![4, 4, 4096, 16, 64]⟩
abbrev S1x1x4096x1x1 : Shape := ⟨5, ![1, 1, 4096, 1, 1]⟩
abbrev S4x4x1x4096x16x64 : Shape := ⟨6, ![4, 4, 1, 4096, 16, 64]⟩
abbrev S4x4x4x4096x1024 : Shape := ⟨5, ![4, 4, 4, 4096, 1024]⟩
abbrev S1x4096 : Shape := ⟨2, ![1, 4096]⟩
abbrev S4096x4096 : Shape := ⟨2, ![4096, 4096]⟩
abbrev S4x4x4096x4096x4 : Shape := ⟨5, ![4, 4, 4096, 4096, 4]⟩
abbrev S4x4x4x4096x4096 : Shape := ⟨5, ![4, 4, 4, 4096, 4096]⟩
abbrev S4x4096x4x4x1 : Shape := ⟨5, ![4, 4096, 4, 4, 1]⟩
abbrev S4x4096x1024 : Shape := ⟨3, ![4, 4096, 1024]⟩

abbrev nBuf : Space → Nat
  | .hbm => 274
  | .vmem => 0
  | .smem => 0
  | _ => 0

abbrev hbmTy0_0 (i : Nat) : BufTy := match i % 128 with
  | 0 => ⟨S4x1024x4096, .bf16⟩
  | 1 => ⟨S4x1024x4096, .bf16⟩
  | 2 => ⟨S4x4x256x64, .bf16⟩
  | 3 => ⟨S4x4x64x256, .bf16⟩
  | 4 => ⟨S4x4096x128, .f32⟩
  | 5 => ⟨S4x1024x4096, .f32⟩
  | 6 => ⟨S4x4x4x64x4096, .f32⟩
  | 7 => ⟨S4x4096x4x4x64, .f32⟩
  | 8 => ⟨S4x1024x4096, .f32⟩
  | 9 => ⟨S4x4x4x64x4096, .f32⟩
  | 10 => ⟨S4x4x4096x4x64, .f32⟩
  | 11 => ⟨S1x4x4096x4x64, .f32⟩
  | 12 => ⟨S4x4096x4x64, .f32⟩
  | 13 => ⟨S1x4x4096x4x64, .f32⟩
  | 14 => ⟨S4x4096x4x64, .f32⟩
  | 15 => ⟨S1x4x4096x4x64, .f32⟩
  | 16 => ⟨S4x4096x4x64, .f32⟩
  | 17 => ⟨S1x4x4096x4x64, .f32⟩
  | 18 => ⟨S4x4096x4x64, .f32⟩
  | 19 => ⟨S4x4x256x64, .f32⟩
  | 20 => ⟨S4x4x255x64, .f32⟩
  | 21 => ⟨S4x255x4x64, .f32⟩
  | 22 => ⟨S4x4x64x256, .f32⟩
  | 23 => ⟨S4x4x64x255, .f32⟩
  | 24 => ⟨S4x255x4x64, .f32⟩
  | 25 => ⟨S4x4096x48, .f32⟩
  | 26 => ⟨S4x4096x48, .f32⟩
  | 27 => ⟨S4x4096x48, .f32⟩
  | 28 => ⟨S_, .f32⟩
  | 29 => ⟨S4x4096x48, .f32⟩
  | 30 => ⟨S4x4096x48, .f32⟩
  | 31 => ⟨S_, .f32⟩
  | 32 => ⟨S4x4096x48, .f32⟩
  | 33 => ⟨S4x4096x48, .f32⟩
  | 34 => ⟨S4x4096x4x4x3, .f32⟩
  | 35 => ⟨S4096, .i32⟩
  | 36 => ⟨S255, .i32⟩
  | 37 => ⟨S_, .i32⟩
  | 38 => ⟨S255, .i32⟩
  | 39 => ⟨S255, .i32⟩
  | 40 => ⟨S_, .i32⟩
  | 41 => ⟨S255, .i32⟩
  | 42 => ⟨S255, .i32⟩
  | 43 => ⟨S4x4x255x4096x4, .f32⟩
  | 44 => ⟨S4x4x4x4096x255, .f32⟩
  | 45 => ⟨S1x255, .i32⟩
  | 46 => ⟨S4096x1, .i32⟩
  | 47 => ⟨S4096x255, .i32⟩
  | 48 => ⟨S4096x255, .i32⟩
  | 49 => ⟨S4096x255, .i1⟩
  | 50 => ⟨S_, .f32⟩
  | 51 => ⟨S_, .f32⟩
  | 52 => ⟨S4x4x4x4096x255, .i1⟩
  | 53 => ⟨S4x4x4x4096x255, .f32⟩
  | 54 => ⟨S4x4x4x4096x255, .f32⟩
  | 55 => ⟨S_, .f32⟩
  | 56 => ⟨S4x4x4x4096, .f32⟩
  | 57 => ⟨S_, .f32⟩
  | 58 => ⟨S4x4x4x4096, .f32⟩
  | 59 => ⟨S4x4x4x4096, .f32⟩
  | 60 => ⟨S4x4x4x4096x1, .f32⟩
  | 61 => ⟨S4x4x4x4096x255, .f32⟩
  | 62 => ⟨S4x4x4x4096x255, .f32⟩
  | 63 => ⟨S4x4x4x4096x255, .f32⟩
  | 64 => ⟨S_, .f32⟩
  | 65 => ⟨S4x4x4x4096, .f32⟩
  | 66 => ⟨S4x4x4x4096x1, .f32⟩
  | 67 => ⟨S4x4x4x4096x255, .f32⟩
  | 68 => ⟨S4x4x4x4096x255, .f32⟩
  | 69 => ⟨S_, .f32⟩
  | 70 => ⟨S_, .f32⟩
  | 71 => ⟨S4x4x4x4096x255, .i1⟩
  | 72 => ⟨S4x4x4x4096x255, .f32⟩
  | 73 => ⟨S4x4x4x4096x255, .f32⟩
  | 74 => ⟨S4x4x64x4x4096, .f32⟩
  | 75 => ⟨S4x4096x4x4x64, .f32⟩
  | 76 => ⟨S64, .i32⟩
  | 77 => ⟨S_, .i32⟩
  | 78 => ⟨S64, .i32⟩
  | 79 => ⟨S64, .i32⟩
  | 80 => ⟨S255x1, .i32⟩
  | 81 => ⟨S1x64, .i32⟩
  | 82 => ⟨S_, .i32⟩
  | 83 => ⟨S1x64, .i32⟩
  | 84 => ⟨S1x64, .i32⟩
  | 85 => ⟨S255x64, .i32⟩
  | 86 => ⟨S255x64, .i32⟩
  | 87 => ⟨S255x64, .i1⟩
  | 88 => ⟨S255x1, .i32⟩
  | 89 => ⟨S_, .i32⟩
  | 90 => ⟨S255x1, .i32⟩
  | 91 => ⟨S255x1, .i32⟩
  | 92 => ⟨S1x64, .i32⟩
  | 93 => ⟨S255x64, .i32⟩
  | 94 => ⟨S255x64, .i32⟩
  | 95 => ⟨S255x64, .i1⟩
  | 96 => ⟨S255x64, .i1⟩
  | 97 => ⟨S255x64, .f32⟩
  | 98 => ⟨S_, .f32⟩
  | 99 => ⟨S4x4x4096x255, .f32⟩
  | 100 => ⟨S4x4x4096x64, .f32⟩
  | 101 => ⟨S_, .i32⟩
  | 102 => ⟨S_, .i32⟩
  | 103 => ⟨S4096, .i32⟩
  | 104 => ⟨S4096, .i32⟩
  | 105 => ⟨S4096, .i32⟩
  | 106 => ⟨S_, .i32⟩
  | 107 => ⟨S4096, .i32⟩
  | 108 => ⟨S4096, .i1⟩
  | 109 => ⟨S4096, .i32⟩
  | 110 => ⟨S4096, .i32⟩
  | 111 => ⟨S_, .i32⟩
  | 112 => ⟨S4096, .i32⟩
  | 113 => ⟨S4096, .i1⟩
  | 114 => ⟨S4096, .i1⟩
  | 115 => ⟨S_, .i32⟩
  | 116 => ⟨S4096, .i32⟩
  | 117 => ⟨S4096, .i32⟩
  | 118 => ⟨S4096, .i32⟩
  | 119 => ⟨S1x64, .i32⟩
  | 120 => ⟨S_, .i32⟩
  | 121 => ⟨S1x64, .i32⟩
  | 122 => ⟨S1x64, .i32⟩
  | 123 => ⟨S4096x1, .i32⟩
  | 124 => ⟨S4096x64, .i32⟩
  | 125 => ⟨S4096x64, .i32⟩
  | 126 => ⟨S4096x64, .i1⟩
  | 127 => ⟨S1x64, .i32⟩
  | _ => ⟨S4x1024x4096, .bf16⟩

abbrev hbmTy0_1 (i : Nat) : BufTy := match i % 128 with
  | 0 => ⟨S_, .i32⟩
  | 1 => ⟨S1x64, .i32⟩
  | 2 => ⟨S1x64, .i1⟩
  | 3 => ⟨S1x64, .i32⟩
  | 4 => ⟨S4096x1, .i32⟩
  | 5 => ⟨S4096x64, .i32⟩
  | 6 => ⟨S4096x64, .i32⟩
  | 7 => ⟨S4096x64, .i1⟩
  | 8 => ⟨S4096x64, .i1⟩
  | 9 => ⟨S4096x64, .i1⟩
  | 10 => ⟨S1x64, .i32⟩
  | 11 => ⟨S4096x1, .i32⟩
  | 12 => ⟨S_, .i32⟩
  | 13 => ⟨S4096x1, .i32⟩
  | 14 => ⟨S4096x1, .i32⟩
  | 15 => ⟨S4096x64, .i32⟩
  | 16 => ⟨S4096x64, .i32⟩
  | 17 => ⟨S4096x64, .i1⟩
  | 18 => ⟨S4096x64, .i1⟩
  | 19 => ⟨S_, .f32⟩
  | 20 => ⟨S_, .f32⟩
  | 21 => ⟨S4x4x4096x64, .i1⟩
  | 22 => ⟨S4x4x4096x64, .f32⟩
  | 23 => ⟨S4x4x4096x64, .f32⟩
  | 24 => ⟨S_, .f32⟩
  | 25 => ⟨S_, .f32⟩
  | 26 => ⟨S4x4x4096x64, .i1⟩
  | 27 => ⟨S4x4x4096x64, .f32⟩
  | 28 => ⟨S4x4x4096x64, .f32⟩
  | 29 => ⟨S4x4x4096x16, .f32⟩
  | 30 => ⟨S4x4x4096x16, .i32⟩
  | 31 => ⟨S_, .f32⟩
  | 32 => ⟨S4x4x4096x16, .f32⟩
  | 33 => ⟨S4x4x4096x16, .i1⟩
  | 34 => ⟨S4x64x64x4x64, .f32⟩
  | 35 => ⟨S4x4x64x64x64, .f32⟩
  | 36 => ⟨S4x64x64x4x64, .f32⟩
  | 37 => ⟨S4x4x64x64x64, .f32⟩
  | 38 => ⟨S_, .i32⟩
  | 39 => ⟨S4x4x4096x16, .i32⟩
  | 40 => ⟨S4x4x4096x16, .i1⟩
  | 41 => ⟨S_, .i32⟩
  | 42 => ⟨S4x4x4096x16, .i32⟩
  | 43 => ⟨S4x4x4096x16, .i32⟩
  | 44 => ⟨S4x4x4096x16, .i32⟩
  | 45 => ⟨S4x4x4096x16x1, .i32⟩
  | 46 => ⟨S4x4x4096x16x64x64, .f32⟩
  | 47 => ⟨S_, .i32⟩
  | 48 => ⟨S4x4x4096x16, .i32⟩
  | 49 => ⟨S4x4x4096x16, .i1⟩
  | 50 => ⟨S_, .i32⟩
  | 51 => ⟨S4x4x4096x16, .i32⟩
  | 52 => ⟨S4x4x4096x16, .i32⟩
  | 53 => ⟨S4x4x4096x16, .i32⟩
  | 54 => ⟨S4x4x4096x16x1, .i32⟩
  | 55 => ⟨S4x4x4096x16x64x64, .f32⟩
  | 56 => ⟨S4x4x4096x16x64x4, .f32⟩
  | 57 => ⟨S4x4x4x4096x16x64, .f32⟩
  | 58 => ⟨S4x4x4096x16x1, .i32⟩
  | 59 => ⟨S_, .i32⟩
  | 60 => ⟨S4x4x4096x16x1, .i32⟩
  | 61 => ⟨S4x4x4096x16x1, .i32⟩
  | 62 => ⟨S64, .i32⟩
  | 63 => ⟨S1x1x1x1x64, .i32⟩
  | 64 => ⟨S4x4x4096x16x64, .i32⟩
  | 65 => ⟨S4x4x4096x16x64, .i32⟩
  | 66 => ⟨S4x4x4096x16x64, .i32⟩
  | 67 => ⟨S4x4x4096x16x1, .i1⟩
  | 68 => ⟨S1x1x4096x1x1, .i32⟩
  | 69 => ⟨S4x4x4096x16x64, .i32⟩
  | 70 => ⟨S4x4x4096x16x64, .i1⟩
  | 71 => ⟨S4x4x4096x16x64, .i1⟩
  | 72 => ⟨S4x4x4096x16x64, .i1⟩
  | 73 => ⟨S4x4x1x4096x16x64, .i1⟩
  | 74 => ⟨S_, .f32⟩
  | 75 => ⟨S_, .f32⟩
  | 76 => ⟨S4x4x4x4096x16x64, .i1⟩
  | 77 => ⟨S4x4x4x4096x16x64, .f32⟩
  | 78 => ⟨S4x4x4x4096x16x64, .f32⟩
  | 79 => ⟨S4x4x4x4096x1024, .f32⟩
  | 80 => ⟨S_, .f32⟩
  | 81 => ⟨S4x4x4x4096, .f32⟩
  | 82 => ⟨S_, .f32⟩
  | 83 => ⟨S4x4x4x4096, .f32⟩
  | 84 => ⟨S4x4x4x4096, .f32⟩
  | 85 => ⟨S4x4x4x4096x1, .f32⟩
  | 86 => ⟨S4x4x4x4096x1024, .f32⟩
  | 87 => ⟨S4x4x4x4096x1024, .f32⟩
  | 88 => ⟨S4x4x4x4096x1024, .f32⟩
  | 89 => ⟨S_, .f32⟩
  | 90 => ⟨S4x4x4x4096, .f32⟩
  | 91 => ⟨S4x4x4x4096x1, .f32⟩
  | 92 => ⟨S4x4x4x4096x1024, .f32⟩
  | 93 => ⟨S4x4x4x4096x1024, .f32⟩
  | 94 => ⟨S4x4x4x4096x16x64, .f32⟩
  | 95 => ⟨S4x4096x4x4x64, .f32⟩
  | 96 => ⟨S1x4096, .i32⟩
  | 97 => ⟨S4096x1, .i32⟩
  | 98 => ⟨S4096x4096, .i32⟩
  | 99 => ⟨S4096x4096, .i32⟩
  | 100 => ⟨S4096x4096, .i1⟩
  | 101 => ⟨S1x4096, .i32⟩
  | 102 => ⟨S4096x1, .i32⟩
  | 103 => ⟨S_, .i32⟩
  | 104 => ⟨S4096x1, .i32⟩
  | 105 => ⟨S4096x1, .i32⟩
  | 106 => ⟨S4096x4096, .i32⟩
  | 107 => ⟨S4096x4096, .i32⟩
  | 108 => ⟨S4096x4096, .i1⟩
  | 109 => ⟨S4096x4096, .i1⟩
  | 110 => ⟨S4x4x4096x4096x4, .f32⟩
  | 111 => ⟨S4x4x4x4096x4096, .f32⟩
  | 112 => ⟨S_, .f32⟩
  | 113 => ⟨S_, .f32⟩
  | 114 => ⟨S4x4x4x4096x4096, .i1⟩
  | 115 => ⟨S4x4x4x4096x4096, .f32⟩
  | 116 => ⟨S4x4x4x4096x4096, .f32⟩
  | 117 => ⟨S_, .f32⟩
  | 118 => ⟨S4x4x4x4096, .f32⟩
  | 119 => ⟨S_, .f32⟩
  | 120 => ⟨S4x4x4x4096, .f32⟩
  | 121 => ⟨S4x4x4x4096, .f32⟩
  | 122 => ⟨S4x4x4x4096x1, .f32⟩
  | 123 => ⟨S4x4x4x4096x4096, .f32⟩
  | 124 => ⟨S4x4x4x4096x4096, .f32⟩
  | 125 => ⟨S4x4x4x4096x4096, .f32⟩
  | 126 => ⟨S_, .f32⟩
  | 127 => ⟨S4x4x4x4096, .f32⟩
  | _ => ⟨S4x1024x4096, .bf16⟩

abbrev hbmTy0_2 (i : Nat) : BufTy := match i % 128 with
  | 0 => ⟨S4x4x4x4096x1, .f32⟩
  | 1 => ⟨S4x4x4x4096x4096, .f32⟩
  | 2 => ⟨S4x4x4x4096x4096, .f32⟩
  | 3 => ⟨S4x4x64x4x4096, .f32⟩
  | 4 => ⟨S4x4096x4x4x64, .f32⟩
  | 5 => ⟨S4x4096x4x4x1, .f32⟩
  | 6 => ⟨S4x4096x4x4x64, .f32⟩
  | 7 => ⟨S4x4096x4x4x64, .f32⟩
  | 8 => ⟨S4x4096x4x4x1, .f32⟩
  | 9 => ⟨S4x4096x4x4x64, .f32⟩
  | 10 => ⟨S4x4096x4x4x64, .f32⟩
  | 11 => ⟨S4x4096x4x4x64, .f32⟩
  | 12 => ⟨S4x4096x4x4x1, .f32⟩
  | 13 => ⟨S4x4096x4x4x64, .f32⟩
  | 14 => ⟨S4x4096x4x4x64, .f32⟩
  | 15 => ⟨S4x4096x4x4x64, .f32⟩
  | 16 => ⟨S4x4096x1024, .f32⟩
  | 17 => ⟨S4x1024x4096, .f32⟩
  | _ => ⟨S4x1024x4096, .bf16⟩

abbrev hbmTy (i : Nat) : BufTy := match i / 128 with
  | 0 => hbmTy0_0 i
  | 1 => hbmTy0_1 i
  | 2 => hbmTy0_2 i
  | _ => ⟨S4x1024x4096, .bf16⟩

abbrev bufTy : (tb : Table) → Fin (tcTables nBuf tb) → BufTy
  | .hbm, ⟨i, _⟩ => hbmTy i
  | _, _ => ⟨S4x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_c_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_7 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_10 : Ref sig .tc := ⟨.hbm, 98, rfl⟩
abbrev main_v75 : Ref sig .tc := ⟨.hbm, 99, rfl⟩
abbrev main_v76 : Ref sig .tc := ⟨.hbm, 100, rfl⟩
abbrev main_c_11 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_c : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_0 : Ref sig .tc := ⟨.hbm, 115, rfl⟩
abbrev main_call2_v12 : Ref sig .tc := ⟨.hbm, 116, rfl⟩
abbrev main_call2_v13 : Ref sig .tc := ⟨.hbm, 117, rfl⟩
abbrev main_v77 : Ref sig .tc := ⟨.hbm, 118, rfl⟩
abbrev main_v78 : Ref sig .tc := ⟨.hbm, 119, rfl⟩
abbrev main_c_12 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_13 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_14 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_15 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_v103 : Ref sig .tc := ⟨.hbm, 151, rfl⟩
abbrev main_cst_16 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v104 : Ref sig .tc := ⟨.hbm, 156, rfl⟩
abbrev main_values : Ref sig .tc := ⟨.hbm, 157, rfl⟩
abbrev main_indices : Ref sig .tc := ⟨.hbm, 158, rfl⟩
abbrev main_cst_17 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_c_18 : Ref sig .tc := ⟨.hbm, 166, rfl⟩
abbrev main_v111 : Ref sig .tc := ⟨.hbm, 167, rfl⟩
abbrev main_v112 : Ref sig .tc := ⟨.hbm, 168, rfl⟩
abbrev main_c_19 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_c_20 : Ref sig .tc := ⟨.hbm, 175, rfl⟩
abbrev main_v118 : Ref sig .tc := ⟨.hbm, 176, rfl⟩
abbrev main_v119 : Ref sig .tc := ⟨.hbm, 177, rfl⟩
abbrev main_c_21 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_c_22 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_23 : Ref sig .tc := ⟨.hbm, 202, rfl⟩
abbrev main_call5_v0 : Ref sig .tc := ⟨.hbm, 203, rfl⟩
abbrev main_call5_v1 : Ref sig .tc := ⟨.hbm, 204, rfl⟩
abbrev main_call5_v2 : Ref sig .tc := ⟨.hbm, 205, rfl⟩
abbrev main_v142 : Ref sig .tc := ⟨.hbm, 206, rfl⟩
abbrev main_v143 : Ref sig .tc := ⟨.hbm, 207, rfl⟩
abbrev main_cst_24 : Ref sig .tc := ⟨.hbm, 208, rfl⟩
abbrev main_v144 : Ref sig .tc := ⟨.hbm, 209, rfl⟩
abbrev main_cst_25 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_cst_26 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_c_27 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_cst_28 : Ref sig .tc := ⟨.hbm, 240, rfl⟩
abbrev main_call6_v0 : Ref sig .tc := ⟨.hbm, 241, rfl⟩
abbrev main_call6_v1 : Ref sig .tc := ⟨.hbm, 242, rfl⟩
abbrev main_call6_v2 : Ref sig .tc := ⟨.hbm, 243, rfl⟩
abbrev main_v172 : Ref sig .tc := ⟨.hbm, 244, rfl⟩
abbrev main_cst_29 : Ref sig .tc := ⟨.hbm, 245, rfl⟩
abbrev main_v173 : Ref sig .tc := ⟨.hbm, 246, rfl⟩
abbrev main_cst_30 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_cst_31 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩

abbrev nD : Nat := 1
abbrev τ : Topo := Topo.v7x

variable {F : FTy → Type} [FloatOps F]

def κ : String → Option EReal := fun
  | "mask" => some ⊥
  | _ => none
-- ==== Kernel2.lean ====
abbrev S4x4096x1024 : Shape := ⟨3, ![4, 4096, 1024]⟩
abbrev S1024x5184 : Shape := ⟨2, ![1024, 5184]⟩
abbrev S1024x16 : Shape := ⟨2, ![1024, 16]⟩
abbrev S1024x48 : Shape := ⟨2, ![1024, 48]⟩
abbrev S_ : Shape := ⟨0, ![]⟩
abbrev S1024x64 : Shape := ⟨2, ![1024, 64]⟩
abbrev S1024x128 : Shape := ⟨2, ![1024, 128]⟩
abbrev S1024x2560 : Shape := ⟨2, ![1024, 2560]⟩
abbrev S1024x512 : Shape := ⟨2, ![1024, 512]⟩
abbrev S1024x3200 : Shape := ⟨2, ![1024, 3200]⟩
abbrev S1024x1024 : Shape := ⟨2, ![1024, 1024]⟩
abbrev S1024x2048 : Shape := ⟨2, ![1024, 2048]⟩
abbrev S2048x1024 : Shape := ⟨2, ![2048, 1024]⟩
abbrev S32 : Shape := ⟨1, ![32]⟩
abbrev S32x1 : Shape := ⟨2, ![32, 1]⟩
abbrev S4096 : Shape := ⟨1, ![4096]⟩
abbrev S1x4096 : Shape := ⟨2, ![1, 4096]⟩
abbrev S32x4096 : Shape := ⟨2, ![32, 4096]⟩
abbrev S4x4096x1536 : Shape := ⟨3, ![4, 4096, 1536]⟩
abbrev S4x4096x128 : Shape := ⟨3, ![4, 4096, 128]⟩
abbrev S4x4096x512 : Shape := ⟨3, ![4, 4096, 512]⟩
abbrev S4x1024x4096 : Shape := ⟨3, ![4, 1024, 4096]⟩
abbrev S1x256x1024 : Shape := ⟨3, ![1, 256, 1024]⟩
abbrev S32x256 : Shape := ⟨2, ![32, 256]⟩
abbrev S1x256x1536 : Shape := ⟨3, ![1, 256, 1536]⟩
abbrev S1x256x128 : Shape := ⟨3, ![1, 256, 128]⟩
abbrev S1x256x512 : Shape := ⟨3, ![1, 256, 512]⟩
abbrev S1x1024x256 : Shape := ⟨3, ![1, 1024, 256]⟩
abbrev S256x1024 : Shape := ⟨2, ![256, 1024]⟩
abbrev S1024x256 : Shape := ⟨2, ![1024, 256]⟩
abbrev S256x256 : Shape := ⟨2, ![256, 256]⟩
abbrev S1x256x256 : Shape := ⟨3, ![1, 256, 256]⟩
abbrev S256x128 : Shape := ⟨2, ![256, 128]⟩

abbrev nBuf : Space → Nat
  | .hbm => 44
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1024x5184, .f32⟩
  | .hbm, ⟨2, _⟩ => ⟨S1024x16, .f32⟩
  | .hbm, ⟨3, _⟩ => ⟨S1024x48, .f32⟩
  | .hbm, ⟨4, _⟩ => ⟨S_, .f32⟩
  | .hbm, ⟨5, _⟩ => ⟨S1024x64, .f32⟩
  | .hbm, ⟨6, _⟩ => ⟨S1024x128, .f32⟩
  | .hbm, ⟨7, _⟩ => ⟨S1024x2560, .f32⟩
  | .hbm, ⟨8, _⟩ => ⟨S1024x512, .f32⟩
  | .hbm, ⟨9, _⟩ => ⟨S1024x3200, .f32⟩
  | .hbm, ⟨10, _⟩ => ⟨S1024x3200, .bf16⟩
  | .hbm, ⟨11, _⟩ => ⟨S1024x1024, .f32⟩
  | .hbm, ⟨12, _⟩ => ⟨S1024x1024, .f32⟩
  | .hbm, ⟨13, _⟩ => ⟨S1024x2048, .f32⟩
  | .hbm, ⟨14, _⟩ => ⟨S2048x1024, .f32⟩
  | .hbm, ⟨15, _⟩ => ⟨S2048x1024, .bf16⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32x1, .f32⟩
  | .hbm, ⟨31, _⟩ => ⟨S4096, .f32⟩
  | .hbm, ⟨32, _⟩ => ⟨S1x4096, .f32⟩
  | .hbm, ⟨33, _⟩ => ⟨S32x4096, .f32⟩
  | .hbm, ⟨34, _⟩ => ⟨S32x4096, .f32⟩
  | .hbm, ⟨35, _⟩ => ⟨S32x4096, .f32⟩
  | .hbm, ⟨36, _⟩ => ⟨S32x4096, .f32⟩
  | .hbm, ⟨37, _⟩ => ⟨S32x4096, .f32⟩
  | .hbm, ⟨38, _⟩ => ⟨S4x4096x1024, .f32⟩
  | .hbm, ⟨39, _⟩ => ⟨S4x4096x1536, .f32⟩
  | .hbm, ⟨40, _⟩ => ⟨S4x4096x128, .f32⟩
  | .hbm, ⟨41, _⟩ => ⟨S4x4096x512, .f32⟩
  | .hbm, ⟨42, _⟩ => ⟨S4x1024x4096, .bf16⟩
  | .hbm, ⟨43, _⟩ => ⟨S4x1024x4096, .bf16⟩
  | .local _ .vmem, ⟨0, _⟩ => ⟨S1x256x1024, .f32⟩
  | .local _ .vmem, ⟨1, _⟩ => ⟨S1x256x1024, .f32⟩
  | .local _ .vmem, ⟨2, _⟩ => ⟨S1024x3200, .bf16⟩
  | .local _ .vmem, ⟨3, _⟩ => ⟨S2048x1024, .bf16⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1536, .f32⟩
  | .local _ .vmem, ⟨11, _⟩ => ⟨S1x256x1536, .f32⟩
  | .local _ .vmem, ⟨12, _⟩ => ⟨S1x256x128, .f32⟩
  | .local _ .vmem, ⟨13, _⟩ => ⟨S1x256x128, .f32⟩
  | .local _ .vmem, ⟨14, _⟩ => ⟨S1x256x512, .f32⟩
  | .local _ .vmem, ⟨15, _⟩ => ⟨S1x256x512, .f32⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev main_v31_2 : Ref sig .tc := ⟨.hbm, 40, rfl⟩
abbrev main_v31_3 : Ref sig .tc := ⟨.hbm, 41, rfl⟩
abbrev main_v31_4 : Ref sig .tc := ⟨.hbm, 42, rfl⟩
abbrev main_v31_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4x4096x1024 : Shape := ⟨3, ![4, 4096, 1024]⟩
abbrev S1024x5184 : Shape := ⟨2, ![1024, 5184]⟩
abbrev S4x4096x5184 : Shape := ⟨3, ![4, 4096, 5184]⟩
abbrev S4x4096x1536 : Shape := ⟨3, ![4, 4096, 1536]⟩
abbrev S4x4096x16 : Shape := ⟨3, ![4, 4096, 16]⟩
abbrev S4x4096x48 : Shape := ⟨3, ![4, 4096, 48]⟩
abbrev S4x4096x256 : Shape := ⟨3, ![4, 4096, 256]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4x4096x16x64 : Shape := ⟨4, ![4, 4096, 16, 64]⟩
abbrev S4x4096x16x32 : Shape := ⟨4, ![4, 4096, 16, 32]⟩
abbrev S4096x1x32 : Shape := ⟨3, ![4096, 1, 32]⟩
abbrev S1x4096x1x32 : Shape := ⟨4, ![1, 4096, 1, 32]⟩
abbrev S4x4096x4x64 : Shape := ⟨4, ![4, 4096, 4, 64]⟩
abbrev S4x4096x4x32 : Shape := ⟨4, ![4, 4096, 4, 32]⟩
abbrev S4x4096x64 : Shape := ⟨3, ![4, 4096, 64]⟩
abbrev S4x4096x128 : Shape := ⟨3, ![4, 4096, 128]⟩
abbrev S4x4096x512 : Shape := ⟨3, ![4, 4096, 512]⟩
abbrev S4x1024x4096 : Shape := ⟨3, ![4, 1024, 4096]⟩

abbrev nBuf : Space → Nat
  | .hbm => 113
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x5184, .f32⟩
  | .hbm, ⟨2, _⟩ => ⟨S4x4096x5184, .f32⟩
  | .hbm, ⟨3, _⟩ => ⟨S4x4096x1024, .f32⟩
  | .hbm, ⟨4, _⟩ => ⟨S4x4096x1536, .f32⟩
  | .hbm, ⟨5, _⟩ => ⟨S4x4096x16, .f32⟩
  | .hbm, ⟨6, _⟩ => ⟨S4x4096x1024, .f32⟩
  | .hbm, ⟨7, _⟩ => ⟨S4x4096x1536, .f32⟩
  | .hbm, ⟨8, _⟩ => ⟨S4x4096x48, .f32⟩
  | .hbm, ⟨9, _⟩ => ⟨S4x4096x256, .f32⟩
  | .hbm, ⟨10, _⟩ => ⟨S4x4096x256, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S4x4096x256, .f32⟩
  | .hbm, ⟨15, _⟩ => ⟨S4096, .i32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S4096, .f32⟩
  | .hbm, ⟨31, _⟩ => ⟨S4096x1, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4x4096x16x64, .f32⟩
  | .hbm, ⟨39, _⟩ => ⟨S4x4096x16x32, .f32⟩
  | .hbm, ⟨40, _⟩ => ⟨S4x4096x16x32, .f32⟩
  | .hbm, ⟨41, _⟩ => ⟨S4096x1x32, .f32⟩
  | .hbm, ⟨42, _⟩ => ⟨S4096x1x32, .f32⟩
  | .hbm, ⟨43, _⟩ => ⟨S1x4096x1x32, .f32⟩
  | .hbm, ⟨44, _⟩ => ⟨S4x4096x16x32, .f32⟩
  | .hbm, ⟨45, _⟩ => ⟨S4x4096x16x32, .f32⟩
  | .hbm, ⟨46, _⟩ => ⟨S1x4096x1x32, .f32⟩
  | .hbm, ⟨47, _⟩ => ⟨S4x4096x16x32, .f32⟩
  | .hbm, ⟨48, _⟩ => ⟨S4x4096x16x32, .f32⟩
  | .hbm, ⟨49, _⟩ => ⟨S4x4096x16x32, .f32⟩
  | .hbm, ⟨50, _⟩ => ⟨S1x4096x1x32, .f32⟩
  | .hbm, ⟨51, _⟩ => ⟨S4x4096x16x32, .f32⟩
  | .hbm, ⟨52, _⟩ => ⟨S4x4096x16x32, .f32⟩
  | .hbm, ⟨53, _⟩ => ⟨S1x4096x1x32, .f32⟩
  | .hbm, ⟨54, _⟩ => ⟨S4x4096x16x32, .f32⟩
  | .hbm, ⟨55, _⟩ => ⟨S4x4096x16x32, .f32⟩
  | .hbm, ⟨56, _⟩ => ⟨S4x4096x16x32, .f32⟩
  | .hbm, ⟨57, _⟩ => ⟨S4x4096x16x64, .f32⟩
  | .hbm, ⟨58, _⟩ => ⟨S_, .f32⟩
  | .hbm, ⟨59, _⟩ => ⟨S4x4096x16x64, .f32⟩
  | .hbm, ⟨60, _⟩ => ⟨S4x4096x16x64, .f32⟩
  | .hbm, ⟨61, _⟩ => ⟨S4x4096x4x64, .f32⟩
  | .hbm, ⟨62, _⟩ => ⟨S4x4096x4x32, .f32⟩
  | .hbm, ⟨63, _⟩ => ⟨S4x4096x4x32, .f32⟩
  | .hbm, ⟨64, _⟩ => ⟨S4096x1x32, .f32⟩
  | .hbm, ⟨65, _⟩ => ⟨S4096x1x32, .f32⟩
  | .hbm, ⟨66, _⟩ => ⟨S1x4096x1x32, .f32⟩
  | .hbm, ⟨67, _⟩ => ⟨S4x4096x4x32, .f32⟩
  | .hbm, ⟨68, _⟩ => ⟨S4x4096x4x32, .f32⟩
  | .hbm, ⟨69, _⟩ => ⟨S1x4096x1x32, .f32⟩
  | .hbm, ⟨70, _⟩ => ⟨S4x4096x4x32, .f32⟩
  | .hbm, ⟨71, _⟩ => ⟨S4x4096x4x32, .f32⟩
  | .hbm, ⟨72, _⟩ => ⟨S4x4096x4x32, .f32⟩
  | .hbm, ⟨73, _⟩ => ⟨S1x4096x1x32, .f32⟩
  | .hbm, ⟨74, _⟩ => ⟨S4x4096x4x32, .f32⟩
  | .hbm, ⟨75, _⟩ => ⟨S4x4096x4x32, .f32⟩
  | .hbm, ⟨76, _⟩ => ⟨S1x4096x1x32, .f32⟩
  | .hbm, ⟨77, _⟩ => ⟨S4x4096x4x32, .f32⟩
  | .hbm, ⟨78, _⟩ => ⟨S4x4096x4x32, .f32⟩
  | .hbm, ⟨79, _⟩ => ⟨S4x4096x4x32, .f32⟩
  | .hbm, ⟨80, _⟩ => ⟨S4x4096x4x64, .f32⟩
  | .hbm, ⟨81, _⟩ => ⟨S4x4096x256, .f32⟩
  | .hbm, ⟨82, _⟩ => ⟨S4x4096x4x64, .f32⟩
  | .hbm, ⟨83, _⟩ => ⟨S4x4096x4x32, .f32⟩
  | .hbm, ⟨84, _⟩ => ⟨S4x4096x4x32, .f32⟩
  | .hbm, ⟨85, _⟩ => ⟨S4096x1x32, .f32⟩
  | .hbm, ⟨86, _⟩ => ⟨S4096x1x32, .f32⟩
  | .hbm, ⟨87, _⟩ => ⟨S1x4096x1x32, .f32⟩
  | .hbm, ⟨88, _⟩ => ⟨S4x4096x4x32, .f32⟩
  | .hbm, ⟨89, _⟩ => ⟨S4x4096x4x32, .f32⟩
  | .hbm, ⟨90, _⟩ => ⟨S1x4096x1x32, .f32⟩
  | .hbm, ⟨91, _⟩ => ⟨S4x4096x4x32, .f32⟩
  | .hbm, ⟨92, _⟩ => ⟨S4x4096x4x32, .f32⟩
  | .hbm, ⟨93, _⟩ => ⟨S4x4096x4x32, .f32⟩
  | .hbm, ⟨94, _⟩ => ⟨S1x4096x1x32, .f32⟩
  | .hbm, ⟨95, _⟩ => ⟨S4x4096x4x32, .f32⟩
  | .hbm, ⟨96, _⟩ => ⟨S4x4096x4x32, .f32⟩
  | .hbm, ⟨97, _⟩ => ⟨S1x4096x1x32, .f32⟩
  | .hbm, ⟨98, _⟩ => ⟨S4x4096x4x32, .f32⟩
  | .hbm, ⟨99, _⟩ => ⟨S4x4096x4x32, .f32⟩
  | .hbm, ⟨100, _⟩ => ⟨S4x4096x4x32, .f32⟩
  | .hbm, ⟨101, _⟩ => ⟨S4x4096x4x64, .f32⟩
  | .hbm, ⟨102, _⟩ => ⟨S4x4096x256, .f32⟩
  | .hbm, ⟨103, _⟩ => ⟨S_, .f32⟩
  | .hbm, ⟨104, _⟩ => ⟨S4x4096x64, .f32⟩
  | .hbm, ⟨105, _⟩ => ⟨S4x4096x128, .f32⟩
  | .hbm, ⟨106, _⟩ => ⟨S4x4096x512, .f32⟩
  | .hbm, ⟨107, _⟩ => ⟨S4x4096x1024, .f32⟩
  | .hbm, ⟨108, _⟩ => ⟨S4x1024x4096, .f32⟩
  | .hbm, ⟨109, _⟩ => ⟨S4x4096x1024, .f32⟩
  | .hbm, ⟨110, _⟩ => ⟨S4x1024x4096, .f32⟩
  | .hbm, ⟨111, _⟩ => ⟨S4x1024x4096, .bf16⟩
  | .hbm, ⟨112, _⟩ => ⟨S4x1024x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_3 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_cst_4 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x1024x4096 : Shape := ⟨3, ![4, 1024, 4096]⟩
abbrev S1024 : Shape := ⟨1, ![1024]⟩
abbrev S2048x1024 : Shape := ⟨2, ![2048, 1024]⟩
abbrev S1024x1 : Shape := ⟨2, ![1024, 1]⟩
abbrev S1x1024 : Shape := ⟨2, ![1, 1024]⟩
abbrev S1x256x1024 : Shape := ⟨3, ![1, 256, 1024]⟩
abbrev S1x1024x256 : Shape := ⟨3, ![1, 1024, 256]⟩
abbrev S1024x256 : Shape := ⟨2, ![1024, 256]⟩
abbrev S256 : Shape := ⟨1, ![256]⟩
abbrev S1x256 : Shape := ⟨2, ![1, 256]⟩
abbrev S256x1024 : Shape := ⟨2, ![256, 1024]⟩
abbrev S1024x1024 : Shape := ⟨2, ![1024, 1024]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x1024x4096, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S1024, .f32⟩
  | .hbm, ⟨7, _⟩ => ⟨S1024x1, .f32⟩
  | .hbm, ⟨8, _⟩ => ⟨S2048x1024, .bf16⟩
  | .hbm, ⟨9, _⟩ => ⟨S1x1024, .f32⟩
  | .hbm, ⟨10, _⟩ => ⟨S1x1024, .f32⟩
  | .hbm, ⟨11, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x1024x256, .f32⟩
  | .local _ .vmem, ⟨5, _⟩ => ⟨S1x1024x256, .f32⟩
  | .local _ .vmem, ⟨6, _⟩ => ⟨S1024x1, .f32⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S4x4096x1024 : Shape := ⟨3, ![4, 4096, 1024]⟩
abbrev S4x1024x4096 : Shape := ⟨3, ![4, 1024, 4096]⟩
abbrev S1024 : Shape := ⟨1, ![1024]⟩
abbrev S2048x1024 : Shape := ⟨2, ![2048, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x1024x4096, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S1024, .f32⟩
  | .hbm, ⟨7, _⟩ => ⟨S4x4096x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x2048, .f32⟩
  | .hbm, ⟨26, _⟩ => ⟨S4x4096x1024, .f32⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S1x1x1024, .f32⟩
  | .hbm, ⟨58, _⟩ => ⟨S4x4096x1024, .f32⟩
  | .hbm, ⟨59, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel4.lean ====
abbrev S4x4096x512 : Shape := ⟨3, ![4, 4096, 512]⟩
abbrev S32x64 : Shape := ⟨2, ![32, 64]⟩
abbrev S2048x256 : Shape := ⟨2, ![2048, 256]⟩
abbrev S256x64 : Shape := ⟨2, ![256, 64]⟩
abbrev S4x256x16x512 : Shape := ⟨4, ![4, 256, 16, 512]⟩
abbrev S1x32x64 : Shape := ⟨3, ![1, 32, 64]⟩
abbrev S2x32x64 : Shape := ⟨3, ![2, 32, 64]⟩
abbrev S1x2048x256 : Shape := ⟨3, ![1, 2048, 256]⟩
abbrev S2x2048x256 : Shape := ⟨3, ![2, 2048, 256]⟩
abbrev S1x256x64 : Shape := ⟨3, ![1, 256, 64]⟩
abbrev S2x256x64 : Shape := ⟨3, ![2, 256, 64]⟩
abbrev S256x32 : Shape := ⟨2, ![256, 32]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S4x4x256x64 : Shape := ⟨4, ![4, 4, 256, 64]⟩
abbrev S4x4x64x256 : Shape := ⟨4, ![4, 4, 64, 256]⟩
abbrev S1x256x16x512 : Shape := ⟨4, ![1, 256, 16, 512]⟩
abbrev S1x4x256x64 : Shape := ⟨4, ![1, 4, 256, 64]⟩
abbrev S1x4x64x256 : Shape := ⟨4, ![1, 4, 64, 256]⟩
abbrev S264x256 : Shape := ⟨2, ![264, 256]⟩
abbrev S256x256 : Shape := ⟨2, ![256, 256]⟩
abbrev S1x256x1x64 : Shape := ⟨4, ![1, 256, 1, 64]⟩
abbrev S1x1x64 : Shape := ⟨3, ![1, 1, 64]⟩
abbrev S1x64 : Shape := ⟨2, ![1, 64]⟩
abbrev S1x64x256 : Shape := ⟨3, ![1, 64, 256]⟩
abbrev S64x256 : Shape := ⟨2, ![64, 256]⟩
abbrev S8x256 : Shape := ⟨2, ![8, 256]⟩
abbrev S1x1x256x64 : Shape := ⟨4, ![1, 1, 256, 64]⟩
abbrev S1x1x64x256 : Shape := ⟨4, ![1, 1, 64, 256]⟩

abbrev nBuf : Space → Nat
  | .hbm => 60
  | .vmem => 13
  | .smem => 0
  | _ => 0

abbrev bufTy : (tb : Table) → Fin (tcTables nBuf tb) → BufTy
  | .hbm, ⟨0, _⟩ => ⟨S4x4096x512, .f32⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S32x64, .f32⟩
  | .hbm, ⟨5, _⟩ => ⟨S2048x256, .f32⟩
  | .hbm, ⟨6, _⟩ => ⟨S256x64, .f32⟩
  | .hbm, ⟨7, _⟩ => ⟨S4x256x16x512, .f32⟩
  | .hbm, ⟨8, _⟩ => ⟨S1x32x64, .f32⟩
  | .hbm, ⟨9, _⟩ => ⟨S1x32x64, .f32⟩
  | .hbm, ⟨10, _⟩ => ⟨S2x32x64, .f32⟩
  | .hbm, ⟨11, _⟩ => ⟨S1x2048x256, .f32⟩
  | .hbm, ⟨12, _⟩ => ⟨S1x2048x256, .f32⟩
  | .hbm, ⟨13, _⟩ => ⟨S2x2048x256, .f32⟩
  | .hbm, ⟨14, _⟩ => ⟨S2x2048x256, .bf16⟩
  | .hbm, ⟨15, _⟩ => ⟨S1x256x64, .f32⟩
  | .hbm, ⟨16, _⟩ => ⟨S1x256x64, .f32⟩
  | .hbm, ⟨17, _⟩ => ⟨S2x256x64, .f32⟩
  | .hbm, ⟨18, _⟩ => ⟨S2x256x64, .bf16⟩
  | .hbm, ⟨19, _⟩ => ⟨S256x32, .f32⟩
  | .hbm, ⟨20, _⟩ => ⟨S256x32, .f32⟩
  | .hbm, ⟨21, _⟩ => ⟨S256x32, .f32⟩
  | .hbm, ⟨22, _⟩ => ⟨S256x64, .f32⟩
  | .hbm, ⟨23, _⟩ => ⟨S256x64, .bf16⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S256, .f32⟩
  | .hbm, ⟨49, _⟩ => ⟨S256x1, .f32⟩
  | .hbm, ⟨50, _⟩ => ⟨S1x32, .f32⟩
  | .hbm, ⟨51, _⟩ => ⟨S256x32, .f32⟩
  | .hbm, ⟨52, _⟩ => ⟨S256x32, .f32⟩
  | .hbm, ⟨53, _⟩ => ⟨S256x32, .f32⟩
  | .hbm, ⟨54, _⟩ => ⟨S256x32, .f32⟩
  | .hbm, ⟨55, _⟩ => ⟨S256x64, .f32⟩
  | .hbm, ⟨56, _⟩ => ⟨S256x32, .f32⟩
  | .hbm, ⟨57, _⟩ => ⟨S256x64, .f32⟩
  | .hbm, ⟨58, _⟩ => ⟨S4x4x256x64, .bf16⟩
  | .hbm, ⟨59, _⟩ => ⟨S4x4x64x256, .bf16⟩
  | .local _ .vmem, ⟨0, _⟩ => ⟨S1x256x16x512, .f32⟩
  | .local _ .vmem, ⟨1, _⟩ => ⟨S1x256x16x512, .f32⟩
  | .local _ .vmem, ⟨2, _⟩ => ⟨S2x32x64, .f32⟩
  | .local _ .vmem, ⟨3, _⟩ => ⟨S2x2048x256, .bf16⟩
  | .local _ .vmem, ⟨4, _⟩ => ⟨S2x256x64, .bf16⟩
  | .local _ .vmem, ⟨5, _⟩ => ⟨S256x64, .bf16⟩
  | .local _ .vmem, ⟨6, _⟩ => ⟨S256x64, .f32⟩
  | .local _ .vmem, ⟨7, _⟩ => ⟨S256x64, .f32⟩
  | .local _ .vmem, ⟨8, _⟩ => ⟨S1x4x256x64, .bf16⟩
  | .local _ .vmem, ⟨9, _⟩ => ⟨S1x4x256x64, .bf16⟩
  | .local _ .vmem, ⟨10, _⟩ => ⟨S1x4x64x256, .bf16⟩
  | .local _ .vmem, ⟨11, _⟩ => ⟨S1x4x64x256, .bf16⟩
  | .local _ .vmem, ⟨12, _⟩ => ⟨S264x256, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4x4096x512 : Shape := ⟨3, ![4, 4096, 512]⟩
abbrev S32x64 : Shape := ⟨2, ![32, 64]⟩
abbrev S2048x256 : Shape := ⟨2, ![2048, 256]⟩
abbrev S256x64 : Shape := ⟨2, ![256, 64]⟩
abbrev S4x4096x256 : Shape := ⟨3, ![4, 4096, 256]⟩
abbrev S4x4096x4x64 : Shape := ⟨4, ![4, 4096, 4, 64]⟩
abbrev S256 : Shape := ⟨1, ![256]⟩
abbrev S256x1 : Shape := ⟨2, ![256, 1]⟩
abbrev S_ : Shape := ⟨0, ![]⟩
abbrev S32 : Shape := ⟨1, ![32]⟩
abbrev S1x32 : Shape := ⟨2, ![1, 32]⟩
abbrev S256x32 : Shape := ⟨2, ![256, 32]⟩
abbrev S256x32x1 : Shape := ⟨3, ![256, 32, 1]⟩
abbrev S4x256x32x4x64 : Shape := ⟨5, ![4, 256, 32, 4, 64]⟩
abbrev S32x1x64 : Shape := ⟨3, ![32, 1, 64]⟩
abbrev S1x1x32x1x64 : Shape := ⟨5, ![1, 1, 32, 1, 64]⟩
abbrev S256x32x1x1 : Shape := ⟨4, ![256, 32, 1, 1]⟩
abbrev S4x256x4x32x64 : Shape := ⟨5, ![4, 256, 4, 32, 64]⟩
abbrev S4x256x4x2048 : Shape := ⟨4, ![4, 256, 4, 2048]⟩
abbrev S4x256x4x256 : Shape := ⟨4, ![4, 256, 4, 256]⟩
abbrev S4x256x4x64 : Shape := ⟨4, ![4, 256, 4, 64]⟩
abbrev S4x4x64x256 : Shape := ⟨4, ![4, 4, 64, 256]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S32x64, .f32⟩
  | .hbm, ⟨2, _⟩ => ⟨S2048x256, .f32⟩
  | .hbm, ⟨3, _⟩ => ⟨S256x64, .f32⟩
  | .hbm, ⟨4, _⟩ => ⟨S32x64, .f32⟩
  | .hbm, ⟨5, _⟩ => ⟨S2048x256, .f32⟩
  | .hbm, ⟨6, _⟩ => ⟨S256x64, .f32⟩
  | .hbm, ⟨7, _⟩ => ⟨S4x4096x256, .f32⟩
  | .hbm, ⟨8, _⟩ => ⟨S4x4096x4x64, .f32⟩
  | .hbm, ⟨9, _⟩ => ⟨S256, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i32⟩
  | .hbm, ⟨14, _⟩ => ⟨S32, .i32⟩
  | .hbm, ⟨15, _⟩ => ⟨S1x32, .i32⟩
  | .hbm, ⟨16, _⟩ => ⟨S256x32, .i32⟩
  | .hbm, ⟨17, _⟩ => ⟨S256x32, .i32⟩
  | .hbm, ⟨18, _⟩ => ⟨S256x32, .i32⟩
  | .hbm, ⟨19, _⟩ => ⟨S_, .i32⟩
  | .hbm, ⟨20, _⟩ => ⟨S256x32, .i32⟩
  | .hbm, ⟨21, _⟩ => ⟨S256x32, .i32⟩
  | .hbm, ⟨22, _⟩ => ⟨S_, .i32⟩
  | .hbm, ⟨23, _⟩ => ⟨S256x32, .i32⟩
  | .hbm, ⟨24, _⟩ => ⟨S256x32, .i1⟩
  | .hbm, ⟨25, _⟩ => ⟨S_, .i32⟩
  | .hbm, ⟨26, _⟩ => ⟨S256x32, .i32⟩
  | .hbm, ⟨27, _⟩ => ⟨S256x32, .i32⟩
  | .hbm, ⟨28, _⟩ => ⟨S256x32, .i32⟩
  | .hbm, ⟨29, _⟩ => ⟨S256x32x1, .i32⟩
  | .hbm, ⟨30, _⟩ => ⟨S4x256x32x4x64, .f32⟩
  | .hbm, ⟨31, _⟩ => ⟨S32x1x64, .f32⟩
  | .hbm, ⟨32, _⟩ => ⟨S1x1x32x1x64, .f32⟩
  | .hbm, ⟨33, _⟩ => ⟨S4x256x32x4x64, .f32⟩
  | .hbm, ⟨34, _⟩ => ⟨S4x256x32x4x64, .f32⟩
  | .hbm, ⟨35, _⟩ => ⟨S_, .i32⟩
  | .hbm, ⟨36, _⟩ => ⟨S256x32, .i32⟩
  | .hbm, ⟨37, _⟩ => ⟨S256x32, .i1⟩
  | .hbm, ⟨38, _⟩ => ⟨S256x32x1x1, .i1⟩
  | .hbm, ⟨39, _⟩ => ⟨S_, .f32⟩
  | .hbm, ⟨40, _⟩ => ⟨S_, .f32⟩
  | .hbm, ⟨41, _⟩ => ⟨S4x256x32x4x64, .i1⟩
  | .hbm, ⟨42, _⟩ => ⟨S4x256x32x4x64, .f32⟩
  | .hbm, ⟨43, _⟩ => ⟨S4x256x32x4x64, .f32⟩
  | .hbm, ⟨44, _⟩ => ⟨S4x256x4x32x64, .f32⟩
  | .hbm, ⟨45, _⟩ => ⟨S4x256x4x2048, .f32⟩
  | .hbm, ⟨46, _⟩ => ⟨S4x256x4x256, .f32⟩
  | .hbm, ⟨47, _⟩ => ⟨S_, .f32⟩
  | .hbm, ⟨48, _⟩ => ⟨S4x256x4x256, .f32⟩
  | .hbm, ⟨49, _⟩ => ⟨S4x256x4x256, .f32⟩
  | .hbm, ⟨50, _⟩ => ⟨S4x256x4x256, .f32⟩
  | .hbm, ⟨51, _⟩ => ⟨S_, .f32⟩
  | .hbm, ⟨52, _⟩ => ⟨S4x256x4x256, .f32⟩
  | .hbm, ⟨53, _⟩ => ⟨S4x256x4x256, .f32⟩
  | .hbm, ⟨54, _⟩ => ⟨S4x256x4x256, .f32⟩
  | .hbm, ⟨55, _⟩ => ⟨S4x256x4x256, .f32⟩
  | .hbm, ⟨56, _⟩ => ⟨S4x256x4x64, .f32⟩
  | .hbm, ⟨57, _⟩ => ⟨S4x4x64x256, .f32⟩
  | .hbm, ⟨58, _⟩ => ⟨S4x4x64x256, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proof.Words.lean ====
/- The attention's word arithmetic: how many trips its two counted loops make, where each trip's loads begin, and its
   comparisons of positions read as comparisons of numbers. -/
module

public import proofs.«01_k».proof.Proof.Gen.KernelIdeal.Value
public import Idealize.ShloMosaic.Lib.Pointwise
public import Idealize.ShloMosaic.Lib.ValueIdx

@[expose] public section

set_option maxRecDepth 16384

noncomputable section

namespace Cert.Proof.Attn

open Cert.KernelIdeal Cert.KernelIdeal.Gen Idealize.ShloMosaic Idealize.SL.Sem

section Words
variable {a b : BitVec 32} {ea eb : Int}

theorem toInt_of (h : Affine.IsInt a ea) : a.toInt = ea := by unfold Affine.IsInt at h; exact h

theorem toNat_of (h : Affine.IsInt a ea) (n : ℕ) (hn : ea = n) : a.toNat = n := by
  have h := toInt_of h
  have hc := BitVec.toInt_eq_toNat_cond a
  have hl := a.isLt
  split at hc <;> omega

theorem sle_of (ha : Affine.IsInt a ea) (hb : Affine.IsInt b eb) : Scalar.cmpi .sle a b = BitVec.ofBool (decide (ea ≤ eb)) := by
  by_cases h : ea ≤ eb
  · rw [decide_eq_true h]; exact Affine.sle_holds ha hb h
  · rw [decide_eq_false h]; exact (BitVec.eq_zero_or_eq_one _).resolve_right (Affine.sle_fails ha hb h)

theorem slt_of (ha : Affine.IsInt a ea) (hb : Affine.IsInt b eb) : Scalar.cmpi .slt a b = BitVec.ofBool (decide (ea < eb)) := by
  by_cases h : ea < eb
  · rw [decide_eq_true h]; exact Affine.slt_holds ha hb h
  · rw [decide_eq_false h]; exact (BitVec.eq_zero_or_eq_one _).resolve_right (Affine.slt_fails ha hb h)

theorem sgt_of (ha : Affine.IsInt a ea) (hb : Affine.IsInt b eb) : Scalar.cmpi .sgt a b = BitVec.ofBool (decide (eb < ea)) := by
  by_cases h : eb < ea
  · rw [decide_eq_true h]; exact Affine.sgt_holds ha hb h
  · rw [decide_eq_false h]; exact (BitVec.eq_zero_or_eq_one _).resolve_right (Affine.sgt_fails ha hb h)

theorem eq_of (ha : Affine.IsInt a ea) (hb : Affine.IsInt b eb) : Scalar.cmpi .eq a b = BitVec.ofBool (decide (ea = eb)) := by
  by_cases h : ea = eb
  · rw [decide_eq_true h]; exact Affine.eq_holds ha hb h
  · rw [decide_eq_false h]; exact (BitVec.eq_zero_or_eq_one _).resolve_right (Affine.eq_fails ha hb h)

theorem andi_bool (p q : Bool) : Scalar.andi (BitVec.ofBool p) (BitVec.ofBool q) = BitVec.ofBool (p && q) := by
  cases p <;> cases q <;> rfl

theorem ori_bool (p q : Bool) : Scalar.ori (BitVec.ofBool p) (BitVec.ofBool q) = BitVec.ofBool (p || q) := by
  cases p <;> cases q <;> rfl

theorem select_bool {α : Type} (p : Bool) (x y : α) : Scalar.select (BitVec.ofBool p) x y = if p = true then x else y := by
  cases p <;> rfl

theorem trips_of (ha : Affine.IsInt a ea) (hb : Affine.IsInt b eb) : Scf.trips a b 1#32 = (eb - ea).toNat := by
  unfold Scf.trips
  rw [toInt_of ha, toInt_of hb, show (1#32 : BitVec 32).toInt = 1 from by decide]
  congr 1
  omega

end Words

/-- A small literal. -/
theorem lit (n : ℕ) (h : n < 2147483648) : Affine.IsInt (BitVec.ofNat 32 n) (n : Int) := Affine.ofNat _ (by omega)

/-- A query's place in its tile of 128, from its place among the four heads' 512 columns. -/
theorem lane (x : Fin 512) : Affine.IsInt (Scalar.andi (BitVec.ofNat 32 x.val) 127#32) ((x.val % 128 : ℕ) : Int) := by
  rw [(by decide +kernel : ∀ x : Fin 512, Scalar.andi (BitVec.ofNat 32 x.val) 127#32 = BitVec.ofNat 32 (x.val % 128)) x]
  exact Affine.ofNat _ (by omega)

section Loops
variable (i : grid0.Coords)

theorem qi_lt : (i 2).val < 32 := (i 2).isLt

/-- The position of query `x`. -/
theorem pos (x : Fin 512) : Affine.IsInt (Scalar.addi (Scalar.muli (BitVec.ofNat 32 (i 2).val) 128#32) (Scalar.andi (BitVec.ofNat 32 x.val) 127#32))
    ((128 * (i 2).val + x.val % 128 : ℕ) : Int) := by
  have h := qi_lt i
  have h1 : Affine.IsInt (BitVec.ofNat 32 (i 2).val) (((i 2).val : Int)) := Affine.ofNat _ (by omega)
  have h2 : Affine.IsInt 128#32 128 := Affine.ofNat _ (by omega)
  have h3 : Affine.IsInt _ (128 * ((i 2).val : Int)) := Affine.muli h1 h2 (by omega)
  exact Affine.addi h3 (lane x) (by omega)

/-- The first tile of keys that the sliding window reaches. -/
def fst : ℕ := (i 2).val - 4

theorem trips1 : (k0_t1_loop i).trips = (i 2).val + 1 := by
  have h := qi_lt i
  have h0 : Affine.IsInt 0#32 0 := Affine.ofNat _ (by omega)
  have h1 : Affine.IsInt 1#32 1 := Affine.ofNat _ (by omega)
  have hq : Affine.IsInt (BitVec.ofNat 32 (i 2).val) (((i 2).val : Int)) := Affine.ofNat _ (by omega)
  have h2 : Affine.IsInt _ (((i 2).val : Int) + 1) := Affine.addi hq h1 (by omega)
  have h3 : Affine.IsInt _ (((i 2).val : Int) + 1) := Affine.subi h2 h0 (by omega)
  have h4 : Affine.IsInt _ (((i 2).val : Int) + 1) := Affine.divsi h3 h1 (by omega)
  have h5 : Affine.IsInt _ (((i 2).val : Int) + 1) := Affine.muli h4 h1 (by omega)
  have h6 : Affine.IsInt _ (((i 2).val : Int) + 1) := Affine.addi h0 h5 (by omega)
  refine (trips_of h0 h6).trans ?_
  omega

/-- The word that the window loop counts from. -/
theorem fst_word : Affine.IsInt (Scalar.maxsi (Scalar.subi (BitVec.ofNat 32 (i 2).val) 4#32) 0#32) (fst i : Int) := by
  have h := qi_lt i
  have h0 : Affine.IsInt 0#32 0 := Affine.ofNat _ (by omega)
  have h4 : Affine.IsInt 4#32 4 := Affine.ofNat _ (by omega)
  have hq : Affine.IsInt (BitVec.ofNat 32 (i 2).val) (((i 2).val : Int)) := Affine.ofNat _ (by omega)
  have h2 : Affine.IsInt _ (((i 2).val : Int) - 4) := Affine.subi hq h4 (by omega)
  exact Affine.maxsi h2 h0 (by unfold fst; omega)

theorem trips3 : (k0_t3_loop i).trips = (i 2).val + 1 - fst i := by
  have h := qi_lt i
  have h1 : Affine.IsInt 1#32 1 := Affine.ofNat _ (by omega)
  have hq : Affine.IsInt (BitVec.ofNat 32 (i 2).val) (((i 2).val : Int)) := Affine.ofNat _ (by omega)
  have hf := fst_word i
  have hle : fst i ≤ (i 2).val := by unfold fst; omega
  have h2 : Affine.IsInt _ (((i 2).val : Int) + 1) := Affine.addi hq h1 (by omega)
  have h3 : Affine.IsInt _ (((i 2).val : Int) + 1 - fst i) := Affine.subi h2 hf (by omega)
  have h4 : Affine.IsInt _ (((i 2).val : Int) + 1 - fst i) := Affine.divsi h3 h1 (by omega)
  have h5 : Affine.IsInt _ (((i 2).val : Int) + 1 - fst i) := Affine.muli h4 h1 (by omega)
  have h6 : Affine.IsInt _ (((i 2).val : Int) + 1) := Affine.addi hf h5 (by omega)
  refine (trips_of hf h6).trans ?_
  omega

theorem iv1 (k : ℕ) (hk : k < 32) : Affine.IsInt (Scf.iv 0#32 1#32 k) (k : Int) :=
  Affine.iv (lit 0 (by omega)) (lit 1 (by omega)) k (by omega)

theorem iv3 (k : ℕ) (hk : k < 32) : Affine.IsInt (Scf.iv (Scalar.maxsi (Scalar.subi (BitVec.ofNat 32 (i 2).val) 4#32) 0#32) 1#32 k) ((fst i + k : ℕ) : Int) :=
  Affine.iv (fst_word i) (lit 1 (by omega)) k (by have := qi_lt i; unfold fst; omega)

theorem k1_lt (k : Fin (k0_t1_loop i).trips) : k.val < 32 := by have := qi_lt i; have := k.isLt; have := trips1 i; omega
theorem k3_lt (k : Fin (k0_t3_loop i).trips) : k.val < 32 := by have := qi_lt i; have := k.isLt; have := trips3 i; omega

theorem off1 (k : Fin (k0_t1_loop i).trips) : k0_off1 i k = ![128 * k.val, 0] := by
  have hk := k1_lt i k
  unfold k0_off1
  refine congrArg (fun z => ![z, 0]) ?_
  exact toNat_of (Affine.indexCast (Affine.muli (iv1 k.val hk) (lit 128 (by omega)) (e := 128 * (k.val : Int)) (by omega))) _ (by omega)

theorem off2 (k : Fin (k0_t1_loop i).trips) (r : ℕ) (hr : r < 2) : k0_off2 i k (BitVec.ofNat 32 r) = ![2 * k.val + r, 0] := by
  have hk := k1_lt i k
  unfold k0_off2
  refine congrArg (fun z => ![z, 0]) ?_
  have h1 : Affine.IsInt _ (2 * (k.val : Int)) := Affine.muli (lit 2 (by omega)) (iv1 k.val hk) (by omega)
  exact toNat_of (Affine.indexCast (Affine.addi h1 (lit r (by omega)) (e := 2 * (k.val : Int) + r) (by omega))) _ (by omega)

theorem off3 (k : Fin (k0_t1_loop i).trips) : k0_off3 i k = ![0, 0, 128 * k.val] := by
  have hk := k1_lt i k
  unfold k0_off3
  refine congrArg (fun z => ![0, 0, z]) ?_
  exact toNat_of (Affine.indexCast (Affine.muli (iv1 k.val hk) (lit 128 (by omega)) (e := 128 * (k.val : Int)) (by omega))) _ (by omega)

theorem off7 (k : Fin (k0_t3_loop i).trips) : k0_off7 i k = ![128 * (fst i + k.val), 0] := by
  have hk := k3_lt i k
  have hq := qi_lt i
  unfold k0_off7
  refine congrArg (fun z => ![z, 0]) ?_
  exact toNat_of (Affine.indexCast (Affine.muli (iv3 i k.val hk) (lit 128 (by omega)) (e := 128 * ((fst i + k.val : ℕ) : Int)) (by unfold fst; omega))) _ (by omega)

theorem off8 (k : Fin (k0_t3_loop i).trips) : k0_off8 i k = ![0, 0, 128 * (fst i + k.val)] := by
  have hk := k3_lt i k
  have hq := qi_lt i
  unfold k0_off8
  refine congrArg (fun z => ![0, 0, z]) ?_
  exact toNat_of (Affine.indexCast (Affine.muli (iv3 i k.val hk) (lit 128 (by omega)) (e := 128 * ((fst i + k.val : ℕ) : Int)) (by unfold fst; omega))) _ (by omega)

/-- A gate's row: 16, then three for each head, numbered within its group of four. -/
theorem off11 (g j : ℕ) (hg : g < 4) (hj : j < 3) :
    k0_off11 i (BitVec.ofNat 32 g) (BitVec.ofNat 32 j) = ![16 + 3 * (4 * (i 1).val + g) + j, 0] := by
  have hh : (i 1).val < 4 := (i 1).isLt
  unfold k0_off11
  refine congrArg (fun z => ![z, 0]) ?_
  have hq : Affine.IsInt (BitVec.ofNat 32 (i 1).val) (((i 1).val : Int)) := lit _ (by omega)
  have h1 : Affine.IsInt _ (4 * ((i 1).val : Int)) := Affine.muli hq (lit 4 (by omega)) (by omega)
  have h2 : Affine.IsInt _ (4 * ((i 1).val : Int) + g) := Affine.addi h1 (lit g (by omega)) (by omega)
  have h3 : Affine.IsInt _ (3 * (4 * ((i 1).val : Int) + g)) := Affine.muli h2 (lit 3 (by omega)) (by omega)
  have h4 : Affine.IsInt _ (16 + 3 * (4 * ((i 1).val : Int) + g)) := Affine.addi (lit 16 (by omega)) h3 (by omega)
  exact toNat_of (Affine.indexCast (Affine.addi h4 (lit j (by omega)) (e := 16 + 3 * (4 * ((i 1).val : Int) + g) + j) (by omega))) _ (by omega)

end Loops

end Cert.Proof.Attn

end
-- ==== Proof.Flash.lean ====
/-
  Softmax over the extended reals, in the order in which a flash kernel takes it.
  A score is `⊥` (masked) or real. `top`, `den`, `num` are the maximum of the first `n` scores, the sum of the weights
  relative to it, and the weighted sum of the values; `top_step`, `den_step`, `num_step` say what taking in a block of
  128 further keys does to them. `branch_eq` sets the quotient beside a softmax over any other index set that names the
  same unmasked keys.
-/
module

public import Idealize.ShloMosaic.PureOps.Ideal

@[expose] public section

noncomputable section

open Idealize.ShloMosaic

namespace Cert.Proof.Flash

/-- A score: masked, or a real number. -/
def Score (x : EReal) : Prop := x = ⊥ ∨ ∃ r : ℝ, x = (r : EReal)

theorem score_bot : Score ⊥ := Or.inl rfl
theorem score_coe (r : ℝ) : Score (r : EReal) := Or.inr ⟨r, rfl⟩

theorem score_max {x y : EReal} (hx : Score x) (hy : Score y) : Score (max x y) := by
  rcases max_choice x y with h | h <;> rw [h] <;> assumption

theorem score_sup {ι : Type} (A : Finset ι) (s : ι → EReal) (hs : ∀ k, Score (s k)) : Score (A.sup s) := by
  classical
  induction A using Finset.induction_on with
  | empty => exact score_bot
  | insert a A _ ih => rw [Finset.sup_insert]; exact score_max (hs a) ih

/-- The weight of a score relative to a maximum is a real number that is not negative. -/
theorem exp_sub {x M : EReal} (hx : Score x) (hM : Score M) (h : x ≤ M) : ∃ r : ℝ, 0 ≤ r ∧ Ideal.exp (x - M) = (r : EReal) := by
  rcases hx with rfl | ⟨a, rfl⟩
  · exact ⟨0, le_rfl, by rw [EReal.bot_sub]; rfl⟩
  · rcases hM with rfl | ⟨b, rfl⟩
    · exact absurd h (by simp)
    · exact ⟨Real.exp (a - b), (Real.exp_pos _).le, by rw [← EReal.coe_sub]; rfl⟩

theorem exp_self (r : ℝ) : Ideal.exp ((r : EReal) - (r : EReal)) = 1 := by
  rw [← EReal.coe_sub, sub_self, Ideal.exp_coe, Real.exp_zero]; rfl

theorem exp_masked (M : EReal) : Ideal.exp (⊥ - M) = 0 := by rw [EReal.bot_sub]; rfl

/-- Moving a weight from one maximum to a larger one. -/
theorem exp_move {x M M' : EReal} (hx : Score x) (hM : Score M) (hM' : Score M') (h : x ≤ M) (h' : M ≤ M') :
    Ideal.exp (M - M') * Ideal.exp (x - M) = Ideal.exp (x - M') := by
  rcases hx with rfl | ⟨a, rfl⟩
  · rw [exp_masked, exp_masked, mul_zero]
  · rcases hM with rfl | ⟨b, rfl⟩
    · exact absurd h (by simp)
    · rcases hM' with rfl | ⟨c, rfl⟩
      · exact absurd h' (by simp)
      · rw [← EReal.coe_sub, ← EReal.coe_sub, ← EReal.coe_sub, Ideal.exp_coe, Ideal.exp_coe, Ideal.exp_coe, ← EReal.coe_mul,
          ← Real.exp_add]
        congr 2; ring

/-- A real factor that is not negative goes through a sum of extended reals. -/
theorem mul_sum {ι : Type} (A : Finset ι) (f : ι → EReal) {r : ℝ} (hr : 0 ≤ r) :
    (r : EReal) * ∑ k ∈ A, f k = ∑ k ∈ A, (r : EReal) * f k := by
  classical
  induction A using Finset.induction_on with
  | empty => simp
  | insert a A ha ih =>
    rw [Finset.sum_insert ha, Finset.sum_insert ha,
      EReal.left_distrib_of_nonneg_of_ne_top (by exact_mod_cast hr) (EReal.coe_ne_top r), ih]

/-- The maximum of the first `n` scores. -/
def top (s : ℕ → EReal) (n : ℕ) : EReal := (Finset.range n).sup s
/-- The sum of the weights of the first `n` scores. -/
def den (s : ℕ → EReal) (n : ℕ) : EReal := ∑ k ∈ Finset.range n, Ideal.exp (s k - top s n)
/-- The sum of the first `n` values times their weights. -/
def num (s v : ℕ → EReal) (n : ℕ) : EReal := ∑ k ∈ Finset.range n, v k * Ideal.exp (s k - top s n)

theorem top_zero (s : ℕ → EReal) : top s 0 = ⊥ := rfl
theorem den_zero (s : ℕ → EReal) : den s 0 = 0 := by simp [den]
theorem num_zero (s v : ℕ → EReal) : num s v 0 = 0 := by simp [num]

theorem fold_sup {ι : Type} (A : Finset ι) (s : ι → EReal) : A.fold max ⊥ s = A.sup s := rfl

theorem sup_block (s : ℕ → EReal) (n w : ℕ) :
    (Finset.range (n + w)).sup s = max ((Finset.range n).sup s) ((Finset.univ : Finset (Fin w)).sup fun r => s (n + r.val)) := by
  apply le_antisymm
  · refine Finset.sup_le fun k hk => ?_
    have hk' := Finset.mem_range.mp hk
    by_cases h : k < n
    · exact le_max_of_le_left (Finset.le_sup (f := s) (Finset.mem_range.mpr h))
    · refine le_max_of_le_right ?_
      have := Finset.le_sup (f := fun r : Fin w => s (n + r.val)) (Finset.mem_univ (⟨k - n, by omega⟩ : Fin w))
      simpa [show n + (k - n) = k by omega] using this
  · refine max_le (Finset.sup_le fun k hk => ?_) (Finset.sup_le fun r _ => ?_)
    · exact Finset.le_sup (f := s) (Finset.mem_range.mpr (by have := Finset.mem_range.mp hk; omega))
    · exact Finset.le_sup (f := s) (Finset.mem_range.mpr (by have := r.isLt; omega))

theorem sum_block (f : ℕ → EReal) (n w : ℕ) :
    ∑ k ∈ Finset.range (n + w), f k = ∑ k ∈ Finset.range n, f k + ∑ r : Fin w, f (n + r.val) := by
  rw [Finset.sum_range_add, Finset.sum_range (fun x => f (n + x))]

variable {s v : ℕ → EReal} (hs : ∀ k, Score (s k))

theorem top_step (n w : ℕ) : max (top s n) ((Finset.univ : Finset (Fin w)).fold max ⊥ fun r => s (n + r.val)) = top s (n + w) := by
  rw [fold_sup]; exact (sup_block s n w).symm

theorem top_le (n w : ℕ) : top s n ≤ top s (n + w) :=
  Finset.sup_mono (Finset.range_mono (by omega))

include hs in
theorem den_step (n w : ℕ) :
    Ideal.exp (top s n - top s (n + w)) * den s n + ∑ r : Fin w, Ideal.exp (s (n + r.val) - top s (n + w)) = den s (n + w) := by
  unfold den
  rw [sum_block (fun k => Ideal.exp (s k - top s (n + w)))]
  congr 1
  obtain ⟨a, ha, hae⟩ := exp_sub (score_sup (Finset.range n) s hs) (score_sup (Finset.range (n + w)) s hs) (top_le n w)
  rw [show Ideal.exp (top s n - top s (n + w)) = (a : EReal) from hae, mul_sum _ _ ha]
  refine Finset.sum_congr rfl fun k hk => ?_
  rw [← show Ideal.exp (top s n - top s (n + w)) = (a : EReal) from hae]
  exact exp_move (hs k) (score_sup _ s hs) (score_sup _ s hs) (Finset.le_sup (f := s) hk) (top_le n w)

include hs in
theorem num_step (n w : ℕ) :
    Ideal.exp (top s n - top s (n + w)) * num s v n + ∑ r : Fin w, v (n + r.val) * Ideal.exp (s (n + r.val) - top s (n + w))
      = num s v (n + w) := by
  unfold num
  rw [sum_block (fun k => v k * Ideal.exp (s k - top s (n + w)))]
  congr 1
  obtain ⟨a, ha, hae⟩ := exp_sub (score_sup (Finset.range n) s hs) (score_sup (Finset.range (n + w)) s hs) (top_le n w)
  rw [show Ideal.exp (top s n - top s (n + w)) = (a : EReal) from hae, mul_sum _ _ ha]
  refine Finset.sum_congr rfl fun k hk => ?_
  rw [← show Ideal.exp (top s n - top s (n + w)) = (a : EReal) from hae, mul_left_comm]
  exact congrArg (v k * ·) (exp_move (hs k) (score_sup _ s hs) (score_sup _ s hs) (Finset.le_sup (f := s) hk) (top_le n w))

/-- The softmax of the scores `x`, applied to the values `w`: each weight over the sum of the weights. -/
def soft {ι : Type} [Fintype ι] (x w : ι → EReal) : EReal :=
  ∑ i, Ideal.div (Ideal.exp (x i - Finset.univ.sup x)) (∑ j, Ideal.exp (x j - Finset.univ.sup x)) * w i

section Reindex

variable {ι : Type} [Fintype ι] (key : ι → ℕ) (x : ι → EReal) (n : ℕ)
  (h1 : ∀ i, x i ≠ ⊥ → key i < n ∧ s (key i) = x i)
  (hinj : ∀ i j, x i ≠ ⊥ → x j ≠ ⊥ → key i = key j → i = j)
  (hsurj : ∀ k, k < n → s k ≠ ⊥ → ∃ i, x i ≠ ⊥ ∧ key i = k)

include h1 hinj hsurj in
/-- A sum over the first `n` keys in which masked keys count nothing is the sum over any index set that names the unmasked keys once. -/
theorem sum_reindex (g : ℕ → EReal → EReal) (hg : ∀ k, g k ⊥ = 0) :
    ∑ k ∈ Finset.range n, g k (s k) = ∑ i, g (key i) (x i) := by
  classical
  rw [← Finset.sum_filter_of_ne (s := Finset.range n) (p := fun k => s k ≠ ⊥) (fun k _ h hb => h (by rw [hb]; exact hg k)),
    ← Finset.sum_filter_of_ne (s := Finset.univ) (p := fun i => x i ≠ ⊥) (fun i _ h hb => h (by rw [hb]; exact hg _))]
  refine (Finset.sum_bij (fun i _ => key i) ?_ ?_ ?_ ?_).symm
  · intro i hi
    have hi := (Finset.mem_filter.mp hi).2
    exact Finset.mem_filter.mpr ⟨Finset.mem_range.mpr (h1 i hi).1, by rw [(h1 i hi).2]; exact hi⟩
  · intro i hi j hj e
    exact hinj i j (Finset.mem_filter.mp hi).2 (Finset.mem_filter.mp hj).2 e
  · intro k hk
    obtain ⟨hk, hne⟩ := Finset.mem_filter.mp hk
    obtain ⟨i, hi, e⟩ := hsurj k (Finset.mem_range.mp hk) hne
    exact ⟨i, Finset.mem_filter.mpr ⟨Finset.mem_univ _, hi⟩, e⟩
  · intro i hi
    rw [(h1 i (Finset.mem_filter.mp hi).2).2]

include h1 hsurj in
theorem sup_reindex : top s n = Finset.univ.sup x := by
  apply le_antisymm
  · refine Finset.sup_le fun k hk => ?_
    by_cases h : s k = ⊥
    · rw [h]; exact bot_le
    · obtain ⟨i, hi, e⟩ := hsurj k (Finset.mem_range.mp hk) h
      rw [← e, (h1 i hi).2]; exact Finset.le_sup (f := x) (Finset.mem_univ i)
  · refine Finset.sup_le fun i _ => ?_
    by_cases h : x i = ⊥
    · rw [h]; exact bot_le
    · rw [← (h1 i h).2]; exact Finset.le_sup (f := s) (Finset.mem_range.mpr (h1 i h).1)

theorem den_pos (hs : ∀ k, Score (s k)) (k : ℕ) (hk : k < n) (hne : s k ≠ ⊥) : ∃ r : ℝ, 0 < r ∧ den s n = (r : EReal) := by
  have hb : ∀ j, ∃ r : ℝ, 0 ≤ r ∧ (j ∈ Finset.range n → Ideal.exp (s j - top s n) = (r : EReal)) := fun j => by
    by_cases hj : j ∈ Finset.range n
    · obtain ⟨r, h0, hr⟩ := exp_sub (hs j) (score_sup (Finset.range n) s hs) (Finset.le_sup (f := s) hj)
      exact ⟨r, h0, fun _ => hr⟩
    · exact ⟨0, le_rfl, fun h => absurd h hj⟩
  choose f hf0 hf using hb
  refine ⟨∑ j ∈ Finset.range n, f j, ?_, ?_⟩
  · refine Finset.sum_pos' (fun j _ => hf0 j) ⟨k, Finset.mem_range.mpr hk, ?_⟩
    have e := hf k (Finset.mem_range.mpr hk)
    rcases hs k with h | ⟨a, ha⟩
    · exact absurd h hne
    · have hle : s k ≤ top s n := Finset.le_sup (f := s) (Finset.mem_range.mpr hk)
      rcases score_sup (Finset.range n) s hs with hM | ⟨b, hM⟩
      · exact absurd (le_bot_iff.mp ((show top s n = ⊥ from hM) ▸ hle)) hne
      · rw [ha, show top s n = (b : EReal) from hM, ← EReal.coe_sub, Ideal.exp_coe] at e
        rw [← EReal.coe_eq_coe_iff.mp e]; exact Real.exp_pos _
  · unfold den
    rw [Finset.sum_congr rfl (fun j hj => hf j hj)]
    exact (map_sum (⟨⟨Real.toEReal, EReal.coe_zero⟩, EReal.coe_add⟩ : ℝ →+ EReal) f (Finset.range n)).symm

include h1 hinj hsurj in
/-- The flash quotient is the softmax over any index set that names the unmasked keys once, if there is one. -/
theorem branch_eq (hs : ∀ k, Score (s k)) (w : ι → EReal) (hw : ∀ i, x i ≠ ⊥ → w i = v (key i)) (k : ℕ) (hk : k < n) (hne : s k ≠ ⊥) :
    Ideal.div (num s v n) (den s n) = soft x w := by
  obtain ⟨r, hr, hd⟩ := den_pos (s := s) n hs k hk hne
  have hM := sup_reindex key x n h1 hsurj
  have hD : den s n = ∑ j, Ideal.exp (x j - Finset.univ.sup x) := by
    unfold den
    rw [hM]
    exact sum_reindex key x n h1 hinj hsurj (fun _ y => Ideal.exp (y - Finset.univ.sup x)) (fun _ => exp_masked _)
  have hN : num s v n = ∑ i, Ideal.exp (x i - Finset.univ.sup x) * w i := by
    unfold num
    rw [hM, sum_reindex key x n h1 hinj hsurj (fun k y => v k * Ideal.exp (y - Finset.univ.sup x)) (fun _ => by rw [exp_masked, mul_zero])]
    refine Finset.sum_congr rfl fun i _ => ?_
    by_cases h : x i = ⊥
    · rw [h, exp_masked, mul_zero, zero_mul]
    · rw [hw i h, mul_comm]
  unfold soft
  rw [← hD, hd, Ideal.div_coe hr.ne', hN, mul_comm, mul_sum _ _ (by positivity)]
  refine Finset.sum_congr rfl fun i _ => ?_
  rw [Ideal.div_coe hr.ne', ← mul_assoc, mul_comm (Ideal.exp _)]

end Reindex

end Cert.Proof.Flash

end
-- ==== Proof.Tiles.lean ====
/- The kernel's two counted loops. Each trip's payloads are read at an index; then, after any number of trips, the three
   carried values are the running maximum, denominator and numerator (`Flash.top`, `den`, `num`) of the scores so far. -/
module

public import proofs.«01_k».proof.Proof.Words
public import proofs.«01_k».proof.Proof.Flash

@[expose] public section

set_option maxRecDepth 16384

noncomputable section

namespace Cert.Proof.Attn

open Cert.KernelIdeal Cert.KernelIdeal.Gen Idealize.ShloMosaic Idealize.ShloMosaic.TcCoe Idealize.SL.Sem
open Cert.Proof.Flash

/-- Four copies side by side, read at a column. -/
theorem quad (f : Fin 128 → EReal) (x : Fin 512) (h0 : x.val < 128 → x.val < 128) :
    (if h : x.val < 128 then f ⟨x.val, h⟩
      else if h : x.val - 128 < 128 then f ⟨x.val - 128, h⟩
      else if h : x.val - 128 - 128 < 128 then f ⟨x.val - 128 - 128, h⟩
      else f ⟨x.val - 128 - 128 - 128, by omega⟩) = f ⟨x.val % 128, by omega⟩ := by
  split_ifs <;> exact congrArg f (Fin.ext (by simp only []; omega))

/-- The threshold of the selection. -/
def half : EReal := Ideal.ofBits FTy.f32 1056964608#32

/-- The floor of a maximum. -/
theorem neg_inf : (Ideal.ofBits FTy.f32 4286578688#32 : EReal) = ⊥ := by simp [Ideal.ofBits, Ideal.ieee]

theorem mask_bot : (Named.named (F := Ideal) κ "mask" (φ := .f32) 4048155338#32 : EReal) = ⊥ := rfl

section Tile
variable (i : grid0.Coords) (qc : FVec Ideal S64x512 .bf16) (K : Vec Ideal S128x64 .bf16) (r : Fin 128) (x : Fin 512) (d : Fin 64)
  (m l : FVec Ideal S1x512 .f32) (a : FVec Ideal S64x512 .f32) (V : Vec Ideal S1x64x128 .bf16)

/-- The position of the query in column `x`. -/
def tq : ℕ := 128 * (i 2).val + x.val % 128

theorem tpos : Affine.IsInt (k0_pay19 i (ix2 0 x)) (tq i x : Int) := by
  have h : k0_pay19 i (ix2 0 x) = IntOp.addi (Scalar.muli (BitVec.ofNat 32 (i 2).val) 128#32) (IntOp.andi (BitVec.ofNat 32 x.val) 127#32) := by
    pointwise [k0_pay19]
  rw [h]; exact pos i x

/-- The row numbers of a tile. -/
abbrev rows : IVec S128x1 32 := iota .tc S128x1 32 [0] iota_S128x1_d0_w32

section One
variable (k : Fin (k0_t1_loop i).trips) (s0 s1 : Vec Ideal S1x128 .f32)

theorem pay4_at : k0_pay4 (F := Ideal) i qc (k0_pay19 i) rows 0#32 1#32 k K s0 s1 (ix2 r x)
    = if 128 * k.val + r.val ≤ tq i x ∧ half < (if r.val < 64 then s0 else s1) (ix2 0 ⟨x.val % 128, by omega⟩)
        then ∑ e, K (ix2 r e) * qc (ix2 e x) else ⊥ := by
  pointwise [k0_pay4]
  have hk := k1_lt i k
  have e1 : Affine.IsInt (IntOp.addi (Scalar.muli (Scf.iv 0#32 1#32 k.val) 128#32) (BitVec.ofNat 32 r.val)) ((128 * k.val + r.val : ℕ) : Int) := by
    have h1 : Affine.IsInt _ (128 * (k.val : Int)) := Affine.muli (iv1 k.val hk) (lit 128 (by omega)) (by omega)
    exact Affine.addi h1 (lit r.val (by omega)) (by omega)
  have e2 := sle_of e1 (tpos i x)
  refine (congrArg₂ (fun p q => Scalar.select (Scalar.andi p (BitVec.ofBool (decide (half < q)))) (∑ e, K (ix2 r e) * qc (ix2 e x)) (Named.named (F := Ideal) κ "mask" (φ := .f32) 4048155338#32))
    e2 (quad (fun y => if _ : r.val < 64 then s0 (ix2 0 y) else s1 (ix2 0 y)) x id)).trans ?_
  rw [andi_bool, select_bool, mask_bot]
  refine if_congr ?_ rfl rfl
  rw [Bool.and_eq_true, decide_eq_true_eq, decide_eq_true_eq, Nat.cast_le]
  by_cases hr : r.val < 64 <;> simp only [hr, dite_true, dite_false, if_true, if_false]

theorem pay5_at : k0_pay5 (F := Ideal) i qc (k0_pay19 i) rows 0#32 1#32 k m K s0 s1 (ix2 0 x)
    = max (m (ix2 0 x)) (Finset.univ.fold max ⊥ fun r => k0_pay4 (F := Ideal) i qc (k0_pay19 i) rows 0#32 1#32 k K s0 s1 (ix2 r x)) := by
  pointwise [k0_pay5]
  rw [neg_inf]

theorem pay7_at : k0_pay7 (F := Ideal) i qc (k0_pay19 i) rows 0#32 1#32 k m K s0 s1 (ix2 r x)
    = Ideal.exp (k0_pay4 (F := Ideal) i qc (k0_pay19 i) rows 0#32 1#32 k K s0 s1 (ix2 r x) - k0_pay5 (F := Ideal) i qc (k0_pay19 i) rows 0#32 1#32 k m K s0 s1 (ix2 0 x)) := by
  pointwise [k0_pay7]

theorem pay8_at : k0_pay8 (F := Ideal) i qc (k0_pay19 i) rows 0#32 1#32 k m l K s0 s1 (ix2 0 x)
    = Ideal.exp (m (ix2 0 x) - k0_pay5 (F := Ideal) i qc (k0_pay19 i) rows 0#32 1#32 k m K s0 s1 (ix2 0 x)) * l (ix2 0 x)
      + ∑ r, k0_pay7 (F := Ideal) i qc (k0_pay19 i) rows 0#32 1#32 k m K s0 s1 (ix2 r x) := by
  pointwise [k0_pay8, k0_pay6]

theorem pay9_at : k0_pay9 (F := Ideal) i qc (k0_pay19 i) rows 0#32 1#32 k m a K s0 s1 (ix2 d x)
    = Ideal.exp (m (ix2 0 x) - k0_pay5 (F := Ideal) i qc (k0_pay19 i) rows 0#32 1#32 k m K s0 s1 (ix2 0 x)) * a (ix2 d x) := by
  pointwise [k0_pay9, k0_pay6]

theorem pay125_at (p : FVec Ideal S128x512 .f32) : k0_pay125 (F := Ideal) p a V (ix2 d x)
    = a (ix2 d x) + ∑ r, V (ix3 0 d r) * p (ix2 r x) := by
  pointwise [k0_pay125]

end One

section Three
variable (k : Fin (k0_t3_loop i).trips)

theorem pay128_at : k0_pay128 (F := Ideal) i (BitVec.ofNat 32 (i 2).val) qc (k0_pay19 i) rows k K (ix2 r x)
    = if 128 * (fst i + k.val) + r.val ≤ tq i x ∧ tq i x < 128 * (fst i + k.val) + r.val + 512
        then ∑ e, K (ix2 r e) * qc (ix2 e x) else ⊥ := by
  pointwise [k0_pay128]
  have hk := k3_lt i k
  have hq := qi_lt i
  have ht : tq i x < 4096 := by unfold tq; omega
  have hf : fst i < 32 := by unfold fst; omega
  have e1 : Affine.IsInt (IntOp.addi (Scalar.muli (Scf.iv (Scalar.maxsi (Scalar.subi (BitVec.ofNat 32 (i 2).val) 4#32) 0#32) 1#32 k.val) 128#32) (BitVec.ofNat 32 r.val)) ((128 * (fst i + k.val) + r.val : ℕ) : Int) := by
    have h1 : Affine.IsInt _ (128 * ((fst i + k.val : ℕ) : Int)) := Affine.muli (iv3 i k.val hk) (lit 128 (by omega)) (by omega)
    exact Affine.addi h1 (lit r.val (by omega)) (by omega)
  have e2 := sle_of e1 (tpos i x)
  have e3 : Affine.IsInt (IntOp.subi (k0_pay19 i (ix2 0 x)) 512#32) ((tq i x : Int) - 512) :=
    Affine.subi (tpos i x) (lit 512 (by omega)) (by omega)
  have e4 := sgt_of e1 e3
  refine (congrArg₂ (fun p q => Scalar.select (Scalar.andi p q) (∑ e, K (ix2 r e) * qc (ix2 e x)) (Named.named (F := Ideal) κ "mask" (φ := .f32) 4048155338#32)) e2 e4).trans ?_
  rw [andi_bool, select_bool, mask_bot]
  refine if_congr ?_ rfl rfl
  rw [Bool.and_eq_true, decide_eq_true_eq, decide_eq_true_eq]
  omega

theorem pay129_at : k0_pay129 (F := Ideal) i (BitVec.ofNat 32 (i 2).val) qc (k0_pay19 i) rows k m K (ix2 0 x)
    = max (m (ix2 0 x)) (Finset.univ.fold max ⊥ fun r => k0_pay128 (F := Ideal) i (BitVec.ofNat 32 (i 2).val) qc (k0_pay19 i) rows k K (ix2 r x)) := by
  pointwise [k0_pay129]
  rw [neg_inf]

theorem pay132_at : k0_pay132 (F := Ideal) i (BitVec.ofNat 32 (i 2).val) qc (k0_pay19 i) rows k m l K (ix2 0 x)
    = Ideal.exp (m (ix2 0 x) - k0_pay129 (F := Ideal) i (BitVec.ofNat 32 (i 2).val) qc (k0_pay19 i) rows k m K (ix2 0 x)) * l (ix2 0 x)
      + ∑ r, Ideal.exp (k0_pay128 (F := Ideal) i (BitVec.ofNat 32 (i 2).val) qc (k0_pay19 i) rows k K (ix2 r x) - k0_pay129 (F := Ideal) i (BitVec.ofNat 32 (i 2).val) qc (k0_pay19 i) rows k m K (ix2 0 x)) := by
  pointwise [k0_pay132, k0_pay130, k0_pay131]

theorem pay133_at : k0_pay133 (F := Ideal) i (BitVec.ofNat 32 (i 2).val) qc (k0_pay19 i) rows k m a K V (ix2 d x)
    = Ideal.exp (m (ix2 0 x) - k0_pay129 (F := Ideal) i (BitVec.ofNat 32 (i 2).val) qc (k0_pay19 i) rows k m K (ix2 0 x)) * a (ix2 d x)
      + ∑ r, V (ix3 0 d r) * Ideal.exp (k0_pay128 (F := Ideal) i (BitVec.ofNat 32 (i 2).val) qc (k0_pay19 i) rows k K (ix2 r x) - k0_pay129 (F := Ideal) i (BitVec.ofNat 32 (i 2).val) qc (k0_pay19 i) rows k m K (ix2 0 x)) := by
  pointwise [k0_pay133, k0_pay130, k0_pay131]

end Three
end Tile

end Cert.Proof.Attn

end
-- ==== Proof.Runs.lean ====
/- After any number of trips of the kernel's two counted loops, the three carried values are the running maximum,
   denominator and numerator (`Flash.top`, `den`, `num`) of the scores so far. -/
module

public import proofs.«01_k».proof.Proof.Tiles

@[expose] public section

set_option maxRecDepth 16384

noncomputable section

namespace Cert.Proof.Attn

open Cert.KernelIdeal Cert.KernelIdeal.Gen Idealize.ShloMosaic Idealize.ShloMosaic.TcCoe Idealize.SL.Sem
open Cert.Proof.Flash

/-- The product of key row `n` and query column `x`. -/
def dotp (K : Vec Ideal S4096x64 .bf16) (qc : FVec Ideal S64x512 .bf16) (x : Fin 512) (n : Fin 4096) : EReal :=
  ∑ e : Fin 64, K (ix2 n e) * qc (ix2 e x)

/-- The score of key `n` in the selected branch. -/
def selS (i : grid0.Coords) (K : Vec Ideal S4096x64 .bf16) (qc : FVec Ideal S64x512 .bf16) (Sel : Vec Ideal S64x128 .f32) (x : Fin 512) (n : ℕ) : EReal :=
  if h : n < 4096 then
    if n ≤ tq i x ∧ half < Sel (ix2 ⟨n / 64, by omega⟩ ⟨x.val % 128, by omega⟩) then dotp K qc x ⟨n, h⟩ else ⊥
  else ⊥

/-- The score of key `o + n` in the sliding-window branch. -/
def winS (i : grid0.Coords) (K : Vec Ideal S4096x64 .bf16) (qc : FVec Ideal S64x512 .bf16) (x : Fin 512) (n : ℕ) : EReal :=
  if h : 128 * fst i + n < 4096 then
    if 128 * fst i + n ≤ tq i x ∧ tq i x < 128 * fst i + n + 512 then dotp K qc x ⟨128 * fst i + n, h⟩ else ⊥
  else ⊥

/-- Element `d` of the value of key `o + n`. -/
def valS (V : Vec Ideal S1x64x4096 .bf16) (o : ℕ) (d : Fin 64) (n : ℕ) : EReal :=
  if h : o + n < 4096 then V (ix3 0 d ⟨o + n, h⟩) else 0

section Loads
variable (c : Dev nD) (i : grid0.Coords)
  (arg3 : Memref sig .tc .vmem S1x256x128 .bf16) (harg3 : arg3.IsWhole)
  (arg4 : Memref sig .tc .vmem S1x64x4096 .bf16) (harg4 : arg4.IsWhole)
  (arg5 : Memref sig .tc .vmem S1x64x4096 .bf16) (harg5 : arg5.IsWhole)
  (arg6 : Memref sig .tc .vmem S1x64x4096 .bf16) (harg6 : arg6.IsWhole)
  (arg7 : Memref sig .tc .vmem S1x64x4096 .bf16) (harg7 : arg7.IsWhole)
  (arg8 : Memref sig .tc .vmem S1x1x256x64 .bf16) (harg8 : arg8.IsWhole)
  (arg9 : Memref sig .tc .vmem S1x1x64x256 .bf16) (harg9 : arg9.IsWhole)
  (arg10 : Memref sig .tc .vmem S1x128x128 .f32) (harg10 : arg10.IsWhole)
  (arg11 : Memref sig .tc .vmem S64x1024 .bf16) (harg11 : arg11.IsWhole)
  (arg12 : Memref sig .tc .vmem S1x256x128 .f32) (harg12 : arg12.IsWhole)
  (arg13 : Memref sig .tc .vmem S4096x64 .bf16) (harg13 : arg13.IsWhole)
  (arg14 : Memref sig .tc .vmem S4096x64 .bf16) (harg14 : arg14.IsWhole)
  (arg15 : Memref sig .tc .vmem S64x128 .f32) (harg15 : arg15.IsWhole)
  (arg16 : Memref sig .tc .vmem S128x128 .f32) (harg16 : arg16.IsWhole)
  (X5 : BufTy.Contents (Elt Ideal) arg5.view.ty) (X7 : BufTy.Contents (Elt Ideal) arg7.view.ty)
  (X13 : BufTy.Contents (Elt Ideal) arg13.view.ty) (X14 : BufTy.Contents (Elt Ideal) arg14.view.ty) (X15 : BufTy.Contents (Elt Ideal) arg15.view.ty)

theorem ld13 (k : Fin (k0_t1_loop i).trips) (h) (r : Fin 128) (d : Fin 64) :
    View.readAt (Elt Ideal) arg13.view (Rect.unit (s := S4096x64) (k0_off1 i k) S128x64.size h).toLoadRect X13 (ix2 r d)
      = arg13.view.read (Elt Ideal) X13 (ix2 ⟨128 * k.val + r.val, by have := k1_lt i k; omega⟩ d) := by
  rw [View.readAt_apply]
  refine congrArg _ (funext fun a => Fin.ext ?_)
  match a with
  | ⟨0, _⟩ => show k0_off1 i k 0 + 1 * r.val = _; rw [off1]; show 128 * k.val + 1 * r.val = 128 * k.val + r.val; omega
  | ⟨1, _⟩ => show k0_off1 i k 1 + 1 * d.val = _; rw [off1]; show 0 + 1 * d.val = d.val; omega

theorem ld14 (k : Fin (k0_t3_loop i).trips) (h) (r : Fin 128) (d : Fin 64) :
    View.readAt (Elt Ideal) arg14.view (Rect.unit (s := S4096x64) (k0_off7 i k) S128x64.size h).toLoadRect X14 (ix2 r d)
      = arg14.view.read (Elt Ideal) X14 (ix2 ⟨128 * (fst i + k.val) + r.val, by have := trips3 i; have := qi_lt i; have := k.isLt; omega⟩ d) := by
  rw [View.readAt_apply]
  refine congrArg _ (funext fun a => Fin.ext ?_)
  match a with
  | ⟨0, _⟩ => show k0_off7 i k 0 + 1 * r.val = _; rw [off7]; show 128 * (fst i + k.val) + 1 * r.val = 128 * (fst i + k.val) + r.val; omega
  | ⟨1, _⟩ => show k0_off7 i k 1 + 1 * d.val = _; rw [off7]; show 0 + 1 * d.val = d.val; omega

theorem ld15 (k : Fin (k0_t1_loop i).trips) (w : ℕ) (hw : w < 2) (h) (y : Fin 128) :
    View.readAt (Elt Ideal) arg15.view (Rect.unit (s := S64x128) (k0_off2 i k (BitVec.ofNat 32 w)) S1x128.size h).toLoadRect X15 (ix2 0 y)
      = arg15.view.read (Elt Ideal) X15 (ix2 ⟨2 * k.val + w, by have := k1_lt i k; omega⟩ y) := by
  rw [View.readAt_apply]
  refine congrArg _ (funext fun a => Fin.ext ?_)
  match a with
  | ⟨0, _⟩ => show k0_off2 i k (BitVec.ofNat 32 w) 0 + 1 * 0 = _; rw [off2 i k w hw]; rfl
  | ⟨1, _⟩ => show k0_off2 i k (BitVec.ofNat 32 w) 1 + 1 * y.val = _; rw [off2 i k w hw]; show 0 + 1 * y.val = y.val; omega

theorem ld5 (k : Fin (k0_t1_loop i).trips) (h) (r : Fin 128) (d : Fin 64) :
    View.readAt (Elt Ideal) arg5.view (Rect.unit (s := S1x64x4096) (k0_off3 i k) S1x64x128.size h).toLoadRect X5 (ix3 0 d r)
      = valS (arg5.view.read (Elt Ideal) X5) 0 d (128 * k.val + r.val) := by
  have hk := k1_lt i k
  rw [View.readAt_apply, valS, dif_pos (by omega)]
  refine congrArg _ (funext fun a => Fin.ext ?_)
  match a with
  | ⟨0, _⟩ => show k0_off3 i k 0 + 1 * 0 = _; rw [off3]; rfl
  | ⟨1, _⟩ => show k0_off3 i k 1 + 1 * d.val = _; rw [off3]; show 0 + 1 * d.val = d.val; omega
  | ⟨2, _⟩ => show k0_off3 i k 2 + 1 * r.val = _; rw [off3]; show 128 * k.val + 1 * r.val = 0 + (128 * k.val + r.val); omega

theorem ld7 (k : Fin (k0_t3_loop i).trips) (h) (r : Fin 128) (d : Fin 64) :
    View.readAt (Elt Ideal) arg7.view (Rect.unit (s := S1x64x4096) (k0_off8 i k) S1x64x128.size h).toLoadRect X7 (ix3 0 d r)
      = valS (arg7.view.read (Elt Ideal) X7) (128 * fst i) d (128 * k.val + r.val) := by
  have hk := trips3 i
  have hk' := k.isLt
  have hq := qi_lt i
  rw [View.readAt_apply, valS, dif_pos (by omega)]
  refine congrArg _ (funext fun a => Fin.ext ?_)
  match a with
  | ⟨0, _⟩ => show k0_off8 i k 0 + 1 * 0 = _; rw [off8]; rfl
  | ⟨1, _⟩ => show k0_off8 i k 1 + 1 * d.val = _; rw [off8]; show 0 + 1 * d.val = d.val; omega
  | ⟨2, _⟩ => show k0_off8 i k 2 + 1 * r.val = _; rw [off8]; show 128 * (fst i + k.val) + 1 * r.val = 128 * fst i + (128 * k.val + r.val); omega

end Loads

/-- The three carried values, at column `x`, after the first `n` keys. -/
def At (s : Fin 512 → ℕ → EReal) (v : Fin 64 → ℕ → EReal) (n : ℕ) (S : FVec Ideal S1x512 .f32 × FVec Ideal S1x512 .f32 × FVec Ideal S64x512 .f32) : Prop :=
  ∀ x : Fin 512, S.1 (ix2 0 x) = top (s x) n ∧ S.2.1 (ix2 0 x) = den (s x) n ∧ ∀ d : Fin 64, S.2.2 (ix2 d x) = num (s x) (v d) n

/-- One trip's update keeps `At`, when the tile's scores and values are the next 128 ones. -/
theorem At.step {s : Fin 512 → ℕ → EReal} {v : Fin 64 → ℕ → EReal} {n : ℕ} (hs : ∀ x k, Score (s x k))
    {S S' : FVec Ideal S1x512 .f32 × FVec Ideal S1x512 .f32 × FVec Ideal S64x512 .f32} (h : At s v n S)
    (T : Fin 128 → Fin 512 → EReal) (W : Fin 64 → Fin 128 → EReal)
    (hT : ∀ r x, T r x = s x (n + r.val)) (hW : ∀ d r, W d r = v d (n + r.val))
    (h1 : ∀ x, S'.1 (ix2 0 x) = max (S.1 (ix2 0 x)) (Finset.univ.fold max ⊥ fun r => T r x))
    (h2 : ∀ x, S'.2.1 (ix2 0 x) = Ideal.exp (S.1 (ix2 0 x) - S'.1 (ix2 0 x)) * S.2.1 (ix2 0 x) + ∑ r, Ideal.exp (T r x - S'.1 (ix2 0 x)))
    (h3 : ∀ d x, S'.2.2 (ix2 d x) = Ideal.exp (S.1 (ix2 0 x) - S'.1 (ix2 0 x)) * S.2.2 (ix2 d x) + ∑ r, W d r * Ideal.exp (T r x - S'.1 (ix2 0 x))) :
    At s v (n + 128) S' := by
  intro x
  obtain ⟨a1, a2, a3⟩ := h x
  have e1 : S'.1 (ix2 0 x) = top (s x) (n + 128) := by
    rw [h1, a1]; simp only [hT]; exact top_step n 128
  refine ⟨e1, ?_, fun d => ?_⟩
  · rw [h2, e1, a1, a2]; simp only [hT]; exact den_step (hs x) n 128
  · rw [h3, e1, a1, a3]; simp only [hT, hW]; exact num_step (hs x) n 128

/-- A trip of the selected branch keeps `At`. -/
theorem tile1 (i : grid0.Coords) (qc : FVec Ideal S64x512 .bf16) {s : Fin 512 → ℕ → EReal} {v : Fin 64 → ℕ → EReal} {n : ℕ} (hs : ∀ x k, Score (s x k))
    {S : FVec Ideal S1x512 .f32 × FVec Ideal S1x512 .f32 × FVec Ideal S64x512 .f32} (h : At s v n S)
    (k : Fin (k0_t1_loop i).trips) (K : Vec Ideal S128x64 .bf16) (s0 s1 : Vec Ideal S1x128 .f32) (V : Vec Ideal S1x64x128 .bf16)
    (hT : ∀ r x, k0_pay4 (F := Ideal) i qc (k0_pay19 i) rows 0#32 1#32 k K s0 s1 (ix2 r x) = s x (n + r.val))
    (hW : ∀ d r, V (ix3 0 d r) = v d (n + r.val)) :
    At s v (n + 128) (k0_pay5 (F := Ideal) i qc (k0_pay19 i) rows 0#32 1#32 k S.1 K s0 s1,
      k0_pay8 (F := Ideal) i qc (k0_pay19 i) rows 0#32 1#32 k S.1 S.2.1 K s0 s1,
      k0_pay125 (F := Ideal) (k0_pay7 (F := Ideal) i qc (k0_pay19 i) rows 0#32 1#32 k S.1 K s0 s1)
        (k0_pay9 (F := Ideal) i qc (k0_pay19 i) rows 0#32 1#32 k S.1 S.2.2 K s0 s1) V) := by
  refine h.step hs (fun r x => k0_pay4 (F := Ideal) i qc (k0_pay19 i) rows 0#32 1#32 k K s0 s1 (ix2 r x)) (fun d r => V (ix3 0 d r)) hT hW ?_ ?_ ?_
  · exact fun x => pay5_at i qc K x S.1 k s0 s1
  · intro x
    dsimp only
    rw [pay8_at]
    simp only [pay7_at]
  · intro d x
    dsimp only
    rw [pay125_at, pay9_at]
    simp only [pay7_at]

/-- A trip of the sliding-window branch keeps `At`. -/
theorem tile3 (i : grid0.Coords) (qc : FVec Ideal S64x512 .bf16) {s : Fin 512 → ℕ → EReal} {v : Fin 64 → ℕ → EReal} {n : ℕ} (hs : ∀ x k, Score (s x k))
    {S : FVec Ideal S1x512 .f32 × FVec Ideal S1x512 .f32 × FVec Ideal S64x512 .f32} (h : At s v n S)
    (k : Fin (k0_t3_loop i).trips) (K : Vec Ideal S128x64 .bf16) (V : Vec Ideal S1x64x128 .bf16)
    (hT : ∀ r x, k0_pay128 (F := Ideal) i (BitVec.ofNat 32 (i 2).val) qc (k0_pay19 i) rows k K (ix2 r x) = s x (n + r.val))
    (hW : ∀ d r, V (ix3 0 d r) = v d (n + r.val)) :
    At s v (n + 128) (k0_pay129 (F := Ideal) i (BitVec.ofNat 32 (i 2).val) qc (k0_pay19 i) rows k S.1 K,
      k0_pay132 (F := Ideal) i (BitVec.ofNat 32 (i 2).val) qc (k0_pay19 i) rows k S.1 S.2.1 K,
      k0_pay133 (F := Ideal) i (BitVec.ofNat 32 (i 2).val) qc (k0_pay19 i) rows k S.1 S.2.2 K V) :=
  h.step hs (fun r x => k0_pay128 (F := Ideal) i (BitVec.ofNat 32 (i 2).val) qc (k0_pay19 i) rows k K (ix2 r x)) (fun d r => V (ix3 0 d r)) hT hW
    (fun x => pay129_at i qc K x S.1 k) (fun x => pay132_at i qc K x S.1 S.2.1 k) (fun d x => pay133_at i qc K x d S.1 S.2.2 V k)

section Run
variable (c : Dev nD) (i : grid0.Coords)
  (arg3 : Memref sig .tc .vmem S1x256x128 .bf16) (harg3 : arg3.IsWhole)
  (arg4 : Memref sig .tc .vmem S1x64x4096 .bf16) (harg4 : arg4.IsWhole)
  (arg5 : Memref sig .tc .vmem S1x64x4096 .bf16) (harg5 : arg5.IsWhole)
  (arg6 : Memref sig .tc .vmem S1x64x4096 .bf16) (harg6 : arg6.IsWhole)
  (arg7 : Memref sig .tc .vmem S1x64x4096 .bf16) (harg7 : arg7.IsWhole)
  (arg8 : Memref sig .tc .vmem S1x1x256x64 .bf16) (harg8 : arg8.IsWhole)
  (arg9 : Memref sig .tc .vmem S1x1x64x256 .bf16) (harg9 : arg9.IsWhole)
  (arg10 : Memref sig .tc .vmem S1x128x128 .f32) (harg10 : arg10.IsWhole)
  (arg11 : Memref sig .tc .vmem S64x1024 .bf16) (harg11 : arg11.IsWhole)
  (arg12 : Memref sig .tc .vmem S1x256x128 .f32) (harg12 : arg12.IsWhole)
  (arg13 : Memref sig .tc .vmem S4096x64 .bf16) (harg13 : arg13.IsWhole)
  (arg14 : Memref sig .tc .vmem S4096x64 .bf16) (harg14 : arg14.IsWhole)
  (arg15 : Memref sig .tc .vmem S64x128 .f32) (harg15 : arg15.IsWhole)
  (arg16 : Memref sig .tc .vmem S128x128 .f32) (harg16 : arg16.IsWhole)
  (𝒱 : Variants) (bd : Option 𝒱.V) (arg1 : BitVec 32) (qc : FVec Ideal S64x512 .bf16)
  (w1 w2 : FVec Ideal S1x512 .f32) (w3 : FVec Ideal S64x512 .f32) (init : FVec Ideal S1x512 .f32 × FVec Ideal S1x512 .f32 × FVec Ideal S64x512 .f32)
  (X5 : BufTy.Contents (Elt Ideal) arg5.view.ty) (X7 : BufTy.Contents (Elt Ideal) arg7.view.ty)
  (X13 : BufTy.Contents (Elt Ideal) arg13.view.ty) (X14 : BufTy.Contents (Elt Ideal) arg14.view.ty) (X15 : BufTy.Contents (Elt Ideal) arg15.view.ty)

/-- The carried values after `k` trips of the selected branch. -/
theorem run1 (hs : ∀ x n, Score (selS i (arg13.view.read (Elt Ideal) X13) qc (arg15.view.read (Elt Ideal) X15) x n))
    (h0 : At (selS i (arg13.view.read (Elt Ideal) X13) qc (arg15.view.read (Elt Ideal) X15)) (valS (arg5.view.read (Elt Ideal) X5) 0) 0 init) :
    ∀ k ≤ (k0_t1_loop i).trips, At (selS i (arg13.view.read (Elt Ideal) X13) qc (arg15.view.read (Elt Ideal) X15)) (valS (arg5.view.read (Elt Ideal) X5) 0) (128 * k)
      (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 (BitVec.ofNat 32 (i 2).val) qc (k0_pay19 i) rows w1 w2 w3 X5 X13 X15 init k) := by
  intro k
  induction k with
  | zero => intro _; rw [st_k0_t1_zero]; exact h0
  | succ k ih =>
    intro hk
    have hk32 := k1_lt i ⟨k, hk⟩
    rw [show k + 1 = (⟨k, hk⟩ : Fin (k0_t1_loop i).trips).val + 1 from rfl, st_k0_t1_succ]
    unfold tripR_k0_t1 trip_k0_t1
    dsimp only
    refine tile1 i qc hs (ih (by omega)) ⟨k, hk⟩ _ _ _ _ ?_ ?_
    · intro r x
      have hr : 128 * k + r.val < 4096 := by have := r.isLt; dsimp only at hk32; omega
      rw [pay4_at, selS, dif_pos hr]
      refine if_congr (and_congr Iff.rfl (iff_of_eq (congrArg (half < ·) ?_))) ?_ rfl
      · by_cases h64 : r.val < 64
        · rw [if_pos h64]
          refine (ld15 i arg15 X15 ⟨k, hk⟩ 0 (by omega) _ _).trans (congrArg _ (congrArg (fun a => ix2 a _) (Fin.ext ?_)))
          show 2 * k + 0 = (128 * k + r.val) / 64; omega
        · rw [if_neg h64]
          refine (ld15 i arg15 X15 ⟨k, hk⟩ 1 (by omega) _ _).trans (congrArg _ (congrArg (fun a => ix2 a _) (Fin.ext ?_)))
          show 2 * k + 1 = (128 * k + r.val) / 64; have := r.isLt; omega
      · exact Finset.sum_congr rfl fun e _ => congrArg (· * qc (ix2 e x)) (ld13 i arg13 X13 ⟨k, hk⟩ _ r e)
    · exact fun d r => ld5 i arg5 X5 ⟨k, hk⟩ _ r d

/-- The carried values after `k` trips of the sliding-window branch. -/
theorem run3 (hs : ∀ x n, Score (winS i (arg14.view.read (Elt Ideal) X14) qc x n))
    (h0 : At (winS i (arg14.view.read (Elt Ideal) X14) qc) (valS (arg7.view.read (Elt Ideal) X7) (128 * fst i)) 0 init) :
    ∀ k ≤ (k0_t3_loop i).trips, At (winS i (arg14.view.read (Elt Ideal) X14) qc) (valS (arg7.view.read (Elt Ideal) X7) (128 * fst i)) (128 * k)
      (st_k0_t3 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg1 (BitVec.ofNat 32 (i 2).val) qc (k0_pay19 i) rows w1 w2 w3 X7 X14 init k) := by
  intro k
  induction k with
  | zero => intro _; rw [st_k0_t3_zero]; exact h0
  | succ k ih =>
    intro hk
    have hk3 := trips3 i
    have hq := qi_lt i
    rw [show k + 1 = (⟨k, hk⟩ : Fin (k0_t3_loop i).trips).val + 1 from rfl, st_k0_t3_succ]
    unfold tripR_k0_t3 trip_k0_t3
    dsimp only
    refine tile3 i qc hs (ih (by omega)) ⟨k, hk⟩ _ _ ?_ ?_
    · intro r x
      have hr : 128 * fst i + (128 * k + r.val) < 4096 := by have := r.isLt; omega
      rw [pay128_at, winS, dif_pos hr]
      refine if_congr ?_ ?_ rfl
      · dsimp only; omega
      · refine Finset.sum_congr rfl fun e _ => congrArg (· * qc (ix2 e x)) ((ld14 i arg14 X14 ⟨k, hk⟩ _ r e).trans ?_)
        refine congrArg _ (congrArg (fun a => ix2 a e) (Fin.ext ?_))
        show 128 * (fst i + k) + r.val = 128 * fst i + (128 * k + r.val); omega
    · exact fun d r => ld7 i arg7 X7 ⟨k, hk⟩ _ r d

end Run

end Cert.Proof.Attn

end
-- ==== Proof.Sort.lean ====
/- A stable descending sort of 64 values: position `r` of the sort holds the value that has exactly `r` others before it,
   where the greater comes before, and of equals the lower number. -/
module

public import Idealize.ShloMosaic.Lib.SortFacts
public import Idealize.ShloMosaic.Lib.ValueIdx

@[expose] public section

noncomputable section

namespace Cert.Proof.Attn

open Idealize.ShloMosaic

variable {N : ℕ}

/-- Does `n` come before `j`, by value and then by number? -/
def Before (f : Fin N → EReal) (n j : Fin N) : Prop := f j < f n ∨ (f j = f n ∧ n < j)

instance (f : Fin N → EReal) (n j : Fin N) : Decidable (Before f n j) := Classical.dec _

theorem before_irrefl (f : Fin N → EReal) (a : Fin N) : ¬ Before f a a := by
  rintro (h | ⟨-, h⟩) <;> exact lt_irrefl _ h

theorem before_trans (f : Fin N → EReal) {a b c : Fin N} (h : Before f a b) (h' : Before f b c) : Before f a c := by
  rcases h with h | ⟨e, h⟩ <;> rcases h' with h' | ⟨e', h'⟩
  · exact .inl (h'.trans h)
  · exact .inl (e' ▸ h)
  · exact .inl (e ▸ h')
  · exact .inr ⟨e'.trans e, h.trans h'⟩

theorem before_total (f : Fin N → EReal) {a b : Fin N} (h : a ≠ b) : Before f a b ∨ Before f b a := by
  rcases lt_trichotomy (f a) (f b) with k | k | k
  · exact .inr (.inl k)
  · rcases lt_or_gt_of_ne h with l | l
    · exact .inl (.inr ⟨k.symm, l⟩)
    · exact .inr (.inr ⟨k, l⟩)
  · exact .inl (.inl k)

/-- The insertion sort reads its order only from later to earlier elements. -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The sort by value alone is the sort by value and then number. -/
theorem sorted_eq (f : Fin N → EReal) :
    sortedFrom (fun k k' => decide (f k' < f k)) = sortedFrom (fun k k' => decide (Before f k k')) := by
  have h : sortPositions N (fun k k' => decide (f k' < f k)) = sortPositions N (fun k k' => decide (Before f k k')) :=
    stableSort_later _ _ _ ((List.pairwise_lt_finRange N).imp fun {a b} hab => by
      refine decide_eq_decide.mpr ⟨.inl, ?_⟩
      rintro (h | ⟨-, h⟩)
      · exact h
      · exact absurd h (not_lt.mpr hab.le))
  funext k
  unfold sortedFrom
  rw [List.get_of_eq h]
  rfl

/-- The number that the sort puts at position `r`. -/
def top_i (f : Fin N → EReal) (r : Fin N) : Fin N := sortedFrom (fun k k' => decide (f k' < f k)) r

theorem top_inj (f : Fin N → EReal) : Function.Injective (top_i f) := sortedFrom_injective _

theorem top_lt (f : Fin N → EReal) {r r' : Fin N} (h : r < r') : Before f (top_i f r) (top_i f r') := by
  have hn : ¬ Before f (top_i f r') (top_i f r) := by
    have := sortedFrom_noInversion (fun k k' => decide (Before f k k')) (fun k k' => decide (Before f k k'))
      (fun a b hab => decide_eq_false fun hba => before_irrefl f a (before_trans f (of_decide_eq_true hab) hba))
      (fun _ _ h => h)
      (fun a b c hab hbc => by
        refine decide_eq_false fun hac => ?_
        have hab := of_decide_eq_false hab
        have hbc := of_decide_eq_false hbc
        by_cases e : a = b
        · exact hbc (e ▸ hac)
        · rcases before_total f e with k | k
          · exact hab k
          · exact hbc (before_trans f k hac))
      r r' h
    rw [← sorted_eq] at this
    exact of_decide_eq_false this
  rcases before_total f (fun e => (ne_of_lt h) (top_inj f e)) with k | k
  · exact k
  · exact absurd k hn

theorem top_before (f : Fin N → EReal) (r r' : Fin N) : Before f (top_i f r) (top_i f r') ↔ r < r' := by
  refine ⟨fun h => ?_, top_lt f⟩
  by_contra k
  rcases eq_or_lt_of_le (not_lt.mp k) with e | e
  · exact before_irrefl f _ (e ▸ h)
  · exact before_irrefl f _ (before_trans f h (top_lt f e))

/-- Position `r` holds the number with exactly `r` before it. -/
theorem top_count (f : Fin N → EReal) (r : Fin N) : (Finset.univ.filter fun n => Before f n (top_i f r)).card = r.val := by
  have hb : Function.Bijective (top_i f) := Finite.injective_iff_bijective.mp (top_inj f)
  rw [← Fin.card_Iio r]
  refine (Finset.card_bij (fun a _ => top_i f a) ?_ ?_ ?_).symm
  · intro a ha; simpa [top_before] using ha
  · intro a _ b _ h; exact top_inj f h
  · intro b hbm
    obtain ⟨a, rfl⟩ := hb.surjective b
    exact ⟨a, by simpa [top_before] using hbm, rfl⟩

/-- A number has fewer than `K` before it exactly when one of the first `K` positions holds it. -/
theorem count_lt (f : Fin N → EReal) (K : ℕ) (j : Fin N) :
    (Finset.univ.filter fun n => Before f n j).card < K ↔ ∃ r : Fin N, r.val < K ∧ top_i f r = j := by
  obtain ⟨r, rfl⟩ := (Finite.injective_iff_bijective.mp (top_inj f)).surjective j
  rw [top_count]
  exact ⟨fun h => ⟨r, h, rfl⟩, fun ⟨r', h, e⟩ => top_inj f e ▸ h⟩

end Cert.Proof.Attn
-- ==== Proof.Rank.lean ====
/- The selection of key blocks. The kernel counts, for every block, the blocks that come before it by importance; the
   64 steps of the count are one step repeated, and the block is taken when the count is below 16. -/
module

public import proofs.«01_k».proof.Proof.Runs
public import proofs.«01_k».proof.Proof.Sort
public import Idealize.ShloMosaic.Lib.KernelVsHost
public import Idealize.ShloMosaic.Lib.Pointwise
public import Idealize.ShloMosaic.Lib.ValueIdx

@[expose] public section

set_option maxRecDepth 16384

noncomputable section

namespace Cert.Proof.Attn

open Cert.KernelIdeal Cert.KernelIdeal.Gen Idealize.ShloMosaic Idealize.ShloMosaic.TcCoe Idealize.SL.Sem
open Cert.Proof.Flash

/-- The block numbers. -/
abbrev blks : IVec S64x1 32 := iota Kind.tc S64x1 32 [0] iota_S64x1_d0_w32

theorem row_slice (n : ℕ) (h : n < 64) : S64x128.Slices ![n, 0] S1x128 :=
  ⟨rfl, fun a => by match a with | 0 => exact h | 1 => exact le_refl 128⟩

/-- One step of the count: does block `n` come before the block of the row? -/
def stepF (I : FVec Ideal S64x128 .f32) (n : ℕ) (h : n < 64) : FVec Ideal S64x128 .f32 :=
  select (broadcastTo S64x128 (shapeCast S64x1 (cmpi .sgt blks (broadcast S64x1 (BitVec.ofNat 32 n))) shapeCasts_S64x1_S64x1) broadcasts_S64x1_S64x128)
    (select (cmpf .oge (broadcastTo S64x128 (extractStridedSlice S1x128 ![n, 0] I (row_slice n h)) broadcasts_S1x128_S64x128) I)
      (broadcast S64x128 (Scalar.ofBits .f32 0x3F800000#32)) (broadcast S64x128 (Scalar.ofBits .f32 0x00000000#32)))
    (select (cmpf .ogt (broadcastTo S64x128 (extractStridedSlice S1x128 ![n, 0] I (row_slice n h)) broadcasts_S1x128_S64x128) I)
      (broadcast S64x128 (Scalar.ofBits .f32 0x3F800000#32)) (broadcast S64x128 (Scalar.ofBits .f32 0x00000000#32)))

/-- The count after `n` steps. -/
def rankF (I : FVec Ideal S64x128 .f32) : (n : ℕ) → n ≤ 64 → FVec Ideal S64x128 .f32
  | 0, _ => broadcast S64x128 (Scalar.ofBits .f32 0x00000000#32)
  | n + 1, h => addf (rankF I n (by omega)) (stepF I n h)

/-- The selection: 1 where the count is below 16 and the block is causal, else 0. -/
def selF (C : IVec S64x128 1) (I : FVec Ideal S64x128 .f32) : FVec Ideal S64x128 .f32 :=
  shapeCast S64x128 (select (andi (cmpf .olt (rankF I 64 le_rfl) (broadcast S64x128 (Scalar.ofBits .f32 0x41800000#32))) C)
    (broadcast S64x128 (Scalar.ofBits .f32 0x3F800000#32)) (broadcast S64x128 (Scalar.ofBits .f32 0x00000000#32))) shapeCasts_S64x128_S64x128

section Terms
variable (c : Dev nD) (i : grid0.Coords)
  (arg3 : Memref sig .tc .vmem S1x256x128 .bf16) (harg3 : arg3.IsWhole)
  (arg4 : Memref sig .tc .vmem S1x64x4096 .bf16) (harg4 : arg4.IsWhole)
  (arg5 : Memref sig .tc .vmem S1x64x4096 .bf16) (harg5 : arg5.IsWhole)
  (arg6 : Memref sig .tc .vmem S1x64x4096 .bf16) (harg6 : arg6.IsWhole)
  (arg7 : Memref sig .tc .vmem S1x64x4096 .bf16) (harg7 : arg7.IsWhole)
  (arg8 : Memref sig .tc .vmem S1x1x256x64 .bf16) (harg8 : arg8.IsWhole)
  (arg9 : Memref sig .tc .vmem S1x1x64x256 .bf16) (harg9 : arg9.IsWhole)
  (arg10 : Memref sig .tc .vmem S1x128x128 .f32) (harg10 : arg10.IsWhole)
  (arg11 : Memref sig .tc .vmem S64x1024 .bf16) (harg11 : arg11.IsWhole)
  (arg12 : Memref sig .tc .vmem S1x256x128 .f32) (harg12 : arg12.IsWhole)
  (arg13 : Memref sig .tc .vmem S4096x64 .bf16) (harg13 : arg13.IsWhole)
  (arg14 : Memref sig .tc .vmem S4096x64 .bf16) (harg14 : arg14.IsWhole)
  (arg15 : Memref sig .tc .vmem S64x128 .f32) (harg15 : arg15.IsWhole)
  (arg16 : Memref sig .tc .vmem S128x128 .f32) (harg16 : arg16.IsWhole)
variable (x0 : Vec Ideal S1x256x128 .bf16) (x1 x2 x3 x4 : Vec Ideal S1x64x4096 .bf16) (x5 : Vec Ideal S1x1x256x64 .bf16)
  (x6 : Vec Ideal S1x1x64x256 .bf16) (x7 : Vec Ideal S1x128x128 .f32) (x8 : Vec Ideal S64x1024 .bf16) (xs0 xs1 : Vec Ideal S4096x64 .bf16)

/-- The store of the selection is the one of `selF`. -/
theorem sel_B : kernelRun0_B.sl.HS2_1 (F := Ideal) c i arg3 harg3 arg8 harg8 arg11 harg11 x0 x5 x8
    = [⟨Rect.unit ![0, 0] S64x128.size inb_S64x128_S64x128_0_0, selF (kernelRun0_B.sl.r_2 i) (kernelRun0_B.sl.r_5 c i arg3 harg3 arg8 harg8 arg11 harg11 x0 x5 x8)⟩] := rfl

/-- The store of the selection is the one of `selF`. -/
theorem sel_A : kernelRun0_A.sl.HS2_1 (F := Ideal) c i arg3 harg3 arg8 harg8 arg11 harg11 x0 x5 x8
    = [⟨Rect.unit ![0, 0] S64x128.size inb_S64x128_S64x128_0_0, selF (kernelRun0_A.sl.r_2 i) (kernelRun0_A.sl.r_5 c i arg3 harg3 arg8 harg8 arg11 harg11 x0 x5 x8)⟩] := rfl

end Terms

theorem one_f : (Ideal.ofBits FTy.f32 0x3F800000#32 : EReal) = 1 := by
  rw [show (Ideal.ofBits FTy.f32 0x3F800000#32 : EReal) = ((1:ℝ):EReal) by simp [Ideal.ofBits, Ideal.ieee]; norm_cast; norm_num]; rfl
theorem zero_f : (Ideal.ofBits FTy.f32 0x00000000#32 : EReal) = 0 := by simp [Ideal.ofBits, Ideal.ieee]

theorem step_at (I : FVec Ideal S64x128 .f32) (n : ℕ) (h : n < 64) (j : Fin 64) (x : Fin 128) :
    stepF I n h (ix2 j x) = if Before (fun j => I (ix2 j x)) ⟨n, h⟩ j then (1 : EReal) else 0 := by
  pointwise [stepF]
  have e : IntOp.cmpi CmpIPredicate.sgt (BitVec.ofNat 32 j.val) (BitVec.ofNat 32 n) = BitVec.ofBool (decide ((n : Int) < (j.val : Int))) :=
    sgt_of (lit j.val (by omega)) (lit n (by omega))
  rw [e, select_bool]
  simp only [Before]
  by_cases h1 : I (ix2 j x) < I (ix2 ⟨n, h⟩ x)
  · simp [h1, h1.le]
  · rcases eq_or_ne (I (ix2 j x)) (I (ix2 ⟨n, h⟩ x)) with h2 | h2
    · by_cases h3 : n < j.val <;> simp [h2, h3, Fin.lt_def]
    · have h3 : ¬ I (ix2 j x) ≤ I (ix2 ⟨n, h⟩ x) := fun k => h1 (lt_of_le_of_ne k h2)
      simp [h1, h2, h3]

/-- The count after `n` steps is the number of blocks below `n` that come before. -/
theorem rank_at (I : FVec Ideal S64x128 .f32) (j : Fin 64) (x : Fin 128) : ∀ (n : ℕ) (h : n ≤ 64),
    rankF I n h (ix2 j x) = (((Finset.univ.filter fun m : Fin 64 => m.val < n ∧ Before (fun j => I (ix2 j x)) m j).card : ℕ) : EReal)
  | 0, _ => by simp [rankF, broadcast, zero_f]
  | n + 1, h => by
    have hs : rankF I (n + 1) h (ix2 j x) = rankF I n (by omega) (ix2 j x) + stepF I n h (ix2 j x) := rfl
    rw [hs, rank_at I j x n, step_at]
    by_cases hb : Before (fun j => I (ix2 j x)) ⟨n, h⟩ j
    · have he : (Finset.univ.filter fun m : Fin 64 => m.val < n + 1 ∧ Before (fun j => I (ix2 j x)) m j)
          = insert (⟨n, h⟩ : Fin 64) (Finset.univ.filter fun m : Fin 64 => m.val < n ∧ Before (fun j => I (ix2 j x)) m j) := by
        ext m
        simp only [Finset.mem_filter, Finset.mem_univ, true_and, Finset.mem_insert]
        constructor
        · rintro ⟨h1, h2⟩
          by_cases h3 : m.val = n
          · exact .inl (Fin.ext h3)
          · exact .inr ⟨by omega, h2⟩
        · rintro (h1 | ⟨h1, h2⟩)
          · subst h1; exact ⟨by simp, hb⟩
          · exact ⟨by omega, h2⟩
      rw [if_pos hb, he, Finset.card_insert_of_notMem (by simp)]
      push_cast; rfl
    · have he : (Finset.univ.filter fun m : Fin 64 => m.val < n + 1 ∧ Before (fun j => I (ix2 j x)) m j)
          = (Finset.univ.filter fun m : Fin 64 => m.val < n ∧ Before (fun j => I (ix2 j x)) m j) := by
        ext m
        simp only [Finset.mem_filter, Finset.mem_univ, true_and]
        refine ⟨fun ⟨h1, h2⟩ => ⟨?_, h2⟩, fun ⟨h1, h2⟩ => ⟨by omega, h2⟩⟩
        rcases Nat.lt_or_ge m.val n with k | k
        · exact k
        · exact absurd h2 (by rw [show m = ⟨n, h⟩ from Fin.ext (by simp only []; omega)]; exact hb)
      rw [if_neg hb, he, add_zero]

theorem sixteen_f : (Ideal.ofBits FTy.f32 0x41800000#32 : EReal) = ((16 : ℕ) : EReal) := by
  rw [show (Ideal.ofBits FTy.f32 0x41800000#32 : EReal) = ((16 : ℝ) : EReal) by simp [Ideal.ofBits, Ideal.ieee]; norm_cast; norm_num]
  norm_cast

theorem half_f : half = ((1 / 2 : ℝ) : EReal) := by
  simp [half, Ideal.ofBits, Ideal.ieee]; norm_cast; norm_num

/-- The threshold on the selection: fewer than 16 blocks come before, and the block is causal. -/
theorem sel_at (C : IVec S64x128 1) (b : Bool) (I : FVec Ideal S64x128 .f32) (j : Fin 64) (x : Fin 128)
    (hC : C (ix2 j x) = BitVec.ofBool b) : half < selF C I (ix2 j x)
      ↔ (Finset.univ.filter fun m => Before (fun j => I (ix2 j x)) m j).card < 16 ∧ b = true := by
  have e : selF C I (ix2 j x) = Scalar.select (IntOp.andi (FloatOps.cmpf (F := Ideal) (φ := .f32) .olt (rankF I 64 le_rfl (ix2 j x)) (Ideal.ofBits .f32 0x41800000#32)) (C (ix2 j x))) (1 : EReal) 0 := by
    pointwise [selF]
  rw [e, hC]
  pointwise []
  rw [rank_at, sixteen_f, show ∀ p q, IntOp.andi (BitVec.ofBool p) (BitVec.ofBool q) = BitVec.ofBool (p && q) from andi_bool, select_bool, half_f]
  have hc : (Finset.univ.filter fun m : Fin 64 => m.val < 64 ∧ Before (fun j => I (ix2 j x)) m j) = Finset.univ.filter fun m => Before (fun j => I (ix2 j x)) m j := by
    ext m; simp
  have h1 : (((1 / 2 : ℝ) : EReal)) < 1 := by exact_mod_cast (by norm_num : (1 / 2 : ℝ) < 1)
  have h0 : ¬ (((1 / 2 : ℝ) : EReal)) < 0 := by exact_mod_cast (by norm_num : ¬ (1 / 2 : ℝ) < 0)
  rw [hc]
  have hn : ∀ a b : ℕ, ((a : EReal) < (b : EReal)) ↔ a < b := fun a b => by exact_mod_cast Iff.rfl
  simp only [hn, Bool.and_eq_true, decide_eq_true_eq]
  split_ifs with h
  · exact ⟨fun _ => h, fun _ => h1⟩
  · exact ⟨fun k => absurd k h0, fun k => absurd k h⟩

section Words

/-- The block of a position. -/
theorem shift6 {w : BitVec 32} {n : ℕ} (hw : Affine.IsInt w (n : Int)) (hn : n < 4096) : Affine.IsInt (IntOp.shrsi .vector w 6#32) ((n / 64 : ℕ) : Int) := by
  rw [shrsi_unit .vector .scalar]
  exact Affine.shrsi hw (lit 6 (by omega)) 6 64 (by norm_num) ⟨by push_cast; rfl, by norm_num, by omega⟩

variable (i : grid0.Coords) (j : Fin 64) (x : Fin 128)

theorem v19_at : Affine.IsInt (k0_pay20 i (ix2 0 x)) ((128 * (i 2).val + x.val : ℕ) : Int) := by
  pointwise [k0_pay20]
  have h := qi_lt i
  have h1 : Affine.IsInt (BitVec.ofNat 32 (i 2).val) (((i 2).val : Int)) := Affine.ofNat _ (by omega)
  have h2 : Affine.IsInt 128#32 128 := Affine.ofNat _ (by omega)
  have h3 : Affine.IsInt _ (128 * ((i 2).val : Int)) := Affine.muli h1 h2 (by omega)
  exact Affine.addi h3 (lit x.val (by omega)) (by omega)

theorem tb_at : Affine.IsInt (IntOp.shrsi .vector (k0_pay20 i (ix2 0 x)) 6#32) (((128 * (i 2).val + x.val) / 64 : ℕ) : Int) :=
  shift6 (v19_at i x) (by have := qi_lt i; omega)

theorem causal_at : k0_pay28 (k0_pay20 i) (ix2 j x) = BitVec.ofBool (decide (64 * j.val ≤ 128 * (i 2).val + x.val)) := by
  pointwise [k0_pay28, k0_pay27]
  refine (sle_of (lit j.val (by omega)) (tb_at i x)).trans (congrArg _ (decide_eq_decide.mpr ?_))
  omega

/-- The importance with the first block and the last two forced. -/
def impS (t : ℕ) (R : Fin 64 → EReal) (j : Fin 64) : EReal :=
  if 64 * j.val ≤ t then if j.val = 0 ∨ j.val = t / 64 ∨ j.val + 1 = t / 64 then Ideal.ofBits FTy.f32 0x7149F2CA#32 else R j else ⊥

theorem imp_at (R : FVec Ideal S64x128 .f32) :
    k0_pay32 R (k0_pay28 (k0_pay20 i)) (k0_pay29 (k0_pay20 i)) k0_pay30 (k0_pay31 (k0_pay20 i)) (ix2 j x)
      = impS (128 * (i 2).val + x.val) (fun j => R (ix2 j x)) j := by
  pointwise [k0_pay32, k0_pay28, k0_pay29, k0_pay30, k0_pay31, k0_pay27]
  have ht := tb_at i x
  have hq := qi_lt i
  have e1 : IntOp.cmpi CmpIPredicate.sle (BitVec.ofNat 32 j.val) _ = BitVec.ofBool _ := sle_of (lit j.val (by omega)) ht
  have e2 : IntOp.cmpi CmpIPredicate.eq (BitVec.ofNat 32 j.val) 0#32 = BitVec.ofBool _ := eq_of (lit j.val (by omega)) (lit 0 (by omega))
  have e3 : IntOp.cmpi CmpIPredicate.eq (BitVec.ofNat 32 j.val) _ = BitVec.ofBool _ := eq_of (lit j.val (by omega)) ht
  have e4 : IntOp.cmpi CmpIPredicate.eq (BitVec.ofNat 32 j.val) (IntOp.subi _ 1#32) = BitVec.ofBool _ :=
    eq_of (lit j.val (by omega)) (Affine.subi (e := (((128 * (i 2).val + x.val) / 64 : ℕ) : Int) - 1) ht (lit 1 (by omega)) (by omega))
  rw [e1, e2, e3, e4]
  simp only [show ∀ p q, IntOp.ori (BitVec.ofBool p) (BitVec.ofBool q) = BitVec.ofBool (p || q) from ori_bool, select_bool, mask_bot,
    Bool.or_eq_true, decide_eq_true_eq, impS]
  refine if_congr (by omega) (if_congr (by omega) rfl rfl) rfl

end Words

end Cert.Proof.Attn
-- ==== Proof.Comp.lean ====
/- The compressed branch: the masked, normalised scores against the compressed keys, their product with the compressed
   values, and the importance of the key blocks. -/
module

public import proofs.«01_k».proof.Proof.Rank
public import Idealize.ShloMosaic.Lib.Pointwise
public import Idealize.ShloMosaic.Lib.ValueIdx

@[expose] public section

set_option maxRecDepth 16384

noncomputable section

namespace Cert.Proof.Attn

open Cert.KernelIdeal Cert.KernelIdeal.Gen Idealize.ShloMosaic Idealize.ShloMosaic.TcCoe Idealize.SL.Sem
open Cert.Proof.Flash

/-- A compressed score, masked. -/
def mC {N : ℕ} (t : ℕ) (S : Fin N → EReal) (n : Fin N) : EReal := if 16 * n.val + 31 ≤ t then S n else ⊥

/-- The normalised compressed scores of the query at `t`; zero where masked. -/
def pcS {N : ℕ} (t : ℕ) (S : Fin N → EReal) (n : Fin N) : EReal :=
  if 16 * n.val + 31 ≤ t then
    Ideal.div (Ideal.exp (mC t S n - Finset.univ.sup (mC t S))) (∑ k, Ideal.exp (mC t S k - Finset.univ.sup (mC t S))) else 0

section Reads
variable (i : grid0.Coords) (S : FVec Ideal S256x512 .f32) (w : IVec S256x1 32)
  (hw : ∀ n : Fin 256, Affine.IsInt (w (ix2 n 0)) ((16 * n.val + 31 : ℕ) : Int))
include hw

theorem pay24_at (n : Fin 256) (x : Fin 512) : k0_pay24 (k0_pay19 i) S w (ix2 n x) = pcS (tq i x) (fun n => S (ix2 n x)) n := by
  have e : ∀ n : Fin 256, IntOp.cmpi CmpIPredicate.sle (w (ix2 n 0)) (k0_pay19 i (ix2 0 x)) = BitVec.ofBool (decide (16 * n.val + 31 ≤ tq i x)) :=
    fun n => (sle_of (hw n) (tpos i x)).trans (congrArg _ (decide_eq_decide.mpr (by omega)))
  have hs : ∀ n : Fin 256, Scalar.select (IntOp.cmpi CmpIPredicate.sle (w (ix2 n 0)) (k0_pay19 i (ix2 0 x))) (S (ix2 n x)) (Named.named (F := Ideal) κ "mask" (φ := .f32) 4048155338#32)
      = mC (tq i x) (fun n => S (ix2 n x)) n := fun n => by
    rw [e, select_bool, mask_bot]; simp only [decide_eq_true_eq, mC]
  pointwise [k0_pay24]
  simp only [hs, e, select_bool, neg_inf, fold_sup, decide_eq_true_eq]
  rfl

theorem pay25_at (V : Vec Ideal S1x1x64x256 .bf16) (d : Fin 64) (x : Fin 512) :
    k0_pay25 (k0_pay19 i) S w V (ix2 d x) = ∑ n : Fin 256, V (ix4 0 0 d n) * pcS (tq i x) (fun n => S (ix2 n x)) n := by
  pointwise [k0_pay25]
  exact Finset.sum_congr rfl fun n _ => by rw [pay24_at i S w hw]

theorem pay26_at (O : Vec Ideal S64x1024 .bf16) (j : Fin 64) (x : Fin 128) :
    k0_pay26 (k0_pay19 i) S w O (ix2 j x) = ∑ e : Fin 1024, O (ix2 j e) * pcS (128 * (i 2).val + x.val)
      (fun n => S (ix2 n ⟨128 * (e.val / 256) + x.val, by omega⟩)) ⟨e.val % 256, by omega⟩ := by
  pointwise [k0_pay26]
  refine Finset.sum_congr rfl fun e _ => congrArg (O (ix2 j e) * ·) ?_
  have ht : ∀ y : Fin 512, y.val % 128 = x.val → tq i y = 128 * (i 2).val + x.val := fun y h => by simp only [tq]; omega
  have hx := x.isLt
  have he := e.isLt
  simp only [pay24_at i S w hw]
  split_ifs
  all_goals
    rw [ht _ (by simp only []; omega)]
    congr 1
    · funext n; exact congrArg (fun y => S (ix2 n y)) (Fin.ext (by simp only []; omega))
    · exact Fin.ext (by simp only []; omega)

end Reads

end Cert.Proof.Attn
-- ==== Proof.KernA.lean ====
/- Pieces of the attention kernel read at an index: the query columns of its four heads side by side, the gates, the
   key rows, and the last sum. -/
module

public import proofs.«01_k».proof.Proof.Runs
public import proofs.«01_k».proof.Proof.Comp
public import proofs.«01_k».proof.Proof.Rank
public import Idealize.ShloMosaic.Lib.VecWindow

@[expose] public section

set_option maxRecDepth 16384

noncomputable section

namespace Cert.Proof.Attn

open Cert.KernelIdeal Cert.KernelIdeal.Gen Idealize.ShloMosaic Idealize.ShloMosaic.TcCoe Idealize.SL.Sem
open Cert.Proof.Flash

variable (i : grid0.Coords) (g : Fin 4) (y : Fin 128) (d e : Fin 64)

/-- Column `y` of head `g` among the four heads' columns. -/
def lane4 : Fin 512 := ⟨128 * g.val + y.val, by omega⟩

theorem lane4_mod : (lane4 g y).val % 128 = y.val := by unfold lane4; show (128 * g.val + y.val) % 128 = _; omega

theorem lane4_tq : tq i (lane4 g y) = 128 * (i 2).val + y.val := by unfold tq; rw [lane4_mod]

/-- Four pieces side by side, read at a column. -/
theorem pick (f : Fin 4 → Fin 128 → EReal) :
    (if h : (lane4 g y).val < 128 then f 0 ⟨(lane4 g y).val, h⟩
      else if h : (lane4 g y).val - 128 < 128 then f 1 ⟨(lane4 g y).val - 128, h⟩
      else if h : (lane4 g y).val - 128 - 128 < 128 then f 2 ⟨(lane4 g y).val - 128 - 128, h⟩
      else f 3 ⟨(lane4 g y).val - 128 - 128 - 128, by have := (lane4 g y).isLt; omega⟩) = f g y := by
  have e : (lane4 g y).val = 128 * g.val + y.val := rfl
  have hy := y.isLt
  split_ifs
  · have hg : g = 0 := Fin.ext (show g.val = 0 by omega)
    subst hg; exact congrArg _ (Fin.ext (show _ = y.val by simp only []; omega))
  · have hg : g = 1 := Fin.ext (show g.val = 1 by omega)
    subst hg; exact congrArg _ (Fin.ext (show _ = y.val by simp only []; omega))
  · have hg : g = 2 := Fin.ext (show g.val = 2 by omega)
    subst hg; exact congrArg _ (Fin.ext (show _ = y.val by simp only []; omega))
  · have hg : g = 3 := Fin.ext (show g.val = 3 by omega)
    subst hg; exact congrArg _ (Fin.ext (show _ = y.val by simp only []; omega))

theorem qc_at (X : Vec Ideal S1x256x128 .bf16) :
    k0_pay18 (F := Ideal) X (ix2 e (lane4 g y)) = X (ix3 0 ⟨64 * g.val + e.val, by omega⟩ y) := by
  refine Eq.trans ?_ (pick g y (fun g y => X (ix3 0 ⟨64 * g.val + e.val, by omega⟩ y)))
  pointwise [k0_pay18]

theorem fin_at (R A : FVec Ideal S64x512 .f32) (w : Fin 4 → Vec Ideal S1x128 .f32) :
    k0_pay143 (F := Ideal) R A (w 0) (w 1) (w 2) (w 3) (ix2 d (lane4 g y)) = A (ix2 d (lane4 g y)) + w g (ix2 0 y) * R (ix2 d (lane4 g y)) := by
  refine Eq.trans ?_ (congrArg (fun z => A (ix2 d (lane4 g y)) + z * R (ix2 d (lane4 g y))) (pick g y (fun g y => w g (ix2 0 y))))
  pointwise [k0_pay143]

theorem gcat_at (w : Fin 4 → Vec Ideal S1x128 .f32) :
    broadcastTo (α := EReal) S64x512 (concatenate (α := EReal) S1x512 1 [⟨S1x128, w 0⟩, ⟨S1x128, w 1⟩, ⟨S1x128, w 2⟩, ⟨S1x128, w 3⟩] concatenates_S1x128_S1x128_S1x128_S1x128_S1x512_d1) broadcasts_S1x512_S64x512 (ix2 d (lane4 g y)) = w g (ix2 0 y) := by
  refine Eq.trans ?_ (pick g y (fun g y => w g (ix2 0 y)))
  pointwise []

theorem pay127_at (l : FVec Ideal S1x512 .f32) (a : FVec Ideal S64x512 .f32) (x : Fin 512) :
    k0_pay127 (F := Ideal) l a (ix2 d x) = Ideal.div (a (ix2 d x)) (l (ix2 0 x)) := by pointwise [k0_pay127]

theorem pay140_at (l : FVec Ideal S1x512 .f32) (a : FVec Ideal S64x512 .f32) (x : Fin 512) :
    k0_pay140 (F := Ideal) l a (ix2 d x) = Ideal.div (a (ix2 d x)) (l (ix2 0 x)) := by pointwise [k0_pay140]

theorem pay16_at (X : Vec Ideal S1x64x4096 .bf16) (n : Fin 4096) : k0_pay16 (F := Ideal) X (ix2 n e) = X (ix3 0 e n) := by pointwise [k0_pay16]
theorem pay17_at (X : Vec Ideal S1x64x4096 .bf16) (n : Fin 4096) : k0_pay17 (F := Ideal) X (ix2 n e) = X (ix3 0 e n) := by pointwise [k0_pay17]

theorem init_at (s : Fin 512 → ℕ → EReal) (v : Fin 64 → ℕ → EReal) :
    At s v 0 (k0_pay122 (F := Ideal), k0_pay123 (F := Ideal), k0_pay124 (F := Ideal)) := by
  intro x
  refine ⟨?_, ?_, fun d => ?_⟩
  · show Named.named (F := Ideal) κ "mask" (φ := .f32) 4048155338#32 = top (s x) 0
    simp [top, mask_bot]
  · refine Eq.trans (b := (0 : EReal)) ?_ ?_
    · pointwise [k0_pay123]
    · simp [den]
  · refine Eq.trans (b := (0 : EReal)) ?_ ?_
    · pointwise [k0_pay124]
    · simp [num]

/-- The positions where the compressed keys end. -/
theorem ends_at (n : Fin 256) : Affine.IsInt ((addi (muli (iota .tc S256x1 32 [0] iota_S256x1_d0_w32) (broadcast S256x1 16#32)) (broadcast S256x1 31#32) : IVec S256x1 32) (ix2 n 0)) ((16 * n.val + 31 : ℕ) : Int) := by
  have e : (addi (muli (iota .tc S256x1 32 [0] iota_S256x1_d0_w32) (broadcast S256x1 16#32)) (broadcast S256x1 31#32) : IVec S256x1 32) (ix2 n 0)
      = Scalar.addi (Scalar.muli (BitVec.ofNat 32 n.val) 16#32) 31#32 := by
    pointwise []
    rfl
  rw [e]
  have h1 := Affine.muli (lit n.val (by omega)) (lit 16 (by omega)) (e := 16 * (n.val : Int)) (by omega)
  exact Affine.addi h1 (lit 31 (by omega)) (by omega)

/-- A gate row loaded after the gates were stored. -/
theorem ld16 (arg16 : Memref sig .tc .vmem S128x128 .f32) (W : Vec Ideal S128x128 .f32) (j : ℕ) (hj : j < 3) (h) (h') (L) :
    View.readAt (Elt Ideal) arg16.view (Rect.unit (s := S128x128) (k0_off11 i (BitVec.ofNat 32 g.val) (BitVec.ofNat 32 j)) S1x128.size h).toLoadRect
        (arg16.view.writes (Elt Ideal) arg16.view.junk (⟨Rect.unit ![0, 0] S128x128.size h', W⟩ :: L)) (ix2 0 y)
      = W (ix2 ⟨16 + 3 * (4 * (i 1).val + g.val) + j, by have : (i 1).val < 4 := (i 1).isLt; omega⟩ y) := by
  rw [View.readAt_apply, View.read_writes_full]
  have eo := off11 i g.val j g.isLt hj
  refine congrArg W (funext fun a => Fin.ext ?_)
  match a with
  | ⟨0, _⟩ => show k0_off11 i (BitVec.ofNat 32 g.val) (BitVec.ofNat 32 j) 0 + 1 * 0 = _; rw [eo]; rfl
  | ⟨1, _⟩ => show k0_off11 i (BitVec.ofNat 32 g.val) (BitVec.ofNat 32 j) 1 + 1 * y.val = _; rw [eo]; show 0 + 1 * y.val = y.val; omega

/-- The four stored pieces read as one block. -/
theorem pieces_at (R A : FVec Ideal S64x512 .f32) (w0 w1 w2 w3 : Vec Ideal S1x128 .f32) (o : Fin 4 → Fin 64 → Fin 128 → EReal)
    (hW : ∀ g d y, k0_pay143 (F := Ideal) R A w0 w1 w2 w3 (ix2 d (lane4 g y)) = o g d y) (L : List (View.Piece (Elt Ideal) S1x256x128 .f32)) (h0 h1 h2 h3)
    (hL : L = [⟨Rect.unit ![0, 192, 0] S1x64x128.size h3, k0_pay3 (F := Ideal) (k0_pay143 R A w0 w1 w2 w3)⟩,
      ⟨Rect.unit ![0, 128, 0] S1x64x128.size h2, k0_pay2 (F := Ideal) (k0_pay143 R A w0 w1 w2 w3)⟩,
      ⟨Rect.unit ![0, 64, 0] S1x64x128.size h1, k0_pay1 (F := Ideal) (k0_pay145 R A w0 w1 w2 w3)⟩,
      ⟨Rect.unit ![0, 0, 0] S1x64x128.size h0, k0_pay144 (F := Ideal) R A w0 w1 w2 w3⟩])
    (hc : ∀ y, ∃ p ∈ L, y ∈ p.1.set) :
    VO0_9.read (Elt Ideal) (VO0_9.writes (Elt Ideal) VO0_9.junk L) (ix3 0 ⟨64 * g.val + d.val, by omega⟩ y) = o g d y := by
  have key := View.canon_apply_of_pieces (Val := Elt Ideal) (fun z : S1x256x128.Idx => o ⟨(z 1).val / 64, by have : (z 1).val < 256 := (z 1).isLt; omega⟩ ⟨(z 1).val % 64, by omega⟩ (z 2)) L ?_
    (ix3 0 ⟨64 * g.val + d.val, by omega⟩ y) (hc _)
  · refine (congrFun (View.read_writes_eq_canon VO0_9 VO0_9.junk L hc) _).trans (key.trans ?_)
    show o ⟨(64 * g.val + d.val) / 64, _⟩ ⟨(64 * g.val + d.val) % 64, _⟩ y = _
    exact congrArg₂ (fun a b => o a b y) (Fin.ext (by show _ / 64 = _; omega)) (Fin.ext (by show _ % 64 = _; omega))
  · have part : ∀ (k : Fin 4) (d : Fin 64) (y : Fin 128) (z : ℕ) (hz : z = 64 * k.val + d.val) (hlt : z / 64 < 4),
        o ⟨z / 64, hlt⟩ ⟨z % 64, by omega⟩ y = o k d y := by
      intro k d y z hz hlt
      subst hz
      exact congrArg₂ (fun a b => o a b y) (Fin.ext (by show _ / 64 = _; omega)) (Fin.ext (by show _ % 64 = _; omega))
    intro pc hpc
    rw [hL] at hpc
    rcases List.mem_cons.mp hpc with rfl | hpc
    · intro x
      obtain ⟨u, r, l, rfl⟩ : ∃ (u : Fin 1) (r : Fin 64) (l : Fin 128), x = ix3 u r l := ⟨x 0, x 1, x 2, eq_ix3 x⟩
      refine Eq.trans ?_ ((hW 3 r l).trans (Eq.trans (part 3 r l (192 + 1 * r.val) (by show _ = 64 * 3 + r.val; omega) (by omega)).symm (congrArg _ (Fin.ext (show l.val = 0 + 1 * l.val by omega)))))
      show k0_pay3 (F := Ideal) (k0_pay143 R A w0 w1 w2 w3) (ix3 u r l) = _
      generalize k0_pay143 (F := Ideal) R A w0 w1 w2 w3 = W
      pointwise [k0_pay3]
      rfl
    rcases List.mem_cons.mp hpc with rfl | hpc
    · intro x
      obtain ⟨u, r, l, rfl⟩ : ∃ (u : Fin 1) (r : Fin 64) (l : Fin 128), x = ix3 u r l := ⟨x 0, x 1, x 2, eq_ix3 x⟩
      refine Eq.trans ?_ ((hW 2 r l).trans (Eq.trans (part 2 r l (128 + 1 * r.val) (by show _ = 64 * 2 + r.val; omega) (by omega)).symm (congrArg _ (Fin.ext (show l.val = 0 + 1 * l.val by omega)))))
      show k0_pay2 (F := Ideal) (k0_pay143 R A w0 w1 w2 w3) (ix3 u r l) = _
      generalize k0_pay143 (F := Ideal) R A w0 w1 w2 w3 = W
      pointwise [k0_pay2]
      rfl
    rcases List.mem_cons.mp hpc with rfl | hpc
    · intro x
      obtain ⟨u, r, l, rfl⟩ : ∃ (u : Fin 1) (r : Fin 64) (l : Fin 128), x = ix3 u r l := ⟨x 0, x 1, x 2, eq_ix3 x⟩
      refine Eq.trans ?_ ((hW 1 r l).trans (Eq.trans (part 1 r l (64 + 1 * r.val) (by show _ = 64 * 1 + r.val; omega) (by omega)).symm (congrArg _ (Fin.ext (show l.val = 0 + 1 * l.val by omega)))))
      show k0_pay1 (F := Ideal) (k0_pay145 R A w0 w1 w2 w3) (ix3 u r l) = _
      unfold k0_pay145
      generalize k0_pay143 (F := Ideal) R A w0 w1 w2 w3 = W
      pointwise [k0_pay1]
      rfl
    rcases List.mem_cons.mp hpc with rfl | hpc
    · intro x
      obtain ⟨u, r, l, rfl⟩ : ∃ (u : Fin 1) (r : Fin 64) (l : Fin 128), x = ix3 u r l := ⟨x 0, x 1, x 2, eq_ix3 x⟩
      refine Eq.trans ?_ ((hW 0 r l).trans (Eq.trans (part 0 r l (0 + 1 * r.val) (by show _ = 64 * 0 + r.val; omega) (by omega)).symm (congrArg _ (Fin.ext (show l.val = 0 + 1 * l.val by omega)))))
      show k0_pay144 (F := Ideal) R A w0 w1 w2 w3 (ix3 u r l) = _
      unfold k0_pay144
      generalize k0_pay143 (F := Ideal) R A w0 w1 w2 w3 = W
      pointwise []
      exact congrArg (fun z => W (ix2 r z)) (Fin.ext (by show l.val = 128 * 0 + l.val; omega))
    nomatch hpc

end Cert.Proof.Attn

end
-- ==== Proof.KernB.lean ====
/- The attention kernel's result block read at an index, at a point that keeps the keys' scratch. -/
module

public import proofs.«01_k».proof.Proof.KernA
public import Idealize.ShloMosaic.Lib.VecWindow

@[expose] public section

set_option maxRecDepth 16384

noncomputable section

namespace Cert.Proof.Attn.CaseB

open Cert.KernelIdeal Cert.KernelIdeal.Gen Idealize.ShloMosaic Idealize.ShloMosaic.TcCoe Idealize.SL.Sem
open Cert.Proof.Flash

variable (c : Dev nD) (i : grid0.Coords)
  (arg3 : Memref sig .tc .vmem S1x256x128 .bf16) (harg3 : arg3.IsWhole)
  (arg4 : Memref sig .tc .vmem S1x64x4096 .bf16) (harg4 : arg4.IsWhole)
  (arg5 : Memref sig .tc .vmem S1x64x4096 .bf16) (harg5 : arg5.IsWhole)
  (arg6 : Memref sig .tc .vmem S1x64x4096 .bf16) (harg6 : arg6.IsWhole)
  (arg7 : Memref sig .tc .vmem S1x64x4096 .bf16) (harg7 : arg7.IsWhole)
  (arg8 : Memref sig .tc .vmem S1x1x256x64 .bf16) (harg8 : arg8.IsWhole)
  (arg9 : Memref sig .tc .vmem S1x1x64x256 .bf16) (harg9 : arg9.IsWhole)
  (arg10 : Memref sig .tc .vmem S1x128x128 .f32) (harg10 : arg10.IsWhole)
  (arg11 : Memref sig .tc .vmem S64x1024 .bf16) (harg11 : arg11.IsWhole)
  (arg12 : Memref sig .tc .vmem S1x256x128 .f32) (harg12 : arg12.IsWhole)
  (arg13 : Memref sig .tc .vmem S4096x64 .bf16) (harg13 : arg13.IsWhole)
  (arg14 : Memref sig .tc .vmem S4096x64 .bf16) (harg14 : arg14.IsWhole)
  (arg15 : Memref sig .tc .vmem S64x128 .f32) (harg15 : arg15.IsWhole)
  (arg16 : Memref sig .tc .vmem S128x128 .f32) (harg16 : arg16.IsWhole)
variable (x0 : Vec Ideal S1x256x128 .bf16) (x1 x2 x3 x4 : Vec Ideal S1x64x4096 .bf16) (x5 : Vec Ideal S1x1x256x64 .bf16)
  (x6 : Vec Ideal S1x1x64x256 .bf16) (x7 : Vec Ideal S1x128x128 .f32) (x8 : Vec Ideal S64x1024 .bf16) (xs0 xs1 : Vec Ideal S4096x64 .bf16)
variable (g : Fin 4) (y : Fin 128) (d e : Fin 64)

/-- The query columns. -/
abbrev qc : FVec Ideal S64x512 .bf16 := k0_pay18 (F := Ideal) x0

theorem qc_eq : kernelRun0_B.sl.v9 c arg3 harg3 x0 = qc x0 := by
  refine Eq.trans (b := k0_pay18 (F := Ideal) (View.readAt (Elt Ideal) arg3.view (Rect.unit ![0, 0, 0] S1x256x128.size inb_S1x256x128_S1x256x128_0_0_0).toLoadRect (harg3.unread x0))) rfl ?_
  rw [View.readAt_full, harg3.read_unread]

theorem k13_eq : arg13.view.read (Elt Ideal) (harg13.unread xs0) = xs0 := harg13.read_unread _
theorem k14_eq : arg14.view.read (Elt Ideal) (harg14.unread xs1) = xs1 := harg14.read_unread _

/-- The score of compressed key `n`. -/
def sK (x : Fin 512) (n : Fin 256) : EReal := ∑ e : Fin 64, x5 (ix4 0 0 n e) * qc x0 (ix2 e x)

theorem s_at (x : Fin 512) (n : Fin 256) : kernelRun0_B.sl.v29 c arg3 harg3 arg8 harg8 x0 x5 (ix2 n x) = sK x0 x5 x n := by
  unfold sK kernelRun0_B.sl.v29 kernelRun0_B.sl.v28
  rw [qc_eq, View.readAt_full, harg8.read_unread]
  pointwise [kernelRun0_B.sl.cst]

/-- The compressed branch. -/
theorem r_at (x : Fin 512) : kernelRun0_B.sl.r c i arg3 harg3 arg8 harg8 arg9 harg9 x0 x5 x6 (ix2 d x) = ∑ n : Fin 256, x6 (ix4 0 0 d n) * pcS (tq i x) (sK x0 x5 x) n := by
  unfold kernelRun0_B.sl.r
  rw [View.readAt_full, harg9.read_unread]
  refine (pay25_at i _ _ ends_at _ d x).trans ?_
  simp only [s_at]

/-- A block's importance before the forced choices. -/
def rK (j : Fin 64) : EReal := ∑ e : Fin 1024, x8 (ix2 j e) * pcS (128 * (i 2).val + y.val) (sK x0 x5 (lane4 ⟨e.val / 256, by omega⟩ y)) ⟨e.val % 256, by omega⟩

/-- A block's importance. -/
def iK (j : Fin 64) : EReal := impS (128 * (i 2).val + y.val) (rK i x0 x5 x8 y) j

theorem r5_at (j : Fin 64) : kernelRun0_B.sl.r_5 c i arg3 harg3 arg8 harg8 arg11 harg11 x0 x5 x8 (ix2 j y) = iK i x0 x5 x8 y j := by
  unfold kernelRun0_B.sl.r_5
  refine (imp_at i j y _).trans ?_
  unfold iK
  refine congrArg (fun R => impS _ R j) (funext fun j => ?_)
  unfold kernelRun0_B.sl.r_1
  rw [View.readAt_full, harg11.read_unread]
  refine (pay26_at i _ _ ends_at _ j y).trans ?_
  unfold rK
  refine Finset.sum_congr rfl fun e _ => ?_
  congr 2
  funext n
  exact s_at c arg3 harg3 arg8 harg8 x0 x5 _ n

/-- Which blocks are selected. -/
theorem sel_iff (j : Fin 64) : half < (arg15.view.read (Elt Ideal) (arg15.view.writes (Elt Ideal) arg15.view.junk (kernelRun0_B.sl.HS2_1 c i arg3 harg3 arg8 harg8 arg11 harg11 x0 x5 x8))) (ix2 j y)
    ↔ (Finset.univ.filter fun m => Before (iK i x0 x5 x8 y) m j).card < 16 ∧ 64 * j.val ≤ 128 * (i 2).val + y.val := by
  rw [sel_B, View.read_writes_full]
  refine (sel_at _ _ _ j y (causal_at i j y)).trans ?_
  rw [show (fun j => kernelRun0_B.sl.r_5 c i arg3 harg3 arg8 harg8 arg11 harg11 x0 x5 x8 (ix2 j y)) = iK i x0 x5 x8 y from funext fun j => r5_at c i arg3 harg3 arg8 harg8 arg11 harg11 x0 x5 x8 y j, decide_eq_true_iff]

/-- The selected branch. -/
theorem r9_at (hs : ∀ x n, Score (selS i (xs0) (qc x0) (arg15.view.read (Elt Ideal) (arg15.view.writes (Elt Ideal) arg15.view.junk (kernelRun0_B.sl.HS2_1 c i arg3 harg3 arg8 harg8 arg11 harg11 x0 x5 x8))) x n)) (x : Fin 512) : kernelRun0_B.sl.r_9 c i arg3 harg3 arg4 harg4 arg5 harg5 arg6 harg6 arg7 harg7 arg8 harg8 arg9 harg9 arg10 harg10 arg11 harg11 arg12 harg12 arg13 harg13 arg14 harg14 arg15 harg15 arg16 harg16 x0 x2 x5 x8 xs0 (ix2 d x)
    = Ideal.div (num (selS i (xs0) (qc x0) (arg15.view.read (Elt Ideal) (arg15.view.writes (Elt Ideal) arg15.view.junk (kernelRun0_B.sl.HS2_1 c i arg3 harg3 arg8 harg8 arg11 harg11 x0 x5 x8))) x) (valS x2 0 d) (128 * ((i 2).val + 1))) (den (selS i (xs0) (qc x0) (arg15.view.read (Elt Ideal) (arg15.view.writes (Elt Ideal) arg15.view.junk (kernelRun0_B.sl.HS2_1 c i arg3 harg3 arg8 harg8 arg11 harg11 x0 x5 x8))) x) (128 * ((i 2).val + 1))) := by
  have hz : Scf.trips (k0_t2_loop i).lb (k0_t2_loop i).ub (k0_t2_loop i).st = 0 := Nat.le_zero.mp (k0_t2_abs i).2.1
  have e13 := k13_eq arg13 harg13 xs0
  unfold kernelRun0_B.sl.r_9
  rw [hz, st_k0_t2_zero, pay127_at, qc_eq]
  have R := run1 c i arg3 harg3 arg4 harg4 arg5 harg5 arg6 harg6 arg7 harg7 arg8 harg8 arg9 harg9 arg10 harg10 arg11 harg11 arg12 harg12 arg13 harg13 arg14 harg14 arg15 harg15 arg16 harg16 Variants.none none (BitVec.ofNat 32 (i 1).val) (qc x0) (k0_pay122 (F := Ideal)) (k0_pay123 (F := Ideal)) (k0_pay124 (F := Ideal))
    (k0_pay122 (F := Ideal), k0_pay123 (F := Ideal), k0_pay124 (F := Ideal)) (harg5.unread x2) (harg13.unread xs0) _ (by rw [e13]; exact hs) (init_at _ _) _ le_rfl x
  rw [trips1] at R
  obtain ⟨-, R1, R2⟩ := R
  rw [e13, harg5.read_unread] at R2
  rw [e13] at R1
  refine congrArg₂ Ideal.div ((congrFun (congrArg (fun z : FVec Ideal S1x512 .f32 × FVec Ideal S1x512 .f32 × FVec Ideal S64x512 .f32 => z.2.2) ?_) (ix2 d x)).trans (R2 d)) ((congrFun (congrArg (fun z : FVec Ideal S1x512 .f32 × FVec Ideal S1x512 .f32 × FVec Ideal S64x512 .f32 => z.2.1) ?_) (ix2 0 x)).trans R1)
  all_goals rw [← trips1 i]; rfl

/-- The sliding-window branch. -/
theorem r10_at (hs : ∀ x n, Score (winS i (xs1) (qc x0) x n)) (x : Fin 512) : kernelRun0_B.sl.r_10 c i arg3 harg3 arg4 harg4 arg5 harg5 arg6 harg6 arg7 harg7 arg8 harg8 arg9 harg9 arg10 harg10 arg11 harg11 arg12 harg12 arg13 harg13 arg14 harg14 arg15 harg15 arg16 harg16 x0 x4 xs1 (ix2 d x)
    = Ideal.div (num (winS i (xs1) (qc x0) x) (valS x4 (128 * fst i) d) (128 * ((i 2).val + 1 - fst i))) (den (winS i (xs1) (qc x0) x) (128 * ((i 2).val + 1 - fst i))) := by
  have hz : Scf.trips (k0_t4_loop i).lb (k0_t4_loop i).ub (k0_t4_loop i).st = 0 := Nat.le_zero.mp (k0_t4_abs i).2.1
  have e14 := k14_eq arg14 harg14 xs1
  unfold kernelRun0_B.sl.r_10
  rw [hz, st_k0_t4_zero, pay140_at, qc_eq]
  have R := run3 c i arg3 harg3 arg4 harg4 arg5 harg5 arg6 harg6 arg7 harg7 arg8 harg8 arg9 harg9 arg10 harg10 arg11 harg11 arg12 harg12 arg13 harg13 arg14 harg14 arg15 harg15 arg16 harg16 Variants.none none (BitVec.ofNat 32 (i 1).val) (qc x0) (k0_pay122 (F := Ideal)) (k0_pay123 (F := Ideal)) (k0_pay124 (F := Ideal))
    (k0_pay122 (F := Ideal), k0_pay123 (F := Ideal), k0_pay124 (F := Ideal)) (harg7.unread x4) (harg14.unread xs1) (by rw [e14]; exact hs) (init_at _ _) _ le_rfl x
  rw [trips3] at R
  obtain ⟨-, R1, R2⟩ := R
  rw [e14, harg7.read_unread] at R2
  rw [e14] at R1
  refine congrArg₂ Ideal.div ((congrFun (congrArg (fun z : FVec Ideal S1x512 .f32 × FVec Ideal S1x512 .f32 × FVec Ideal S64x512 .f32 => z.2.2) ?_) (ix2 d x)).trans (R2 d)) ((congrFun (congrArg (fun z : FVec Ideal S1x512 .f32 × FVec Ideal S1x512 .f32 × FVec Ideal S64x512 .f32 => z.2.1) ?_) (ix2 0 x)).trans R1)
  all_goals rw [← trips3 i]; rfl

/-- A gate. -/
def gK (j : Fin 3) : EReal := Ideal.div 1 (1 + Ideal.exp (- x7 (ix3 0 y ⟨16 + 3 * (4 * (i 1).val + g.val) + j.val, by have : (i 1).val < 4 := (i 1).isLt; omega⟩)))

theorem v26_at (r : Fin 128) : kernelRun0_B.sl.v26 c arg10 harg10 x7 (ix2 r y) = Ideal.div 1 (1 + Ideal.exp (- x7 (ix3 0 y r))) := by
  unfold kernelRun0_B.sl.v26 kernelRun0_B.sl.v23 kernelRun0_B.sl.v22 kernelRun0_B.sl.v21
  rw [View.readAt_full, harg10.read_unread]
  pointwise []
  rfl

/-- The four heads' gate rows of branch 0. -/
def w0 : Fin 4 → Vec Ideal S1x128 .f32 := ![kernelRun0_B.sl.v1216 c i arg10 harg10 arg16 x7, kernelRun0_B.sl.v1223 c i arg10 harg10 arg16 x7, kernelRun0_B.sl.v1230 c i arg10 harg10 arg16 x7, kernelRun0_B.sl.v1237 c i arg10 harg10 arg16 x7]

theorem w0_at : w0 c i arg10 harg10 arg16 x7 g (ix2 0 y) = gK i x7 g y 0 := by
  refine Eq.trans ?_ (v26_at c arg10 harg10 x7 y _)
  match g with
  | 0 => exact ld16 i 0 y arg16 _ 0 (by omega) _ _ _
  | 1 => exact ld16 i 1 y arg16 _ 0 (by omega) _ _ _
  | 2 => exact ld16 i 2 y arg16 _ 0 (by omega) _ _ _
  | 3 => exact ld16 i 3 y arg16 _ 0 (by omega) _ _ _

/-- The four heads' gate rows of branch 1. -/
def w1 : Fin 4 → Vec Ideal S1x128 .f32 := ![kernelRun0_B.sl.v1247 c i arg10 harg10 arg16 x7, kernelRun0_B.sl.v1254 c i arg10 harg10 arg16 x7, kernelRun0_B.sl.v1261 c i arg10 harg10 arg16 x7, kernelRun0_B.sl.v1268 c i arg10 harg10 arg16 x7]

theorem w1_at : w1 c i arg10 harg10 arg16 x7 g (ix2 0 y) = gK i x7 g y 1 := by
  refine Eq.trans ?_ (v26_at c arg10 harg10 x7 y _)
  match g with
  | 0 => exact ld16 i 0 y arg16 _ 1 (by omega) _ _ _
  | 1 => exact ld16 i 1 y arg16 _ 1 (by omega) _ _ _
  | 2 => exact ld16 i 2 y arg16 _ 1 (by omega) _ _ _
  | 3 => exact ld16 i 3 y arg16 _ 1 (by omega) _ _ _

/-- The four heads' gate rows of branch 2. -/
def w2 : Fin 4 → Vec Ideal S1x128 .f32 := ![kernelRun0_B.sl.v1279 c i arg10 harg10 arg16 x7, kernelRun0_B.sl.v1286 c i arg10 harg10 arg16 x7, kernelRun0_B.sl.v1293 c i arg10 harg10 arg16 x7, kernelRun0_B.sl.v1300 c i arg10 harg10 arg16 x7]

theorem w2_at : w2 c i arg10 harg10 arg16 x7 g (ix2 0 y) = gK i x7 g y 2 := by
  refine Eq.trans ?_ (v26_at c arg10 harg10 x7 y _)
  match g with
  | 0 => exact ld16 i 0 y arg16 _ 2 (by omega) _ _ _
  | 1 => exact ld16 i 1 y arg16 _ 2 (by omega) _ _ _
  | 2 => exact ld16 i 2 y arg16 _ 2 (by omega) _ _ _
  | 3 => exact ld16 i 3 y arg16 _ 2 (by omega) _ _ _

/-- The result at an element, from the selection mask. -/
def oK (Sel : Vec Ideal S64x128 .f32) (g : Fin 4) (d : Fin 64) (y : Fin 128) : EReal :=
  gK i x7 g y 0 * (∑ n : Fin 256, x6 (ix4 0 0 d n) * pcS (tq i (lane4 g y)) (sK x0 x5 (lane4 g y)) n)
    + gK i x7 g y 1 * Ideal.div (num (selS i xs0 (qc x0) Sel (lane4 g y)) (valS x2 0 d) (128 * ((i 2).val + 1))) (den (selS i xs0 (qc x0) Sel (lane4 g y)) (128 * ((i 2).val + 1)))
    + gK i x7 g y 2 * Ideal.div (num (winS i xs1 (qc x0) (lane4 g y)) (valS x4 (128 * fst i) d) (128 * ((i 2).val + 1 - fst i))) (den (winS i xs1 (qc x0) (lane4 g y)) (128 * ((i 2).val + 1 - fst i)))

/-- The sum of the three branches. -/
theorem fin_eq (hs : ∀ x n, Score (selS i xs0 (qc x0) (arg15.view.read (Elt Ideal) (arg15.view.writes (Elt Ideal) arg15.view.junk (kernelRun0_B.sl.HS2_1 c i arg3 harg3 arg8 harg8 arg11 harg11 x0 x5 x8))) x n)) (hw : ∀ x n, Score (winS i xs1 (qc x0) x n)) :
    k0_pay143 (F := Ideal) (kernelRun0_B.sl.r_10 c i arg3 harg3 arg4 harg4 arg5 harg5 arg6 harg6 arg7 harg7 arg8 harg8 arg9 harg9 arg10 harg10 arg11 harg11 arg12 harg12 arg13 harg13 arg14 harg14 arg15 harg15 arg16 harg16 x0 x4 xs1) (kernelRun0_B.sl.v1272 c i arg3 harg3 arg4 harg4 arg5 harg5 arg6 harg6 arg7 harg7 arg8 harg8 arg9 harg9 arg10 harg10 arg11 harg11 arg12 harg12 arg13 harg13 arg14 harg14 arg15 harg15 arg16 harg16 x0 x2 x5 x6 x7 x8 xs0) (kernelRun0_B.sl.v1279 c i arg10 harg10 arg16 x7) (kernelRun0_B.sl.v1286 c i arg10 harg10 arg16 x7) (kernelRun0_B.sl.v1293 c i arg10 harg10 arg16 x7) (kernelRun0_B.sl.v1300 c i arg10 harg10 arg16 x7) (ix2 d (lane4 g y))
      = oK i x0 x2 x4 x5 x6 x7 xs0 xs1 (arg15.view.read (Elt Ideal) (arg15.view.writes (Elt Ideal) arg15.view.junk (kernelRun0_B.sl.HS2_1 c i arg3 harg3 arg8 harg8 arg11 harg11 x0 x5 x8))) g d y := by
  refine (fin_at g y d _ _ (w2 c i arg10 harg10 arg16 x7)).trans ?_
  rw [w2_at, r10_at c i arg3 harg3 arg4 harg4 arg5 harg5 arg6 harg6 arg7 harg7 arg8 harg8 arg9 harg9 arg10 harg10 arg11 harg11 arg12 harg12 arg13 harg13 arg14 harg14 arg15 harg15 arg16 harg16 x0 x4 xs1 d hw]
  unfold oK
  refine congrArg (· + _) ?_
  unfold kernelRun0_B.sl.v1272 kernelRun0_B.sl.v1240 kernelRun0_B.sl.v1271
  refine congrArg₂ (· + ·) ?_ ?_
  · refine congrArg₂ (· * ·) ((gcat_at g y d (w0 c i arg10 harg10 arg16 x7)).trans (w0_at c i arg10 harg10 arg16 x7 g y)) (r_at c i arg3 harg3 arg8 harg8 arg9 harg9 x0 x5 x6 d _)
  · refine congrArg₂ (· * ·) ((gcat_at g y d (w1 c i arg10 harg10 arg16 x7)).trans (w1_at c i arg10 harg10 arg16 x7 g y)) (r9_at c i arg3 harg3 arg4 harg4 arg5 harg5 arg6 harg6 arg7 harg7 arg8 harg8 arg9 harg9 arg10 harg10 arg11 harg11 arg12 harg12 arg13 harg13 arg14 harg14 arg15 harg15 arg16 harg16 x0 x2 x5 x8 xs0 d hs _)

/-- The block's element. -/
theorem out_at (hc0 : ¬cond0_0 i) (hs : ∀ x n, Score (selS i xs0 (qc x0) (arg15.view.read (Elt Ideal) (arg15.view.writes (Elt Ideal) arg15.view.junk (kernelRun0_B.sl.HS2_1 c i arg3 harg3 arg8 harg8 arg11 harg11 x0 x5 x8))) x n)) (hw : ∀ x n, Score (winS i xs1 (qc x0) x n)) :
    out0_B_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 (ix3 0 ⟨64 * g.val + d.val, by omega⟩ y) = oK i x0 x2 x4 x5 x6 x7 xs0 xs1 (arg15.view.read (Elt Ideal) (arg15.view.writes (Elt Ideal) arg15.view.junk (kernelRun0_B.sl.HS2_1 c i arg3 harg3 arg8 harg8 arg11 harg11 x0 x5 x8))) g d y := by
  unfold out0_B_9
  exact pieces_at g y d _ _ _ _ _ _ _ (fun g d y => fin_eq c i arg3 harg3 arg4 harg4 arg5 harg5 arg6 harg6 arg7 harg7 arg8 harg8 arg9 harg9 arg10 harg10 arg11 harg11 arg12 harg12 arg13 harg13 arg14 harg14 arg15 harg15 arg16 harg16 x0 x2 x4 x5 x6 x7 x8 xs0 xs1 g y d hs hw) _ _ _ _ _ (by unfold kernelRun0_B; rfl) (cover0_B_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1)

end Cert.Proof.Attn.CaseB

end
-- ==== Proof.KernC.lean ====
/- The attention kernel's result block read at an index, at a point that fills the keys' scratch. -/
module

public import proofs.«01_k».proof.Proof.KernB
public import Idealize.ShloMosaic.Lib.VecWindow

@[expose] public section

set_option maxRecDepth 16384

noncomputable section

namespace Cert.Proof.Attn.CaseA

open Cert.KernelIdeal Cert.KernelIdeal.Gen Idealize.ShloMosaic Idealize.ShloMosaic.TcCoe Idealize.SL.Sem
open Cert.Proof.Flash

variable (c : Dev nD) (i : grid0.Coords)
  (arg3 : Memref sig .tc .vmem S1x256x128 .bf16) (harg3 : arg3.IsWhole)
  (arg4 : Memref sig .tc .vmem S1x64x4096 .bf16) (harg4 : arg4.IsWhole)
  (arg5 : Memref sig .tc .vmem S1x64x4096 .bf16) (harg5 : arg5.IsWhole)
  (arg6 : Memref sig .tc .vmem S1x64x4096 .bf16) (harg6 : arg6.IsWhole)
  (arg7 : Memref sig .tc .vmem S1x64x4096 .bf16) (harg7 : arg7.IsWhole)
  (arg8 : Memref sig .tc .vmem S1x1x256x64 .bf16) (harg8 : arg8.IsWhole)
  (arg9 : Memref sig .tc .vmem S1x1x64x256 .bf16) (harg9 : arg9.IsWhole)
  (arg10 : Memref sig .tc .vmem S1x128x128 .f32) (harg10 : arg10.IsWhole)
  (arg11 : Memref sig .tc .vmem S64x1024 .bf16) (harg11 : arg11.IsWhole)
  (arg12 : Memref sig .tc .vmem S1x256x128 .f32) (harg12 : arg12.IsWhole)
  (arg13 : Memref sig .tc .vmem S4096x64 .bf16) (harg13 : arg13.IsWhole)
  (arg14 : Memref sig .tc .vmem S4096x64 .bf16) (harg14 : arg14.IsWhole)
  (arg15 : Memref sig .tc .vmem S64x128 .f32) (harg15 : arg15.IsWhole)
  (arg16 : Memref sig .tc .vmem S128x128 .f32) (harg16 : arg16.IsWhole)
variable (x0 : Vec Ideal S1x256x128 .bf16) (x1 x2 x3 x4 : Vec Ideal S1x64x4096 .bf16) (x5 : Vec Ideal S1x1x256x64 .bf16)
  (x6 : Vec Ideal S1x1x64x256 .bf16) (x7 : Vec Ideal S1x128x128 .f32) (x8 : Vec Ideal S64x1024 .bf16) (xs0 xs1 : Vec Ideal S4096x64 .bf16)
variable (g : Fin 4) (y : Fin 128) (d e : Fin 64)

theorem k13_eq : arg13.view.read (Elt Ideal) (arg13.view.writes (Elt Ideal) arg13.view.junk (kernelRun0_A.sl.HS0_1 c arg4 harg4 x1)) = k0_pay16 (F := Ideal) x1 := by
  unfold kernelRun0_A.sl.HS0_1
  rw [View.read_writes_full]
  refine Eq.trans (b := k0_pay16 (F := Ideal) (View.readAt (Elt Ideal) arg4.view (Rect.unit ![0, 0, 0] S1x64x4096.size inb_S1x64x4096_S1x64x4096_0_0_0).toLoadRect (harg4.unread x1))) rfl ?_
  rw [View.readAt_full, harg4.read_unread]

theorem k14_eq : arg14.view.read (Elt Ideal) (arg14.view.writes (Elt Ideal) arg14.view.junk (kernelRun0_A.sl.HS1_1 c arg6 harg6 x3)) = k0_pay17 (F := Ideal) x3 := by
  unfold kernelRun0_A.sl.HS1_1
  rw [View.read_writes_full]
  refine Eq.trans (b := k0_pay17 (F := Ideal) (View.readAt (Elt Ideal) arg6.view (Rect.unit ![0, 0, 0] S1x64x4096.size inb_S1x64x4096_S1x64x4096_0_0_0).toLoadRect (harg6.unread x3))) rfl ?_
  rw [View.readAt_full, harg6.read_unread]

/-- With the scratch just filled, the branches are those of the other case. -/
theorem r9_eq : kernelRun0_A.sl.r_9 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x5 x8 = kernelRun0_B.sl.r_9 c i arg3 harg3 arg4 harg4 arg5 harg5 arg6 harg6 arg7 harg7 arg8 harg8 arg9 harg9 arg10 harg10 arg11 harg11 arg12 harg12 arg13 harg13 arg14 harg14 arg15 harg15 arg16 harg16 x0 x2 x5 x8 (k0_pay16 (F := Ideal) x1) := by
  have e : (arg13.view.writes (Elt Ideal) arg13.view.junk (kernelRun0_A.sl.HS0_1 c arg4 harg4 x1)) = harg13.unread (k0_pay16 (F := Ideal) x1) := harg13.eq_unread (k13_eq c arg4 harg4 arg13 x1)
  unfold kernelRun0_A.sl.r_9 kernelRun0_B.sl.r_9
  rw [e, sel_A, sel_B]
  rfl

theorem r10_eq : kernelRun0_A.sl.r_10 c i arg3 harg3 arg4 harg4 arg5 harg5 arg6 harg6 arg7 harg7 arg8 harg8 arg9 harg9 arg10 harg10 arg11 harg11 arg12 harg12 arg13 harg13 arg14 harg14 arg15 harg15 arg16 harg16 x0 x3 x4 = kernelRun0_B.sl.r_10 c i arg3 harg3 arg4 harg4 arg5 harg5 arg6 harg6 arg7 harg7 arg8 harg8 arg9 harg9 arg10 harg10 arg11 harg11 arg12 harg12 arg13 harg13 arg14 harg14 arg15 harg15 arg16 harg16 x0 x4 (k0_pay17 (F := Ideal) x3) := by
  have e : (arg14.view.writes (Elt Ideal) arg14.view.junk (kernelRun0_A.sl.HS1_1 c arg6 harg6 x3)) = harg14.unread (k0_pay17 (F := Ideal) x3) := harg14.eq_unread (k14_eq c arg6 harg6 arg14 x3)
  unfold kernelRun0_A.sl.r_10 kernelRun0_B.sl.r_10
  rw [e]
  rfl

theorem v1272_eq : kernelRun0_A.sl.v1272 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x5 x6 x7 x8 = kernelRun0_B.sl.v1272 c i arg3 harg3 arg4 harg4 arg5 harg5 arg6 harg6 arg7 harg7 arg8 harg8 arg9 harg9 arg10 harg10 arg11 harg11 arg12 harg12 arg13 harg13 arg14 harg14 arg15 harg15 arg16 harg16 x0 x2 x5 x6 x7 x8 (k0_pay16 (F := Ideal) x1) := by
  unfold kernelRun0_A.sl.v1272 kernelRun0_A.sl.v1271 kernelRun0_B.sl.v1272 kernelRun0_B.sl.v1271
  rw [r9_eq]
  rfl

/-- The block's element. -/
theorem out_at (hc0 : cond0_0 i) (hs : ∀ x n, Score (selS i (k0_pay16 (F := Ideal) x1) (CaseB.qc x0) (arg15.view.read (Elt Ideal) (arg15.view.writes (Elt Ideal) arg15.view.junk (kernelRun0_B.sl.HS2_1 c i arg3 harg3 arg8 harg8 arg11 harg11 x0 x5 x8))) x n)) (hw : ∀ x n, Score (winS i (k0_pay17 (F := Ideal) x3) (CaseB.qc x0) x n)) :
    out0_A_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix3 0 ⟨64 * g.val + d.val, by omega⟩ y) = CaseB.oK i x0 x2 x4 x5 x6 x7 (k0_pay16 (F := Ideal) x1) (k0_pay17 (F := Ideal) x3) (arg15.view.read (Elt Ideal) (arg15.view.writes (Elt Ideal) arg15.view.junk (kernelRun0_B.sl.HS2_1 c i arg3 harg3 arg8 harg8 arg11 harg11 x0 x5 x8))) g d y := by
  unfold out0_A_9
  refine pieces_at g y d (kernelRun0_A.sl.r_10 c i arg3 harg3 arg4 harg4 arg5 harg5 arg6 harg6 arg7 harg7 arg8 harg8 arg9 harg9 arg10 harg10 arg11 harg11 arg12 harg12 arg13 harg13 arg14 harg14 arg15 harg15 arg16 harg16 x0 x3 x4) (kernelRun0_A.sl.v1272 c i arg3 harg3 arg4 harg4 arg5 harg5 arg6 harg6 arg7 harg7 arg8 harg8 arg9 harg9 arg10 harg10 arg11 harg11 arg12 harg12 arg13 harg13 arg14 harg14 arg15 harg15 arg16 harg16 x0 x1 x2 x5 x6 x7 x8) (kernelRun0_A.sl.v1279 c i arg10 harg10 arg16 x7) (kernelRun0_A.sl.v1286 c i arg10 harg10 arg16 x7) (kernelRun0_A.sl.v1293 c i arg10 harg10 arg16 x7) (kernelRun0_A.sl.v1300 c i arg10 harg10 arg16 x7) _ (fun g d y => ?_) _ _ _ _ _ (by unfold kernelRun0_A; rfl) (cover0_A_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)
  rw [r10_eq, v1272_eq]
  exact CaseB.fin_eq c i arg3 harg3 arg4 harg4 arg5 harg5 arg6 harg6 arg7 harg7 arg8 harg8 arg9 harg9 arg10 harg10 arg11 harg11 arg12 harg12 arg13 harg13 arg14 harg14 arg15 harg15 arg16 harg16 x0 x2 x4 x5 x6 x7 x8 (k0_pay16 (F := Ideal) x1) (k0_pay17 (F := Ideal) x3) g y d hs hw

/-- The scratch after the point. -/
theorem scr0 (hc0 : cond0_0 i) : sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = k0_pay16 (F := Ideal) x1 := by
  unfold sout0_A_0 kernelRun0_A
  dsimp only
  exact k13_eq c arg4 harg4 _ x1

theorem scr1 (hc0 : cond0_0 i) : sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = k0_pay17 (F := Ideal) x3 := by
  unfold sout0_A_1 kernelRun0_A
  dsimp only
  exact k14_eq c arg6 harg6 _ x3

end Cert.Proof.Attn.CaseA

end
-- ==== Proof.Blocks.lean ====
/- What the attention's blocks hold: each window's block read at an index is its array moved by the block's offset, and
   the overlap table the host computes is 1 where a compressed key's 32 positions meet a block's 64, 0 elsewhere. -/
module

public import proofs.«01_k».proof.Proof.Words
public import Idealize.ShloMosaic.Lib.Pointwise
public import Idealize.ShloMosaic.Lib.ValueIdx
public import Idealize.ShloMosaic.Lib.StableHlo.ReadAt

@[expose] public section

set_option maxRecDepth 16384

noncomputable section

namespace Cert.Proof.Attn

open Cert.KernelIdeal Cert.KernelIdeal.Gen Idealize.ShloMosaic Idealize.ShloMosaic.TcCoe Idealize.SL.Sem

variable (m : (ℓ : Loc nD τ sig) → Buf (Elt Ideal) ℓ)

/-- Device `c`'s contents of each argument. -/
abbrev a0 (c : Dev nD) : FVec Ideal S4x1024x4096 .bf16 := m ((c : Thread nD τ).loc main_arg0)
abbrev a1 (c : Dev nD) : FVec Ideal S4x1024x4096 .bf16 := m ((c : Thread nD τ).loc main_arg1)
abbrev a2 (c : Dev nD) : FVec Ideal S4x4x256x64 .bf16 := m ((c : Thread nD τ).loc main_arg2)
abbrev a3 (c : Dev nD) : FVec Ideal S4x4x64x256 .bf16 := m ((c : Thread nD τ).loc main_arg3)
abbrev a4 (c : Dev nD) : FVec Ideal S4x4096x128 .f32 := m ((c : Thread nD τ).loc main_arg4)

/-- Whether compressed key `n` and block `j` overlap. -/
def ovB (n j : ℕ) : Bool := decide (16 * n < 64 * j + 64) && decide (64 * j < 16 * n + 32)

/-- The same as a number. -/
def ovF (n j : ℕ) : EReal := if ovB n j then 1 else 0

theorem ovF_01 (n j : ℕ) : ovF n j = 0 ∨ ovF n j = 1 := by
  unfold ovF
  split
  · exact Or.inr rfl
  · exact Or.inl rfl

theorem uitofp_ofBool (b : Bool) : FloatOps.uitofp (F := Ideal) .f32 (BitVec.ofBool b) = if b then (1 : EReal) else 0 := by
  cases b
  · show (((BitVec.ofBool false).toNat : ℝ) : EReal) = 0
    norm_num
  · show (((1 : ℕ) : ℝ) : EReal) = 1
    norm_num

/-- The words the table is computed with. -/
theorem ov_word (n : Fin 255) (j : Fin 64) :
    IntOp.andi (IntOp.cmpi .slt (IntOp.muli (BitVec.ofNat 32 n.val) 16#32) (IntOp.addi (IntOp.muli (BitVec.ofNat 32 j.val) 64#32) 64#32))
      (IntOp.cmpi .sgt (IntOp.addi (IntOp.muli (BitVec.ofNat 32 n.val) 16#32) 32#32) (IntOp.muli (BitVec.ofNat 32 j.val) 64#32)) = BitVec.ofBool (ovB n.val j.val) := by
  have hn : Affine.IsInt (IntOp.muli (BitVec.ofNat 32 n.val) 16#32) ((16 * n.val : ℕ) : Int) := Affine.muli (lit _ (by omega)) (lit 16 (by omega)) (by push_cast; omega)
  have hj : Affine.IsInt (IntOp.muli (BitVec.ofNat 32 j.val) 64#32) ((64 * j.val : ℕ) : Int) := Affine.muli (lit _ (by omega)) (lit 64 (by omega)) (by push_cast; omega)
  have hj' : Affine.IsInt (IntOp.addi (IntOp.muli (BitVec.ofNat 32 j.val) 64#32) 64#32) ((64 * j.val + 64 : ℕ) : Int) := Affine.addi hj (lit 64 (by omega)) (by push_cast; omega)
  have hn' : Affine.IsInt (IntOp.addi (IntOp.muli (BitVec.ofNat 32 n.val) 16#32) 32#32) ((16 * n.val + 32 : ℕ) : Int) := Affine.addi hn (lit 32 (by omega)) (by push_cast; omega)
  refine (congrArg₂ IntOp.andi (slt_of hn hj') (sgt_of hn' hj)).trans ?_
  refine (andi_bool _ _).trans ?_
  unfold ovB
  norm_cast

/-- The host's table. -/
theorem V_v31 (c : Dev nD) (j : Fin 64) (g : Fin 4) (n : Fin 255) : V m c main_v31 (ix2 j ⟨256 * g.val + n.val, by omega⟩) = ovF n.val j.val := by
  unfold V
  after_reads_at
  pointwise []
  rw [show (256 * g.val + n.val) % 256 = n.val by omega, show IntOp.cmpi .ne (BitVec.ofNat 32 n.val) 255#32 = BitVec.ofBool true from
    Affine.ne_holds (lit n.val (by omega)) (lit 255 (by omega)) (by omega), ov_word,
    show IntOp.andi (BitVec.ofBool (ovB n.val j.val)) (BitVec.ofBool true) = _ from andi_bool _ _, Bool.and_true, uitofp_ofBool]
  rfl

/-- The block index of every window at every point: batch `t / 128`, key head `t / 32 % 4`, query block `t % 32`. -/
theorem idx_all : ∀ t : Fin cfg0.N,
    (win0_0.index t (0 : Fin 3) = t.val / 128 ∧ win0_0.index t (1 : Fin 3) = t.val / 32 % 4 ∧ win0_0.index t (2 : Fin 3) = t.val % 32)
    ∧ (win0_1.index t (0 : Fin 3) = t.val / 128 ∧ win0_1.index t (1 : Fin 3) = t.val / 32 % 4 ∧ win0_1.index t (2 : Fin 3) = 0)
    ∧ (win0_2.index t (0 : Fin 3) = t.val / 128 ∧ win0_2.index t (1 : Fin 3) = 4 + t.val / 32 % 4 ∧ win0_2.index t (2 : Fin 3) = 0)
    ∧ (win0_3.index t (0 : Fin 3) = t.val / 128 ∧ win0_3.index t (1 : Fin 3) = 8 + t.val / 32 % 4 ∧ win0_3.index t (2 : Fin 3) = 0)
    ∧ (win0_4.index t (0 : Fin 3) = t.val / 128 ∧ win0_4.index t (1 : Fin 3) = 12 + t.val / 32 % 4 ∧ win0_4.index t (2 : Fin 3) = 0)
    ∧ (win0_5.index t (0 : Fin 4) = t.val / 128 ∧ win0_5.index t (1 : Fin 4) = t.val / 32 % 4 ∧ win0_5.index t (2 : Fin 4) = 0 ∧ win0_5.index t (3 : Fin 4) = 0)
    ∧ (win0_6.index t (0 : Fin 4) = t.val / 128 ∧ win0_6.index t (1 : Fin 4) = t.val / 32 % 4 ∧ win0_6.index t (2 : Fin 4) = 0 ∧ win0_6.index t (3 : Fin 4) = 0)
    ∧ (win0_7.index t (0 : Fin 3) = t.val / 128 ∧ win0_7.index t (1 : Fin 3) = t.val % 32 ∧ win0_7.index t (2 : Fin 3) = 0)
    ∧ (win0_8.index t (0 : Fin 2) = 0 ∧ win0_8.index t (1 : Fin 2) = 0)
    ∧ (win0_9.index t (0 : Fin 3) = t.val / 128 ∧ win0_9.index t (1 : Fin 3) = t.val / 32 % 4 ∧ win0_9.index t (2 : Fin 3) = t.val % 32) :=
  (by decide +kernel : ∀ t : Fin grid0.N, _)

/-- The grid's coordinates of a point. -/
theorem coords_all : ∀ t : Fin cfg0.N, (grid0.coords t (0 : Fin 3)).val = t.val / 128 ∧ (grid0.coords t (1 : Fin 3)).val = t.val / 32 % 4 ∧ (grid0.coords t (2 : Fin 3)).val = t.val % 32 :=
  (by decide +kernel : ∀ t : Fin grid0.N, _)

section Blk
variable (c : Dev nD) (t : Fin cfg0.N) (b h : Fin 4) (hb : b.val = t.val / 128) (hh : h.val = t.val / 32 % 4)

include hb hh in
theorem blk0 (k : Fin 256) (y : Fin 128) (q : Fin 4096) (hq : q.val = 128 * (t.val % 32) + y.val) :
    (iblk m c 0 t : Vec Ideal S1x256x128 .bf16) (ix3 0 k y) = a0 m c (ix3 b ⟨256 * h.val + k.val, by omega⟩ q) := by
  show V m c main_arg0 (((cfg0.win 0).blk t).view.emb (ix3 0 k y)) = _
  rw [V_main_arg0]
  refine congrArg _ (funext fun a => Fin.ext ?_)
  obtain ⟨h0, h1, h2⟩ := (idx_all t).1
  match a with
  | ⟨0, _⟩ => show win0_0.index t (0 : Fin 3) * 1 + 1 * 0 = b.val; omega
  | ⟨1, _⟩ => show win0_0.index t (1 : Fin 3) * 256 + 1 * k.val = 256 * h.val + k.val; omega
  | ⟨2, _⟩ => show win0_0.index t (2 : Fin 3) * 128 + 1 * y.val = q.val; omega

include hb hh in
/-- The four windows over the selected and the window branch's keys and values: rows `256 · w + 64 · h`. -/
theorem blk1 (e : Fin 64) (s : Fin 4096) : (iblk m c 1 t : Vec Ideal S1x64x4096 .bf16) (ix3 0 e s) = a1 m c (ix3 b ⟨0 + h.val * 64 + e.val, by omega⟩ s) := by
  show V m c main_arg1 (((cfg0.win 1).blk t).view.emb (ix3 0 e s)) = _
  rw [V_main_arg1]
  refine congrArg _ (funext fun a => Fin.ext ?_)
  obtain ⟨h0, h1, h2⟩ := (idx_all t).2.1
  match a with
  | ⟨0, _⟩ => show win0_1.index t (0 : Fin 3) * 1 + 1 * 0 = b.val; omega
  | ⟨1, _⟩ => show win0_1.index t (1 : Fin 3) * 64 + 1 * e.val = 0 + h.val * 64 + e.val; omega
  | ⟨2, _⟩ => show win0_1.index t (2 : Fin 3) * 4096 + 1 * s.val = s.val; omega
include hb hh in
theorem blk2 (e : Fin 64) (s : Fin 4096) : (iblk m c 2 t : Vec Ideal S1x64x4096 .bf16) (ix3 0 e s) = a1 m c (ix3 b ⟨256 + h.val * 64 + e.val, by omega⟩ s) := by
  show V m c main_arg1 (((cfg0.win 2).blk t).view.emb (ix3 0 e s)) = _
  rw [V_main_arg1]
  refine congrArg _ (funext fun a => Fin.ext ?_)
  obtain ⟨h0, h1, h2⟩ := (idx_all t).2.2.1
  match a with
  | ⟨0, _⟩ => show win0_2.index t (0 : Fin 3) * 1 + 1 * 0 = b.val; omega
  | ⟨1, _⟩ => show win0_2.index t (1 : Fin 3) * 64 + 1 * e.val = 256 + h.val * 64 + e.val; omega
  | ⟨2, _⟩ => show win0_2.index t (2 : Fin 3) * 4096 + 1 * s.val = s.val; omega
include hb hh in
theorem blk3 (e : Fin 64) (s : Fin 4096) : (iblk m c 3 t : Vec Ideal S1x64x4096 .bf16) (ix3 0 e s) = a1 m c (ix3 b ⟨512 + h.val * 64 + e.val, by omega⟩ s) := by
  show V m c main_arg1 (((cfg0.win 3).blk t).view.emb (ix3 0 e s)) = _
  rw [V_main_arg1]
  refine congrArg _ (funext fun a => Fin.ext ?_)
  obtain ⟨h0, h1, h2⟩ := (idx_all t).2.2.2.1
  match a with
  | ⟨0, _⟩ => show win0_3.index t (0 : Fin 3) * 1 + 1 * 0 = b.val; omega
  | ⟨1, _⟩ => show win0_3.index t (1 : Fin 3) * 64 + 1 * e.val = 512 + h.val * 64 + e.val; omega
  | ⟨2, _⟩ => show win0_3.index t (2 : Fin 3) * 4096 + 1 * s.val = s.val; omega
include hb hh in
theorem blk4 (e : Fin 64) (s : Fin 4096) : (iblk m c 4 t : Vec Ideal S1x64x4096 .bf16) (ix3 0 e s) = a1 m c (ix3 b ⟨768 + h.val * 64 + e.val, by omega⟩ s) := by
  show V m c main_arg1 (((cfg0.win 4).blk t).view.emb (ix3 0 e s)) = _
  rw [V_main_arg1]
  refine congrArg _ (funext fun a => Fin.ext ?_)
  obtain ⟨h0, h1, h2⟩ := (idx_all t).2.2.2.2.1
  match a with
  | ⟨0, _⟩ => show win0_4.index t (0 : Fin 3) * 1 + 1 * 0 = b.val; omega
  | ⟨1, _⟩ => show win0_4.index t (1 : Fin 3) * 64 + 1 * e.val = 768 + h.val * 64 + e.val; omega
  | ⟨2, _⟩ => show win0_4.index t (2 : Fin 3) * 4096 + 1 * s.val = s.val; omega
include hb hh in
theorem blk5 (n : Fin 256) (e : Fin 64) : (iblk m c 5 t : Vec Ideal S1x1x256x64 .bf16) (ix4 0 0 n e) = a2 m c (ix4 b h n e) := by
  show V m c main_arg2 (((cfg0.win 5).blk t).view.emb (ix4 0 0 n e)) = _
  rw [V_main_arg2]
  refine congrArg _ (funext fun a => Fin.ext ?_)
  obtain ⟨h0, h1, h2, h3⟩ := (idx_all t).2.2.2.2.2.1
  match a with
  | ⟨0, _⟩ => show win0_5.index t (0 : Fin 4) * 1 + 1 * 0 = b.val; omega
  | ⟨1, _⟩ => show win0_5.index t (1 : Fin 4) * 1 + 1 * 0 = h.val; omega
  | ⟨2, _⟩ => show win0_5.index t (2 : Fin 4) * 256 + 1 * n.val = n.val; omega
  | ⟨3, _⟩ => show win0_5.index t (3 : Fin 4) * 64 + 1 * e.val = e.val; omega
include hb hh in
theorem blk6 (d : Fin 64) (n : Fin 256) : (iblk m c 6 t : Vec Ideal S1x1x64x256 .bf16) (ix4 0 0 d n) = a3 m c (ix4 b h d n) := by
  show V m c main_arg3 (((cfg0.win 6).blk t).view.emb (ix4 0 0 d n)) = _
  rw [V_main_arg3]
  refine congrArg _ (funext fun a => Fin.ext ?_)
  obtain ⟨h0, h1, h2, h3⟩ := (idx_all t).2.2.2.2.2.2.1
  match a with
  | ⟨0, _⟩ => show win0_6.index t (0 : Fin 4) * 1 + 1 * 0 = b.val; omega
  | ⟨1, _⟩ => show win0_6.index t (1 : Fin 4) * 1 + 1 * 0 = h.val; omega
  | ⟨2, _⟩ => show win0_6.index t (2 : Fin 4) * 64 + 1 * d.val = d.val; omega
  | ⟨3, _⟩ => show win0_6.index t (3 : Fin 4) * 256 + 1 * n.val = n.val; omega
include hb in
theorem blk7 (y r : Fin 128) (q : Fin 4096) (hq : q.val = 128 * (t.val % 32) + y.val) :
    (iblk m c 7 t : Vec Ideal S1x128x128 .f32) (ix3 0 y r) = a4 m c (ix3 b q r) := by
  show V m c main_arg4 (((cfg0.win 7).blk t).view.emb (ix3 0 y r)) = _
  rw [V_main_arg4]
  refine congrArg _ (funext fun a => Fin.ext ?_)
  obtain ⟨h0, h1, h2⟩ := (idx_all t).2.2.2.2.2.2.2.1
  match a with
  | ⟨0, _⟩ => show win0_7.index t (0 : Fin 3) * 1 + 1 * 0 = b.val; omega
  | ⟨1, _⟩ => show win0_7.index t (1 : Fin 3) * 128 + 1 * y.val = q.val; omega
  | ⟨2, _⟩ => show win0_7.index t (2 : Fin 3) * 128 + 1 * r.val = r.val; omega
theorem blk8 (j : Fin 64) (g : Fin 4) (n : Fin 255) : (iblk m c 8 t : Vec Ideal S64x1024 .bf16) (ix2 j ⟨256 * g.val + n.val, by omega⟩) = ovF n.val j.val := by
  rw [← V_v31 m c j g n]
  show V m c main_v31 (((cfg0.win 8).blk t).view.emb (ix2 j ⟨256 * g.val + n.val, by omega⟩)) = _
  refine congrArg _ (funext fun a => Fin.ext ?_)
  obtain ⟨h0, h1⟩ := (idx_all t).2.2.2.2.2.2.2.2.1
  match a with
  | ⟨0, _⟩ => show win0_8.index t (0 : Fin 2) * 64 + 1 * j.val = j.val; omega
  | ⟨1, _⟩ => show win0_8.index t (1 : Fin 2) * 1024 + 1 * (256 * g.val + n.val) = 256 * g.val + n.val; omega
end Blk

end Cert.Proof.Attn

end
-- ==== Proof.Comb.lean ====
/- The kernel's branches and the reference's, as functions of the scores: the selected keys in the order of their
   blocks' ranks against the same keys in the order of their positions, the window's keys against all keys, the 255
   compressed keys against the same with one masked key more. -/
module

public import proofs.«01_k».proof.Proof.Rank
public import proofs.«01_k».proof.Proof.Comp
public import proofs.«01_k».proof.Proof.Flash
public import proofs.«01_k».proof.Proof.Sort

@[expose] public section

noncomputable section

namespace Cert.Proof.Attn

open Idealize.ShloMosaic Cert.Proof.Flash

/-- The value an unmasked importance exceeds. -/
abbrev thr : EReal := Ideal.ofBits .f32 0xF0C9F2CA#32

theorem thr_neg : thr < 0 := by
  have h : thr = ((-(13234890 * 2 ^ 75) : ℝ) : EReal) := by
    simp [thr, Ideal.ofBits, Ideal.ieee, -EReal.coe_mul]
  rw [h]
  exact_mod_cast (by norm_num : (-(13234890 * 2 ^ 75) : ℝ) < 0)

theorem big_pos : (0 : EReal) < Ideal.ofBits FTy.f32 0x7149F2CA#32 := by
  have h : (Ideal.ofBits FTy.f32 0x7149F2CA#32 : EReal) = (((13234890 * 2 ^ 76 : ℝ)) : EReal) := by
    simp [Ideal.ofBits, Ideal.ieee, -EReal.coe_mul]
  rw [h]
  exact_mod_cast (by norm_num : (0 : ℝ) < 13234890 * 2 ^ 76)

/-- The selected branch's score of the `e`-th gathered key: key `e % 64` of the block of rank `e / 64`. -/
def xsS (t : ℕ) (f : Fin 64 → EReal) (K : Fin 4096 → EReal) (e : Fin 1024) : EReal :=
  if thr < f (top_i f ⟨e.val / 64, by omega⟩) ∧ 64 * (top_i f ⟨e.val / 64, by omega⟩).val + e.val % 64 ≤ t then
    K ⟨(top_i f ⟨e.val / 64, by omega⟩).val * 64 + e.val % 64, by have := (top_i f ⟨e.val / 64, by omega⟩).isLt; omega⟩ else ⊥

/-- The value that goes with it. -/
def wsS (f : Fin 64 → EReal) (V : Fin 4096 → EReal) (e : Fin 1024) : EReal :=
  V ⟨(top_i f ⟨e.val / 64, by omega⟩).val * 64 + e.val % 64, by have := (top_i f ⟨e.val / 64, by omega⟩).isLt; omega⟩

/-- The window branch's score of a key. -/
def xwS (t : ℕ) (K : Fin 4096 → EReal) (s : Fin 4096) : EReal := if s.val ≤ t ∧ t < s.val + 512 then K s else ⊥

section Sel
variable (t : ℕ) (ht : t < 4096) (R : Fin 64 → EReal) (hR : ∀ j, 0 ≤ R j) (K V : Fin 4096 → EReal) (hK : ∀ s, ∃ r : ℝ, K s = (r : EReal))

include hR in
/-- Unmasked are the blocks that begin no later than the query. -/
theorem thr_lt (j : Fin 64) : thr < impS t R j ↔ 64 * j.val ≤ t := by
  unfold impS
  split
  · refine iff_of_true ?_ ‹_›
    split
    · exact thr_neg.trans big_pos
    · exact lt_of_lt_of_le thr_neg (hR j)
  · exact iff_of_false not_lt_bot ‹_›

theorem coe_ne {x : EReal} (h : ∃ r : ℝ, x = (r : EReal)) : x ≠ ⊥ := by
  obtain ⟨r, rfl⟩ := h
  exact EReal.coe_ne_bot r

include hK hR in
theorem xs_ne (e : Fin 1024) : xsS t (impS t R) K e ≠ ⊥ ↔ 64 * (top_i (impS t R) ⟨e.val / 64, by omega⟩).val + e.val % 64 ≤ t := by
  unfold xsS
  constructor
  · intro h
    by_contra hc
    exact h (if_neg fun hh => hc hh.2)
  · intro h
    rw [if_pos ⟨(thr_lt t R hR _).mpr (by omega), h⟩]
    exact coe_ne (hK _)

include ht hR hK in
/-- The kernel's selected branch is the reference's. -/
theorem sel_branch (n : ℕ) (hn : t < n) (s v : ℕ → EReal)
    (hs : ∀ k, s k = if h : k < 4096 then
      if k ≤ t ∧ ((Finset.univ.filter fun m => Before (impS t R) m ⟨k / 64, by omega⟩).card < 16 ∧ 64 * (k / 64) ≤ t) then K ⟨k, h⟩ else ⊥ else ⊥)
    (hv : ∀ k (h : k < 4096), v k = V ⟨k, h⟩) :
    Ideal.div (num s v n) (den s n) = soft (xsS t (impS t R) K) (wsS (impS t R) V) := by
  have hlt : ∀ e : Fin 1024, (top_i (impS t R) ⟨e.val / 64, by omega⟩).val < 64 := fun e => (top_i (impS t R) ⟨e.val / 64, by omega⟩).isLt
  have hsc : ∀ k, Score (s k) := fun k => by
    rw [hs k]
    split
    · split
      · obtain ⟨r, hr⟩ := hK ⟨k, by assumption⟩
        rw [hr]; exact score_coe r
      · exact score_bot
    · exact score_bot
  have hsel : ∀ e : Fin 1024, 64 * (top_i (impS t R) ⟨e.val / 64, by omega⟩).val + e.val % 64 ≤ t →
      s (64 * (top_i (impS t R) ⟨e.val / 64, by omega⟩).val + e.val % 64)
        = K ⟨64 * (top_i (impS t R) ⟨e.val / 64, by omega⟩).val + e.val % 64, by omega⟩ := fun e he => by
    have hd : (64 * (top_i (impS t R) ⟨e.val / 64, by omega⟩).val + e.val % 64) / 64 = (top_i (impS t R) ⟨e.val / 64, by omega⟩).val := by omega
    rw [hs, dif_pos (by omega), if_pos]
    refine ⟨he, ?_, by omega⟩
    refine (count_lt (impS t R) 16 _).mpr ⟨⟨e.val / 64, by omega⟩, by show e.val / 64 < 16; omega, Fin.ext hd.symm⟩
  have e0 : ∃ e : Fin 1024, 64 * (top_i (impS t R) ⟨e.val / 64, by omega⟩).val + e.val % 64 ≤ t := by
    refine ⟨⟨0, by omega⟩, ?_⟩
    have h1 : (Finset.univ.filter fun m => Before (impS t R) m (top_i (impS t R) ⟨0 / 64, by omega⟩)).card < 1 :=
      (count_lt (impS t R) 1 _).mpr ⟨⟨0 / 64, by omega⟩, by simp, rfl⟩
    have h2 : ¬ Before (impS t R) 0 (top_i (impS t R) ⟨0 / 64, by omega⟩) := fun hb => by
      have : 0 < (Finset.univ.filter fun m => Before (impS t R) m (top_i (impS t R) ⟨0 / 64, by omega⟩)).card :=
        Finset.card_pos.mpr ⟨0, Finset.mem_filter.mpr ⟨Finset.mem_univ _, hb⟩⟩
      omega
    have h3 : thr < impS t R (top_i (impS t R) ⟨0 / 64, by omega⟩) := by
      refine lt_of_lt_of_le ((thr_lt t R hR 0).mpr (by simp)) (not_lt.mp fun h => h2 (Or.inl h))
    have h4 := (thr_lt t R hR _).mp h3
    simpa using h4
  obtain ⟨e0, he0⟩ := e0
  refine branch_eq (fun e : Fin 1024 => 64 * (top_i (impS t R) ⟨e.val / 64, by omega⟩).val + e.val % 64) _ n ?_ ?_ ?_ hsc _ ?_
    (64 * (top_i (impS t R) ⟨e0.val / 64, by omega⟩).val + e0.val % 64) (by omega) ?_
  · intro e he
    have he' := (xs_ne t R hR K hK e).mp he
    refine ⟨by omega, ?_⟩
    refine (hsel e he').trans ?_
    unfold xsS
    rw [if_pos ⟨(thr_lt t R hR _).mpr (by omega), he'⟩]
    exact congrArg K (Fin.ext (by show 64 * _ + _ = _ * 64 + _; omega))
  · intro e e' _ _ hk
    have h1 := hlt e
    have h2 := hlt e'
    have hk' : 64 * (top_i (impS t R) ⟨e.val / 64, by omega⟩).val + e.val % 64 = 64 * (top_i (impS t R) ⟨e'.val / 64, by omega⟩).val + e'.val % 64 := hk
    have h3 : top_i (impS t R) ⟨e.val / 64, by omega⟩ = top_i (impS t R) ⟨e'.val / 64, by omega⟩ := Fin.ext (by omega)
    have h4 : e.val / 64 = e'.val / 64 := congrArg Fin.val (top_inj _ h3)
    exact Fin.ext (by omega)
  · intro k hk hne
    rw [hs k] at hne
    by_cases h : k < 4096
    · rw [dif_pos h] at hne
      by_cases hc : k ≤ t ∧ ((Finset.univ.filter fun m => Before (impS t R) m ⟨k / 64, by omega⟩).card < 16 ∧ 64 * (k / 64) ≤ t)
      · obtain ⟨r, hr, he⟩ := (count_lt (impS t R) 16 _).mp hc.2.1
        have hq : (64 * r.val + k % 64) / 64 = r.val := by omega
        have hj : (top_i (impS t R) ⟨(64 * r.val + k % 64) / 64, by omega⟩).val = k / 64 := by
          rw [show (⟨(64 * r.val + k % 64) / 64, by omega⟩ : Fin 64) = r from Fin.ext hq, he]
        have hkey : 64 * (top_i (impS t R) ⟨(64 * r.val + k % 64) / 64, by omega⟩).val + (64 * r.val + k % 64) % 64 = k := by
          rw [hj]; omega
        exact ⟨⟨64 * r.val + k % 64, by omega⟩, (xs_ne t R hR K hK _).mpr (hkey.le.trans hc.1), hkey⟩
      · rw [if_neg hc] at hne; exact absurd rfl hne
    · rw [dif_neg h] at hne; exact absurd rfl hne
  · intro e he
    have h1 := hlt e
    show wsS (impS t R) V e = v (64 * (top_i (impS t R) ⟨e.val / 64, by omega⟩).val + e.val % 64)
    rw [hv _ (by omega)]
    exact congrArg V (Fin.ext (by show _ * 64 + _ = 64 * _ + _; omega))
  · rw [hsel e0 he0]
    exact coe_ne (hK _)

include ht hK in
/-- The kernel's window branch is the reference's. -/
theorem win_branch (q y : ℕ) (hq : t = 128 * q + y) (hy : y < 128) (s v : ℕ → EReal)
    (hs : ∀ k, s k = if h : 128 * (q - 4) + k < 4096 then
      if 128 * (q - 4) + k ≤ t ∧ t < 128 * (q - 4) + k + 512 then K ⟨128 * (q - 4) + k, h⟩ else ⊥ else ⊥)
    (hv : ∀ k (h : 128 * (q - 4) + k < 4096), v k = V ⟨128 * (q - 4) + k, h⟩) :
    Ideal.div (num s v (128 * (q + 1 - (q - 4)))) (den s (128 * (q + 1 - (q - 4)))) = soft (xwS t K) V := by
  have hsc : ∀ k, Score (s k) := fun k => by
    rw [hs k]
    split
    · split
      · obtain ⟨r, hr⟩ := hK ⟨128 * (q - 4) + k, by assumption⟩
        rw [hr]; exact score_coe r
      · exact score_bot
    · exact score_bot
  have hne : ∀ x : Fin 4096, xwS t K x ≠ ⊥ ↔ x.val ≤ t ∧ t < x.val + 512 := fun x => by
    unfold xwS
    constructor
    · intro h
      by_contra hc
      exact h (if_neg hc)
    · intro h
      rw [if_pos h]
      exact coe_ne (hK _)
  have hk : ∀ x : Fin 4096, x.val ≤ t ∧ t < x.val + 512 → 128 * (q - 4) + (x.val - 128 * (q - 4)) = x.val := fun x hx => by omega
  refine branch_eq (fun x : Fin 4096 => x.val - 128 * (q - 4)) _ _ ?_ ?_ ?_ hsc _ ?_ (t - 128 * (q - 4)) (by omega) ?_
  · intro x hx
    have hx' := (hne x).mp hx
    have hx'' := hk x hx'
    refine ⟨by omega, ?_⟩
    rw [hs, dif_pos (by omega), if_pos (by omega)]
    unfold xwS
    rw [if_pos hx']
    exact congrArg K (Fin.ext hx'')
  · intro x x' hx hx' he
    have h1 := hk x ((hne x).mp hx)
    have h2 := hk x' ((hne x').mp hx')
    have he' : x.val - 128 * (q - 4) = x'.val - 128 * (q - 4) := he
    exact Fin.ext (by omega)
  · intro k hkn hs'
    rw [hs k] at hs'
    by_cases h : 128 * (q - 4) + k < 4096
    · rw [dif_pos h] at hs'
      by_cases hc : 128 * (q - 4) + k ≤ t ∧ t < 128 * (q - 4) + k + 512
      · exact ⟨⟨128 * (q - 4) + k, h⟩, (hne _).mpr hc, by show 128 * (q - 4) + k - 128 * (q - 4) = k; omega⟩
      · rw [if_neg hc] at hs'; exact absurd rfl hs'
    · rw [dif_neg h] at hs'; exact absurd rfl hs'
  · intro x hx
    have hx'' := hk x ((hne x).mp hx)
    show V x = v (x.val - 128 * (q - 4))
    rw [hv _ (by omega)]
    exact congrArg V (Fin.ext hx''.symm)
  · rw [hs, dif_pos (by omega), if_pos (by omega)]
    exact coe_ne (hK _)
end Sel

section Cmp
variable (t : ℕ) (ht : t < 4096)

include ht in
/-- The last of the 256 compressed keys is masked for every query. -/
theorem mC_last (S : Fin 256 → EReal) : mC t S (Fin.last 255) = ⊥ := by
  unfold mC
  exact if_neg (by show ¬ (16 * 255 + 31 ≤ t); omega)

include ht in
theorem pc_last (S : Fin 256 → EReal) : pcS t S (Fin.last 255) = 0 := by
  unfold pcS
  exact if_neg (by show ¬ (16 * 255 + 31 ≤ t); omega)

include ht in
theorem sup_pad (S : Fin 256 → EReal) : Finset.univ.sup (mC t S) = Finset.univ.sup (mC t fun n : Fin 255 => S n.castSucc) := by
  refine le_antisymm (Finset.sup_le fun k _ => ?_) (Finset.sup_le fun k _ => ?_)
  · induction k using Fin.lastCases with
    | last => rw [mC_last t ht]; exact bot_le
    | cast k => exact Finset.le_sup (f := mC t fun n : Fin 255 => S n.castSucc) (Finset.mem_univ k)
  · exact Finset.le_sup (f := mC t S) (Finset.mem_univ k.castSucc)

include ht in
/-- One masked key more changes no normalised score. -/
theorem pc_pad (S : Fin 256 → EReal) (n : Fin 255) : pcS t S n.castSucc = pcS t (fun n : Fin 255 => S n.castSucc) n := by
  unfold pcS
  rw [sup_pad t ht, Fin.sum_univ_castSucc, mC_last t ht, exp_masked, add_zero]
  rfl

include ht in
/-- The compressed branch: 256 keys against 255. -/
theorem oc_pad (S : Fin 256 → EReal) (w : Fin 256 → EReal) :
    ∑ n, w n * pcS t S n = ∑ n : Fin 255, w n.castSucc * pcS t (fun n : Fin 255 => S n.castSucc) n := by
  rw [Fin.sum_univ_castSucc, pc_last t ht, mul_zero, add_zero]
  exact Finset.sum_congr rfl fun n _ => by rw [pc_pad t ht]

/-- A normalised score is not negative. -/
theorem pc_nonneg {N : ℕ} (S : Fin N → EReal) (hS : ∀ n, Score (S n)) (n : Fin N) (hne : ∀ n, S n ≠ ⊥) : 0 ≤ pcS t S n := by
  unfold pcS
  split
  · rename_i hn
    have hm : ∀ k, Score (mC t S k) := fun k => by
      unfold mC
      split
      · exact hS k
      · exact score_bot
    have hM := score_sup Finset.univ (mC t S) hm
    have h0 : ∀ k, 0 ≤ Ideal.exp (mC t S k - Finset.univ.sup (mC t S)) := fun k => by
      obtain ⟨r, hr, e⟩ := exp_sub (hm k) hM (Finset.le_sup (f := mC t S) (Finset.mem_univ k))
      rw [e]
      exact_mod_cast hr
    obtain ⟨k, -, hk⟩ := Finset.exists_mem_eq_sup Finset.univ ⟨n, Finset.mem_univ n⟩ (mC t S)
    have hb : mC t S k ≠ ⊥ := fun h => by
      have h1 : mC t S n ≤ ⊥ := (Finset.le_sup (f := mC t S) (Finset.mem_univ n)).trans (hk.trans h).le
      unfold mC at h1
      rw [if_pos hn] at h1
      exact hne n (le_bot_iff.mp h1)
    have h1 : Ideal.exp (mC t S k - Finset.univ.sup (mC t S)) = 1 := by
      rw [hk]
      rcases hm k with h | ⟨r, h⟩
      · exact absurd h hb
      · rw [h]; exact exp_self r
    have hd : 1 ≤ ∑ k, Ideal.exp (mC t S k - Finset.univ.sup (mC t S)) :=
      h1.symm.le.trans (Finset.single_le_sum (f := fun k => Ideal.exp (mC t S k - Finset.univ.sup (mC t S))) (fun k _ => h0 k) (Finset.mem_univ k))
    have hp : (0 : EReal) < ∑ k, Ideal.exp (mC t S k - Finset.univ.sup (mC t S)) := lt_of_lt_of_le zero_lt_one hd
    unfold Ideal.div
    rw [if_neg hp.ne']
    exact mul_nonneg (h0 n) (EReal.inv_nonneg_of_nonneg hp.le)
  · exact le_rfl

include ht in
/-- A block's importance: the four heads' 256 keys side by side against the sum over the heads of 255 keys. -/
theorem imp_pad (S : Fin 4 → Fin 256 → EReal) (x8 : Fin 1024 → EReal) (ov : Fin 255 → EReal) (h01 : ∀ n, ov n = 0 ∨ ov n = 1)
    (h8 : ∀ (g : Fin 4) (n : Fin 255), x8 ⟨256 * g.val + n.val, by omega⟩ = ov n) :
    ∑ e : Fin 1024, x8 e * pcS t (S ⟨e.val / 256, by omega⟩) ⟨e.val % 256, by omega⟩
      = ∑ n : Fin 255, (∑ g, pcS t (fun n : Fin 255 => S g n.castSucc) n) * ov n := by
  rw [← (finProdFinEquiv (m := 4) (n := 256)).sum_comp, Fintype.sum_prod_type]
  have hin : ∀ g : Fin 4, ∑ m : Fin 256, x8 (finProdFinEquiv (m := 4) (n := 256) (g, m)) * pcS t (S ⟨(finProdFinEquiv (m := 4) (n := 256) (g, m)).val / 256, by omega⟩) ⟨(finProdFinEquiv (m := 4) (n := 256) (g, m)).val % 256, by omega⟩
      = ∑ n : Fin 255, pcS t (fun n : Fin 255 => S g n.castSucc) n * ov n := fun g => by
    have hv : ∀ m : Fin 256, (finProdFinEquiv (m := 4) (n := 256) (g, m)).val = m.val + 256 * g.val := fun m => rfl
    have hg : ∀ m : Fin 256, (⟨(finProdFinEquiv (m := 4) (n := 256) (g, m)).val / 256, by omega⟩ : Fin 4) = g := fun m => Fin.ext (by show _ / 256 = _; rw [hv]; omega)
    have hm : ∀ m : Fin 256, (⟨(finProdFinEquiv (m := 4) (n := 256) (g, m)).val % 256, by omega⟩ : Fin 256) = m := fun m => Fin.ext (by show _ % 256 = _; rw [hv]; omega)
    simp only [hg, hm]
    rw [oc_pad t ht (S g) (fun m => x8 (finProdFinEquiv (m := 4) (n := 256) (g, m)))]
    refine Finset.sum_congr rfl fun n _ => ?_
    rw [mul_comm, show finProdFinEquiv (m := 4) (n := 256) (g, n.castSucc) = (⟨256 * g.val + n.val, by omega⟩ : Fin 1024) from
      Fin.ext (by show n.val + 256 * g.val = 256 * g.val + n.val; omega), h8]
  rw [Finset.sum_congr rfl fun g _ => hin g, Finset.sum_comm]
  refine Finset.sum_congr rfl fun n _ => ?_
  rcases h01 n with h | h
  · simp only [h, mul_zero, Finset.sum_const_zero]
  · simp only [h, mul_one]
end Cmp

end Cert.Proof.Attn

end
-- ==== Proof.RefA.lean ====
/- The reference's operations that are read by hand: the largest 16 of 64 values, the gather of key blocks by number, the
   two reshapes between blocks and keys, the sum over blocks and keys, and the maxima. -/
module

public import proofs.«01_k».proof.Proof.Gen.ReferenceIdeal.Read
public import proofs.«01_k».proof.Proof.Sort
public import Idealize.ShloMosaic.Lib.Pointwise
public import Idealize.ShloMosaic.Lib.ValueIdx
public import Idealize.ShloMosaic.Lib.ValueIdxRank6
public import Idealize.ShloMosaic.Lib.TwoAxisContraction

@[expose] public section

set_option maxRecDepth 16384

noncomputable section

namespace Cert.Proof.Ref

open Cert.ReferenceIdeal Cert.ReferenceIdeal.Gen Cert.ReferenceIdeal.Read Idealize.ShloMosaic Idealize.ShloMosaic.TcCoe
open Cert.Proof.Attn (top_i)

variable (x0 x1 : FVec Ideal S4x1024x4096 .bf16) (x2 : FVec Ideal S4x4x256x64 .bf16)
  (b : Fin 4) (t : Fin 4096) (h g : Fin 4) (d : Fin 64) (r : Fin 16) (l : Fin 64)

/-- A maximum from the floor along one axis. -/
theorem host_max {s t u : Shape} {a : Fin s.rank} (x : s.Idx → EReal) (init : u.Idx → EReal) (h' : s.ReducesTo [a] t) (h : s.Reduces [a] t)
    (hu : 0 < u.numel) (j : t.Idx) (N : ℕ) (hN : s.size a = N) (f : Fin N → EReal) (e : init (Shape.Idx.first hu) = ⊥)
    (hf : ∀ k, x (h.lift j k) = f (k.cast hN)) :
    Host.reduce (FloatOps.maximumf (F := Ideal) (φ := .f32)) x init h' hu j = Finset.univ.sup f := by
  subst hN
  rw [Host.reduce_eq_fold_single _ x init h' h hu j, e, show x ∘ h.lift j = f from funext hf]
  rfl

theorem neg_inf : (Ideal.ofBits FTy.f32 0xFF800000#32 : EReal) = ⊥ := by simp [Ideal.ofBits, Ideal.ieee]

/-- The importances of one query's blocks. -/
def impR (j : Fin 64) : EReal := val_main_v104 (F := Ideal) x0 x2 (ix4 b h t j)

theorem along4 (j k : Fin 64) : (ix4 b h t j : S4x4x4096x64.Idx).along 3 k = ix4 b h t k := by
  funext a; match a with | ⟨0, _⟩ => rfl | ⟨1, _⟩ => rfl | ⟨2, _⟩ => rfl | ⟨3, _⟩ => rfl

section Top
variable (y : FVec Ideal S4x4x4096x64 .f32) (w : IVec S4x4x4096x64 32) (j : Fin 64)

/-- The sort along the last axis takes position `j` of a row from the row's sorted number. -/
theorem sort_row : (fun k k' : Fin 64 => (FloatOps.cmpfTotal (F := Ideal) (φ := .f32) .gt
      (y ((ix4 b h t j : S4x4x4096x64.Idx).along 3 k)) (y ((ix4 b h t j : S4x4x4096x64.Idx).along 3 k')) == 1#1))
    = fun k k' : Fin 64 => decide (y (ix4 b h t k') < y (ix4 b h t k)) := by
  funext k k'
  rw [along4, along4]
  show (BitVec.ofBool (decide (y (ix4 b h t k') < y (ix4 b h t k))) == 1#1) = _
  cases decide (y (ix4 b h t k') < y (ix4 b h t k)) <;> rfl

theorem sort_at : (Host.sort2 S4x4x4096x64 3 (fun l r : EReal × BitVec 32 => FloatOps.cmpfTotal (F := Ideal) (φ := .f32) .gt l.1 r.1) y w).1 (ix4 b h t j)
      = y (ix4 b h t (top_i (fun j => y (ix4 b h t j)) j))
    ∧ (Host.sort2 S4x4x4096x64 3 (fun l r : EReal × BitVec 32 => FloatOps.cmpfTotal (F := Ideal) (φ := .f32) .gt l.1 r.1) y w).2 (ix4 b h t j)
      = w (ix4 b h t (top_i (fun j => y (ix4 b h t j)) j)) := by
  have e := congrArg (fun R => sortedFrom R j) (sort_row b t h y j)
  unfold Host.sort2
  rw [dif_pos (show 3 < S4x4x4096x64.rank by decide)]
  refine ⟨(congrArg y ?_ : _ = y _), (congrArg w ?_ : _ = w _)⟩
  all_goals
    refine Eq.trans ?_ (along4 b t h j _)
    exact congrArg (fun k : Fin 64 => (ix4 b h t j : S4x4x4096x64.Idx).along 3 k) e

end Top

/-- The number of the `r`-th most important block. -/
theorem indices_at : val_main_indices (F := Ideal) x0 x2 (ix4 b h t r) = BitVec.ofNat 32 (top_i (impR x0 x2 b t h) ⟨r.val, by omega⟩).val := by
  unfold val_main_indices impR
  generalize val_main_v104 (F := Ideal) x0 x2 = y
  unfold Host.topK
  pointwise []
  exact (sort_at b t h y _ ⟨r.val, by omega⟩).2

/-- Its importance. -/
theorem values_at : val_main_values (F := Ideal) x0 x2 (ix4 b h t r) = impR x0 x2 b t h (top_i (impR x0 x2 b t h) ⟨r.val, by omega⟩) := by
  unfold val_main_values impR
  generalize val_main_v104 (F := Ideal) x0 x2 = y
  unfold Host.topK
  pointwise []
  exact (sort_at b t h y _ ⟨r.val, by omega⟩).1

/-- The gather of a block of 64 keys by number. -/
theorem gather_at (X : FVec Ideal S4x4x64x64x64 .f32) (I : IVec S4x4x4096x16x1 32) (k : Fin 64)
    (hI : I (ix5 b h t r 0) = BitVec.ofNat 32 k.val) :
    Host.gather gather_S4x4x64x64x64_S4x4x4096x16x1_S4x4x4096x16x64x64_45_2_01_01_2_4_1116464 X I (ix6 b h t r l d) = X (ix5 b h k l d) := by
  unfold Host.gather
  refine congrArg X (funext fun a => Fin.ext ?_)
  match a with
  | ⟨0, _⟩ => show 0 + b.val + 0 = b.val; omega
  | ⟨1, _⟩ => show 0 + h.val + 0 = h.val; omega
  | ⟨2, _⟩ =>
    show GatherDims.start _ _ I 2 + 0 + 0 = k.val
    unfold GatherDims.start
    rw [dif_pos (by decide)]
    have hs : ∀ q, (gather_S4x4x64x64x64_S4x4x4096x16x1_S4x4x4096x16x64x64_45_2_01_01_2_4_1116464).siIdx (ix6 b h t r l d) q = ix5 b h t r 0 := fun q => by
      funext a; refine Fin.ext ?_
      match a with | ⟨0, _⟩ => rfl | ⟨1, _⟩ => rfl | ⟨2, _⟩ => rfl | ⟨3, _⟩ => rfl | ⟨4, _⟩ => exact Nat.lt_one_iff.mp q.isLt
    rw [hs, hI]
    have hk := k.isLt
    have ht : (BitVec.ofNat 32 k.val).toInt = (k.val : Int) := by
      rw [BitVec.toInt_ofNat', Int.bmod_def]; omega
    rw [ht, Int.toNat_natCast]
    show min k.val (64 - 1) + 0 + 0 = k.val
    omega
  | ⟨3, _⟩ => show 0 + 0 + l.val = l.val; omega
  | ⟨4, _⟩ => show 0 + 0 + d.val = d.val; omega

/-- Blocks to keys. -/
theorem reshape143 (e : Fin 1024) : val_main_v143 (F := Ideal) x0 x1 x2 (ix5 b h g t e)
    = val_main_v142 (F := Ideal) x0 x1 x2 (ix6 b h g t ⟨e.val / 64, by omega⟩ ⟨e.val % 64, by omega⟩) := by
  unfold val_main_v143
  generalize val_main_v142 (F := Ideal) x0 x1 x2 = y
  refine shapeCast_apply y shapeCasts_S4x4x4x4096x16x64_S4x4x4x4096x1024 (ix5 b h g t e) _ ?_
  rw [Shape.rowMajor_val_six, Shape.rowMajor_val_five]
  show ((((b.val * 4 + h.val) * 4 + g.val) * 4096 + t.val) * 16 + e.val / 64) * 64 + e.val % 64 = (((b.val * 4 + h.val) * 4 + g.val) * 4096 + t.val) * 1024 + e.val
  omega

/-- Keys to blocks. -/
theorem reshape155 : val_main_v155 (F := Ideal) x0 x1 x2 (ix6 b h g t r l)
    = val_main_v154 (F := Ideal) x0 x1 x2 (ix5 b h g t ⟨r.val * 64 + l.val, by omega⟩) := by
  unfold val_main_v155
  generalize val_main_v154 (F := Ideal) x0 x1 x2 = y
  refine shapeCast_apply y shapeCasts_S4x4x4x4096x1024_S4x4x4x4096x16x64 (ix6 b h g t r l) _ ?_
  rw [Shape.rowMajor_val_six, Shape.rowMajor_val_five]
  show (((b.val * 4 + h.val) * 4 + g.val) * 4096 + t.val) * 1024 + (r.val * 64 + l.val) = ((((b.val * 4 + h.val) * 4 + g.val) * 4096 + t.val) * 16 + r.val) * 64 + l.val
  omega

/-- The sum over blocks and their keys. -/
theorem dot156 : val_main_v156 (F := Ideal) x0 x1 x2 (ix5 b t h g d)
    = ∑ r : Fin 16, ∑ l : Fin 64, val_main_v155 (F := Ideal) x0 x1 x2 (ix6 b h g t r l) * val_main_v124 (F := Ideal) x0 x1 x2 (ix6 b h t r l d) := by
  unfold val_main_v156
  generalize val_main_v155 (F := Ideal) x0 x1 x2 = y
  generalize val_main_v124 (F := Ideal) x0 x1 x2 = z
  unfold Host.dotGeneral
  rw [Ideal.dotGeneral_apply]
  rw [ValueIdx.sum_contr2 _ 16 64 rfl rfl rfl]
  refine Finset.sum_congr rfl fun r _ => Finset.sum_congr rfl fun l _ => ?_
  refine congrArg₂ (fun p q : EReal => p * q) (congrArg y (funext fun a => Fin.ext ?_)) (congrArg z (funext fun a => Fin.ext ?_))
  · match a with | ⟨0, _⟩ => rfl | ⟨1, _⟩ => rfl | ⟨2, _⟩ => rfl | ⟨3, _⟩ => rfl | ⟨4, _⟩ => rfl | ⟨5, _⟩ => rfl
  · match a with | ⟨0, _⟩ => rfl | ⟨1, _⟩ => rfl | ⟨2, _⟩ => rfl | ⟨3, _⟩ => rfl | ⟨4, _⟩ => rfl | ⟨5, _⟩ => rfl

theorem max144 : val_main_v144 (F := Ideal) x0 x1 x2 (ix4 b h g t) = Finset.univ.sup fun k : Fin 1024 => val_main_v143 (F := Ideal) x0 x1 x2 (ix5 b h g t k) := by
  unfold val_main_v144
  generalize val_main_v143 (F := Ideal) x0 x1 x2 = y
  refine host_max (a := 4) y _ reducesTo_S4x4x4x4096x1024_S4x4x4x4096_d4 (by decide) h_S_ _ 1024 rfl _ neg_inf fun k => congrArg y (funext fun a => Fin.ext ?_)
  match a with | ⟨0, _⟩ => rfl | ⟨1, _⟩ => rfl | ⟨2, _⟩ => rfl | ⟨3, _⟩ => rfl | ⟨4, _⟩ => rfl

theorem max173 : val_main_v173 (F := Ideal) x0 x1 (ix4 b h g t) = Finset.univ.sup fun k : Fin 4096 => val_main_v172 (F := Ideal) x0 x1 (ix5 b h g t k) := by
  unfold val_main_v173
  generalize val_main_v172 (F := Ideal) x0 x1 = y
  refine host_max (a := 4) y _ reducesTo_S4x4x4x4096x4096_S4x4x4x4096_d4 (by decide) h_S_ _ 4096 rfl _ neg_inf fun k => congrArg y (funext fun a => Fin.ext ?_)
  match a with | ⟨0, _⟩ => rfl | ⟨1, _⟩ => rfl | ⟨2, _⟩ => rfl | ⟨3, _⟩ => rfl | ⟨4, _⟩ => rfl

end Cert.Proof.Ref
-- ==== Proof.RefB.lean ====
/- The reference read at one query, first part: its scores, the compressed branch and the importance of the blocks. -/
module

public import proofs.«01_k».proof.Proof.Rank
public import proofs.«01_k».proof.Proof.Comp
public import proofs.«01_k».proof.Proof.Flash
public import proofs.«01_k».proof.Proof.RefA
public import proofs.«01_k».proof.Proof.Comb
public import proofs.«01_k».proof.Proof.Blocks
public import Idealize.ShloMosaic.Lib.Pointwise
public import Idealize.ShloMosaic.Lib.ValueIdx
public import Idealize.ShloMosaic.Lib.ValueIdxRank6

@[expose] public section

set_option maxRecDepth 16384

noncomputable section

namespace Cert.Proof.Ref

open Cert.ReferenceIdeal Cert.ReferenceIdeal.Gen Cert.ReferenceIdeal.Read Idealize.ShloMosaic Idealize.ShloMosaic.TcCoe
open Cert.Proof.Attn (top_i mC pcS impS xsS wsS xwS ovB ovF ov_word uitofp_ofBool lit sle_of slt_of sgt_of eq_of andi_bool ori_bool select_bool zero_f)
open Cert.Proof.Flash (soft)

variable (x0 x1 : FVec Ideal S4x1024x4096 .bf16) (x2 : FVec Ideal S4x4x256x64 .bf16) (x3 : FVec Ideal S4x4x64x256 .bf16)
  (x4 : FVec Ideal S4x4096x128 .f32)
  (b : Fin 4) (t s : Fin 4096) (h g : Fin 4) (d : Fin 64) (r : Fin 16) (l : Fin 64) (n : Fin 255) (j : Fin 64)

/-- One query head's query. -/
def qR (e : Fin 64) : EReal := x0 (ix3 b (⟨h.val * 256 + g.val * 64 + e.val, by omega⟩ : Fin 1024) t)

/-- The scores of the compressed keys. -/
def sR (n : Fin 255) : EReal := ∑ e : Fin 64, x2 (ix4 b h (⟨n.val, by omega⟩ : Fin 256) e) * qR x0 b t h g e

/-- The selected keys' and the window keys' projections: rows `off + h·64 + e`. -/
def kvR (off : ℕ) (ho : off ≤ 768) (s : Fin 4096) (e : Fin 64) : EReal := x1 (ix3 b (⟨off + h.val * 64 + e.val, by omega⟩ : Fin 1024) s)

/-- The score of key `s`. -/
def kS (off : ℕ) (ho : off ≤ 768) (s : Fin 4096) : EReal := ∑ e : Fin 64, kvR x1 b h off ho s e * qR x0 b t h g e

theorem q_at : val_main_v2 (F := Ideal) x0 (ix5 b t h g d) = qR x0 b t h g d := by
  unfold qR
  pointwise [val_main_v0, val_main_v1, val_main_v2]

theorem s_at : val_main_v35 (F := Ideal) x0 x2 (ix5 b h g t n) = sR x0 x2 b t h g n := by
  unfold sR qR
  pointwise [val_main_v0, val_main_v1, val_main_v2, val_main_v14, val_main_v15, val_main_v16, val_main_v34, val_main_v35]

/-- The comparison of a compressed key's last position with the query. -/
theorem end_word : IntOp.cmpi .sle (IntOp.addi (IntOp.muli (BitVec.ofNat 32 n.val) 16#32) 31#32) (BitVec.ofNat 32 t.val) = BitVec.ofBool (decide (16 * n.val + 31 ≤ t.val)) := by
  have h1 : Affine.IsInt (IntOp.muli (BitVec.ofNat 32 n.val) 16#32) ((16 * n.val : ℕ) : Int) := Affine.muli (lit _ (by omega)) (lit 16 (by omega)) (by push_cast; omega)
  have h2 : Affine.IsInt (IntOp.addi (IntOp.muli (BitVec.ofNat 32 n.val) 16#32) 31#32) ((16 * n.val + 31 : ℕ) : Int) := Affine.addi h1 (lit 31 (by omega)) (by push_cast; omega)
  refine (sle_of h2 (lit t.val (by omega))).trans ?_
  norm_cast

theorem m_at : val_main_v41 (F := Ideal) x0 x2 (ix5 b h g t n) = mC t.val (sR x0 x2 b t h g) n := by
  unfold mC
  rw [← s_at x0 x2 b t h g n]
  pointwise [val_main_v28, val_main_v29, val_main_c, val_main_v30, val_main_v31, val_main_c_1, val_main_v32, val_main_v33, val_main_v36, val_main_v37, val_main_v38, val_main_v39, val_main_v40, val_main_cst_2, val_main_call0_v0, val_main_call0_v1, val_main_call0_v2, val_main_v41]
  rw [end_word, select_bool]
  refine if_congr (by rw [decide_eq_true_iff]) rfl neg_inf

theorem max42 : val_main_v42 (F := Ideal) x0 x2 (ix4 b h g t) = Finset.univ.sup (mC t.val (sR x0 x2 b t h g)) := by
  rw [show mC t.val (sR x0 x2 b t h g) = fun n => val_main_v41 (F := Ideal) x0 x2 (ix5 b h g t n) from funext fun n => (m_at x0 x2 b t h g n).symm]
  unfold val_main_v42
  generalize val_main_v41 (F := Ideal) x0 x2 = y
  refine host_max (a := 4) y _ reducesTo_S4x4x4x4096x255_S4x4x4x4096_d4 (by decide) h_S_ _ 255 rfl _ neg_inf fun k => congrArg y (funext fun a => Fin.ext ?_)
  match a with | ⟨0, _⟩ => rfl | ⟨1, _⟩ => rfl | ⟨2, _⟩ => rfl | ⟨3, _⟩ => rfl | ⟨4, _⟩ => rfl

/-- A weight: the maximum over the scores begins at the floor, twice. -/
theorem exp_step (p q : EReal) : FloatOps.hostUnary (F := Ideal) (φ := .f32) .exp (FloatOps.subf (F := Ideal) (φ := .f32) p (FloatOps.maximumf (F := Ideal) (φ := .f32) (Ideal.ofBits .f32 0xFF800000#32) q)) = Ideal.exp (p - q) := by
  rw [neg_inf]
  show Ideal.exp (p - max ⊥ q) = Ideal.exp (p - q)
  rw [max_bot_left]

theorem e48 : val_main_v48 (F := Ideal) x0 x2 (ix5 b h g t n) = Ideal.exp (mC t.val (sR x0 x2 b t h g) n - Finset.univ.sup (mC t.val (sR x0 x2 b t h g))) := by
  rw [← m_at x0 x2 b t h g n, ← max42]
  rw [val_main_v48_apply, val_main_v47_apply, val_main_v46_apply, val_main_v45_apply, val_main_v44_apply, val_main_v43_apply,
    show idx_main_v45 (idx_main_v46 (ix5 b h g t n)) = ix4 b h g t from funext fun a => Fin.ext (match a with | ⟨0, _⟩ => rfl | ⟨1, _⟩ => rfl | ⟨2, _⟩ => rfl | ⟨3, _⟩ => rfl)]
  generalize val_main_v41 (F := Ideal) x0 x2 (ix5 b h g t n) = p
  generalize val_main_v42 (F := Ideal) x0 x2 (ix4 b h g t) = q
  exact exp_step p q

theorem d49 : val_main_v49 (F := Ideal) x0 x2 (ix4 b h g t) = ∑ k, Ideal.exp (mC t.val (sR x0 x2 b t h g) k - Finset.univ.sup (mC t.val (sR x0 x2 b t h g))) := by
  rw [val_main_v49_apply, show (val_main_cst_5 (F := Ideal)) (Shape.Idx.first h_S_) = (0 : EReal) from zero_f, zero_add]
  refine Finset.sum_congr rfl fun k _ => (congrArg _ (funext fun a => Fin.ext ?_)).trans (e48 x0 x2 b t h g k)
  match a with | ⟨0, _⟩ => rfl | ⟨1, _⟩ => rfl | ⟨2, _⟩ => rfl | ⟨3, _⟩ => rfl | ⟨4, _⟩ => rfl

/-- The normalised compressed scores. -/
theorem p_at : val_main_v53 (F := Ideal) x0 x2 (ix5 b h g t n) = pcS t.val (sR x0 x2 b t h g) n := by
  unfold pcS
  rw [← e48, ← d49]
  rw [val_main_v53_apply, show val_main_v52 (F := Ideal) x0 x2 (ix5 b h g t n) = Ideal.div (val_main_v48 (F := Ideal) x0 x2 (ix5 b h g t n)) (val_main_v49 (F := Ideal) x0 x2 (ix4 b h g t)) by
    rw [val_main_v52_apply, val_main_v51_apply, val_main_v50_apply,
      show idx_main_v50 (idx_main_v51 (ix5 b h g t n)) = ix4 b h g t from funext fun a => Fin.ext (match a with | ⟨0, _⟩ => rfl | ⟨1, _⟩ => rfl | ⟨2, _⟩ => rfl | ⟨3, _⟩ => rfl)]
    generalize val_main_v48 (F := Ideal) x0 x2 (ix5 b h g t n) = p
    generalize val_main_v49 (F := Ideal) x0 x2 (ix4 b h g t) = q
    rfl]
  generalize Ideal.div (val_main_v48 (F := Ideal) x0 x2 (ix5 b h g t n)) (val_main_v49 (F := Ideal) x0 x2 (ix4 b h g t)) = p
  pointwise [val_main_v28, val_main_v29, val_main_c, val_main_v30, val_main_v31, val_main_c_1, val_main_v32, val_main_v33, val_main_v36, val_main_v37, val_main_v38, val_main_v39, val_main_v40, val_main_cst_6, val_main_call1_v0, val_main_call1_v1, val_main_call1_v2]
  rw [end_word, select_bool]
  refine if_congr (by rw [decide_eq_true_iff]) rfl zero_f

/-- The compressed branch. -/
theorem oc_at : val_main_v55 (F := Ideal) x0 x2 x3 (ix5 b t h g d) = ∑ n : Fin 255, x3 (ix4 b h d (⟨n.val, by omega⟩ : Fin 256)) * pcS t.val (sR x0 x2 b t h g) n := by
  have e := p_at x0 x2 b t h g
  pointwise [val_main_v54, val_main_v55, val_main_v17, val_main_v18, val_main_v19]
  simp only [e]

/-- The overlap table. -/
theorem ov_at : val_main_v74 (F := Ideal) (ix2 n j) = ovF n.val j.val := by
  pointwise [val_main_v28, val_main_v29, val_main_c, val_main_v30, val_main_v31, val_main_v56, val_main_c_7, val_main_v57, val_main_v58, val_main_v59, val_main_v60, val_main_c_8, val_main_v61, val_main_v62, val_main_v63, val_main_v64, val_main_v65, val_main_v66, val_main_c_9, val_main_v67, val_main_v68, val_main_v69, val_main_v70, val_main_v71, val_main_v72, val_main_v73, val_main_v74]
  rw [ov_word, uitofp_ofBool]
  rfl

/-- A block's importance before the choice of forced blocks: the query heads' sum, over the compressed keys that overlap it. -/
def rR (j : Fin 64) : EReal := ∑ n : Fin 255, (∑ g : Fin 4, pcS t.val (sR x0 x2 b t h g) n) * ovF n.val j.val

theorem r_at : val_main_v76 (F := Ideal) x0 x2 (ix4 b h t j) = rR x0 x2 b t h j := by
  unfold rR
  have e := fun g => p_at x0 x2 b t h g
  have eo := fun n => ov_at n j
  pointwise [val_main_v75, val_main_v76]
  simp only [e, eo]
  refine Finset.sum_congr rfl fun n _ => congrArg (· * ovF n.val j.val) ?_
  rw [show (val_main_cst_10 (F := Ideal)) (Shape.Idx.first h_S_) = (0 : EReal) from zero_f, zero_add]

/-- A query's block. -/
theorem tb_at : (val_main_v77 (F := Ideal) (ix1 t) : BitVec 32) = BitVec.ofNat 32 (t.val / 64) := by
  revert t
  decide +kernel

/-- A block's importance. -/
theorem imp_at : impR x0 x2 b t h j = impS t.val (rR x0 x2 b t h) j := by
  unfold impR impS
  rw [← r_at]
  pointwise [val_main_v78, val_main_c_12, val_main_v79, val_main_v80, val_main_v81, val_main_v82, val_main_v83, val_main_v84, val_main_v85, val_main_c_13, val_main_v86, val_main_v87, val_main_v88, val_main_v89, val_main_v90, val_main_v91, val_main_v92, val_main_v93, val_main_v94, val_main_v95, val_main_v96, val_main_c_14, val_main_v97, val_main_v98, val_main_v99, val_main_v100, val_main_v101, val_main_v102, val_main_cst_15, val_main_call3_v0, val_main_call3_v1, val_main_call3_v2, val_main_v103, val_main_cst_16, val_main_call4_v0, val_main_call4_v1, val_main_call4_v2, val_main_v104, val_main_v28, val_main_v56]
  rw [tb_at]
  have ht := lit (t.val / 64) (by omega)
  have h1 : Affine.IsInt (IntOp.muli (BitVec.ofNat 32 j.val) 64#32) ((64 * j.val : ℕ) : Int) := Affine.muli (lit _ (by omega)) (lit 64 (by omega)) (by push_cast; omega)
  have e1 : IntOp.cmpi CmpIPredicate.sle (IntOp.muli (BitVec.ofNat 32 j.val) 64#32) (BitVec.ofNat 32 t.val) = BitVec.ofBool _ := sle_of h1 (lit t.val (by omega))
  have e2 : IntOp.cmpi CmpIPredicate.eq (BitVec.ofNat 32 j.val) 0#32 = BitVec.ofBool _ := eq_of (lit j.val (by omega)) (lit 0 (by omega))
  have e3 : IntOp.cmpi CmpIPredicate.eq (BitVec.ofNat 32 j.val) (BitVec.ofNat 32 (t.val / 64)) = BitVec.ofBool _ := eq_of (lit j.val (by omega)) ht
  have e4 : IntOp.cmpi CmpIPredicate.eq (BitVec.ofNat 32 j.val) (IntOp.subi (BitVec.ofNat 32 (t.val / 64)) 1#32) = BitVec.ofBool _ :=
    eq_of (lit j.val (by omega)) (Affine.subi (e := ((t.val / 64 : ℕ) : Int) - 1) ht (lit 1 (by omega)) (by omega))
  rw [e1, e2, e3, e4]
  simp only [show ∀ p q, IntOp.ori (BitVec.ofBool p) (BitVec.ofBool q) = BitVec.ofBool (p || q) from ori_bool, select_bool,
    Bool.or_eq_true, decide_eq_true_eq]
  refine if_congr (by omega) (if_congr (by omega) rfl rfl) neg_inf

end Cert.Proof.Ref

end
-- ==== Proof.RefC.lean ====
/- The reference read at one query, second part: the selected branch. -/
module

public import proofs.«01_k».proof.Proof.Rank
public import proofs.«01_k».proof.Proof.Comp
public import proofs.«01_k».proof.Proof.Flash
public import proofs.«01_k».proof.Proof.RefA
public import proofs.«01_k».proof.Proof.RefB
public import Idealize.ShloMosaic.Lib.Pointwise
public import Idealize.ShloMosaic.Lib.ValueIdx
public import Idealize.ShloMosaic.Lib.ValueIdxRank6

@[expose] public section

set_option maxRecDepth 16384

noncomputable section

namespace Cert.Proof.Ref

open Cert.ReferenceIdeal Cert.ReferenceIdeal.Gen Cert.ReferenceIdeal.Read Idealize.ShloMosaic Idealize.ShloMosaic.TcCoe
open Cert.Proof.Attn (top_i mC pcS impS xsS wsS xwS ovB ovF ov_word uitofp_ofBool lit sle_of slt_of sgt_of eq_of andi_bool ori_bool select_bool zero_f)
open Cert.Proof.Flash (soft)

variable (x0 x1 : FVec Ideal S4x1024x4096 .bf16) (x2 : FVec Ideal S4x4x256x64 .bf16) (x3 : FVec Ideal S4x4x64x256 .bf16)
  (x4 : FVec Ideal S4x4096x128 .f32)
  (b : Fin 4) (t s : Fin 4096) (h g : Fin 4) (d : Fin 64) (r : Fin 16) (l : Fin 64) (n : Fin 255) (j : Fin 64)

/-- The block of rank `r`. -/
abbrev blkR : Fin 64 := top_i (impR x0 x2 b t h) ⟨r.val, by omega⟩

theorem wrap (k : Fin 64) : Scalar.select (IntOp.cmpi .slt (BitVec.ofNat 32 k.val) 0#32) (IntOp.addi (BitVec.ofNat 32 k.val) 64#32) (BitVec.ofNat 32 k.val) = BitVec.ofNat 32 k.val := by
  have e : IntOp.cmpi CmpIPredicate.slt (BitVec.ofNat 32 k.val) 0#32 = BitVec.ofBool _ := slt_of (lit k.val (by omega)) (lit 0 (by omega))
  rw [e, select_bool, if_neg (by rw [decide_eq_true_iff]; omega)]

theorem idx_at : val_main_v116 (F := Ideal) x0 x2 (ix5 b h t r (0 : Fin 1)) = BitVec.ofNat 32 (blkR x0 x2 b t h r).val := by
  pointwise [val_main_c_18, val_main_v111, val_main_v112, val_main_c_19, val_main_v113, val_main_v114, val_main_v115, val_main_v116]
  rw [indices_at]
  exact wrap _
theorem idx_at' : val_main_v123 (F := Ideal) x0 x2 (ix5 b h t r (0 : Fin 1)) = BitVec.ofNat 32 (blkR x0 x2 b t h r).val := by
  pointwise [val_main_c_20, val_main_v118, val_main_v119, val_main_c_21, val_main_v120, val_main_v121, val_main_v122, val_main_v123]
  rw [indices_at]
  exact wrap _

theorem ks_at : val_main_v108 (F := Ideal) x1 (ix5 b h j l d) = kvR x1 b h 0 (by omega) ⟨j.val * 64 + l.val, by omega⟩ d := by
  unfold kvR
  pointwise [val_main_v3, val_main_v4, val_main_v5, val_main_v6, val_main_v7, val_main_v107, val_main_v108]
theorem vs_at : val_main_v110 (F := Ideal) x1 (ix5 b h j l d) = kvR x1 b h 256 (by omega) ⟨j.val * 64 + l.val, by omega⟩ d := by
  unfold kvR
  pointwise [val_main_v3, val_main_v4, val_main_v5, val_main_v6, val_main_v7, val_main_v8, val_main_v9, val_main_v109, val_main_v110]

theorem kg_at : val_main_v117 (F := Ideal) x0 x1 x2 (ix6 b h t r l d) = kvR x1 b h 0 (by omega) ⟨(blkR x0 x2 b t h r).val * 64 + l.val, by omega⟩ d := by
  unfold val_main_v117
  exact (gather_at b t h d r l _ _ _ (idx_at x0 x2 b t h r)).trans (ks_at x1 b h d l _)
theorem vg_at : val_main_v124 (F := Ideal) x0 x1 x2 (ix6 b h t r l d) = kvR x1 b h 256 (by omega) ⟨(blkR x0 x2 b t h r).val * 64 + l.val, by omega⟩ d := by
  unfold val_main_v124
  exact (gather_at b t h d r l _ _ _ (idx_at' x0 x2 b t h r)).trans (vs_at x1 b h d l _)

theorem sel_score : val_main_v126 (F := Ideal) x0 x1 x2 (ix6 b h g t r l) = kS x0 x1 b t h g 0 (by omega) ⟨(blkR x0 x2 b t h r).val * 64 + l.val, by omega⟩ := by
  unfold kS
  have e := fun d => kg_at x0 x1 x2 b t h d r l
  have e' := fun d => q_at x0 b t h g d
  pointwise [val_main_v125, val_main_v126]
  simp only [e, e']

theorem mask_at : val_main_v141 (F := Ideal) x0 x2 (ix6 b h (0 : Fin 1) t r l) = BitVec.ofBool (decide (Ideal.ofBits .f32 0xF0C9F2CA#32 < impR x0 x2 b t h (blkR x0 x2 b t h r)) && decide (64 * (blkR x0 x2 b t h r).val + l.val ≤ t.val)) := by
  pointwise [val_main_cst_17, val_main_v105, val_main_v106, val_main_v127, val_main_c_22, val_main_v128, val_main_v129, val_main_v130, val_main_v131, val_main_v132, val_main_v133, val_main_v134, val_main_v135, val_main_v136, val_main_v137, val_main_v138, val_main_v139, val_main_v140, val_main_v141, val_main_v28, val_main_v56]
  rw [indices_at, values_at]
  have h1 : Affine.IsInt (IntOp.muli (BitVec.ofNat 32 (blkR x0 x2 b t h r).val) 64#32) ((64 * (blkR x0 x2 b t h r).val : ℕ) : Int) := Affine.muli (lit _ (by omega)) (lit 64 (by omega)) (by push_cast; omega)
  have h2 : Affine.IsInt (IntOp.addi (IntOp.muli (BitVec.ofNat 32 (blkR x0 x2 b t h r).val) 64#32) (BitVec.ofNat 32 l.val)) ((64 * (blkR x0 x2 b t h r).val + l.val : ℕ) : Int) := Affine.addi h1 (lit l.val (by omega)) (by push_cast; omega)
  refine (congrArg (IntOp.andi _) (sle_of h2 (lit t.val (by omega)))).trans ((andi_bool _ _).trans ?_)
  norm_cast

/-- The selected branch's scores, key by key of the gathered blocks. -/
theorem xs_at (e : Fin 1024) : val_main_v143 (F := Ideal) x0 x1 x2 (ix5 b h g t e) = xsS t.val (impR x0 x2 b t h) (kS x0 x1 b t h g 0 (by omega)) e := by
  rw [reshape143]
  have e1 := mask_at x0 x2 b t h ⟨e.val / 64, by omega⟩ ⟨e.val % 64, by omega⟩
  have e2 := sel_score x0 x1 x2 b t h g ⟨e.val / 64, by omega⟩ ⟨e.val % 64, by omega⟩
  pointwise [val_main_cst_23, val_main_call5_v0, val_main_call5_v1, val_main_call5_v2, val_main_v142]
  rw [e1, e2, select_bool]
  unfold xsS
  refine if_congr (by rw [Bool.and_eq_true, decide_eq_true_iff, decide_eq_true_iff]) rfl neg_inf

theorem e150 (e : Fin 1024) : val_main_v150 (F := Ideal) x0 x1 x2 (ix5 b h g t e) = Ideal.exp (xsS t.val (impR x0 x2 b t h) (kS x0 x1 b t h g 0 (by omega)) e - Finset.univ.sup (xsS t.val (impR x0 x2 b t h) (kS x0 x1 b t h g 0 (by omega)))) := by
  rw [show xsS t.val (impR x0 x2 b t h) (kS x0 x1 b t h g 0 (by omega)) = fun e => val_main_v143 (F := Ideal) x0 x1 x2 (ix5 b h g t e) from funext fun e => (xs_at x0 x1 x2 b t h g e).symm, ← max144]
  dsimp only
  rw [val_main_v150_apply, val_main_v149_apply, val_main_v148_apply, val_main_v147_apply, val_main_v146_apply, val_main_v145_apply,
    show idx_main_v147 (idx_main_v148 (ix5 b h g t e)) = ix4 b h g t from funext fun a => Fin.ext (match a with | ⟨0, _⟩ => rfl | ⟨1, _⟩ => rfl | ⟨2, _⟩ => rfl | ⟨3, _⟩ => rfl)]
  generalize val_main_v143 (F := Ideal) x0 x1 x2 (ix5 b h g t e) = p
  generalize val_main_v144 (F := Ideal) x0 x1 x2 (ix4 b h g t) = q
  exact exp_step p q

/-- The selected branch. -/
theorem os_at : val_main_v156 (F := Ideal) x0 x1 x2 (ix5 b t h g d) = soft (xsS t.val (impR x0 x2 b t h) (kS x0 x1 b t h g 0 (by omega))) (wsS (impR x0 x2 b t h) fun s => kvR x1 b h 256 (by omega) s d) := by
  have hd : val_main_v151 (F := Ideal) x0 x1 x2 (ix4 b h g t) = ∑ k, Ideal.exp (xsS t.val (impR x0 x2 b t h) (kS x0 x1 b t h g 0 (by omega)) k - Finset.univ.sup (xsS t.val (impR x0 x2 b t h) (kS x0 x1 b t h g 0 (by omega)))) := by
    rw [val_main_v151_apply, show (val_main_cst_26 (F := Ideal)) (Shape.Idx.first h_S_) = (0 : EReal) from zero_f, zero_add]
    refine Finset.sum_congr rfl fun k _ => (congrArg _ (funext fun a => Fin.ext ?_)).trans (e150 x0 x1 x2 b t h g k)
    match a with | ⟨0, _⟩ => rfl | ⟨1, _⟩ => rfl | ⟨2, _⟩ => rfl | ⟨3, _⟩ => rfl | ⟨4, _⟩ => rfl
  have hp : ∀ e : Fin 1024, val_main_v154 (F := Ideal) x0 x1 x2 (ix5 b h g t e) = Ideal.div (val_main_v150 (F := Ideal) x0 x1 x2 (ix5 b h g t e)) (val_main_v151 (F := Ideal) x0 x1 x2 (ix4 b h g t)) := fun e => by
    rw [val_main_v154_apply, val_main_v153_apply, val_main_v152_apply,
      show idx_main_v152 (idx_main_v153 (ix5 b h g t e)) = ix4 b h g t from funext fun a => Fin.ext (match a with | ⟨0, _⟩ => rfl | ⟨1, _⟩ => rfl | ⟨2, _⟩ => rfl | ⟨3, _⟩ => rfl)]
    generalize val_main_v150 (F := Ideal) x0 x1 x2 (ix5 b h g t e) = p
    generalize val_main_v151 (F := Ideal) x0 x1 x2 (ix4 b h g t) = q
    rfl
  rw [dot156]
  unfold soft
  rw [← (finProdFinEquiv (m := 16) (n := 64)).sum_comp, Fintype.sum_prod_type]
  refine Finset.sum_congr rfl fun r _ => Finset.sum_congr rfl fun l _ => ?_
  have he : (finProdFinEquiv (m := 16) (n := 64) (r, l)) = (⟨r.val * 64 + l.val, by omega⟩ : Fin 1024) := Fin.ext (by show l.val + 64 * r.val = r.val * 64 + l.val; omega)
  rw [he, reshape155, vg_at, hp, hd, e150]
  refine congrArg _ ?_
  unfold wsS
  have h1 : (r.val * 64 + l.val) / 64 = r.val := by omega
  have h2 : (r.val * 64 + l.val) % 64 = l.val := by omega
  simp only [h1, h2]

end Cert.Proof.Ref

end
-- ==== Proof.RefD.lean ====
/- The reference read at one query, third part: the window branch, the gates, and the result. -/
module

public import proofs.«01_k».proof.Proof.Rank
public import proofs.«01_k».proof.Proof.Comp
public import proofs.«01_k».proof.Proof.Flash
public import proofs.«01_k».proof.Proof.RefA
public import proofs.«01_k».proof.Proof.RefC
public import Idealize.ShloMosaic.Lib.Pointwise
public import Idealize.ShloMosaic.Lib.ValueIdx
public import Idealize.ShloMosaic.Lib.ValueIdxRank6

@[expose] public section

set_option maxRecDepth 16384

noncomputable section

namespace Cert.Proof.Ref

open Cert.ReferenceIdeal Cert.ReferenceIdeal.Gen Cert.ReferenceIdeal.Read Idealize.ShloMosaic Idealize.ShloMosaic.TcCoe
open Cert.Proof.Attn (top_i mC pcS impS xsS wsS xwS ovB ovF ov_word uitofp_ofBool lit sle_of slt_of sgt_of eq_of andi_bool ori_bool select_bool zero_f)
open Cert.Proof.Flash (soft)

variable (x0 x1 : FVec Ideal S4x1024x4096 .bf16) (x2 : FVec Ideal S4x4x256x64 .bf16) (x3 : FVec Ideal S4x4x64x256 .bf16)
  (x4 : FVec Ideal S4x4096x128 .f32)
  (b : Fin 4) (t s : Fin 4096) (h g : Fin 4) (d : Fin 64) (r : Fin 16) (l : Fin 64) (n : Fin 255) (j : Fin 64)

/-- The window branch's scores. -/
theorem xw_at : val_main_v172 (F := Ideal) x0 x1 (ix5 b h g t s) = xwS t.val (kS x0 x1 b t h g 512 (by omega)) s := by
  unfold kS kvR qR xwS
  pointwise [val_main_v0, val_main_v1, val_main_v2, val_main_v3, val_main_v4, val_main_v5, val_main_v6, val_main_v10, val_main_v11, val_main_v157, val_main_v158, val_main_v159, val_main_v160, val_main_v161, val_main_v162, val_main_v163, val_main_c_27, val_main_v164, val_main_v165, val_main_v166, val_main_v167, val_main_v168, val_main_v169, val_main_v170, val_main_v171, val_main_cst_28, val_main_call6_v0, val_main_call6_v1, val_main_call6_v2, val_main_v172, val_main_v28]
  have h1 : Affine.IsInt (IntOp.subi (BitVec.ofNat 32 t.val) 512#32) ((t.val : Int) - 512) := Affine.subi (lit t.val (by omega)) (lit 512 (by omega)) (by omega)
  have e1 : IntOp.cmpi CmpIPredicate.sle (BitVec.ofNat 32 s.val) (BitVec.ofNat 32 t.val) = BitVec.ofBool _ := sle_of (lit s.val (by omega)) (lit t.val (by omega))
  have e2 : IntOp.cmpi CmpIPredicate.sgt (BitVec.ofNat 32 s.val) (IntOp.subi (BitVec.ofNat 32 t.val) 512#32) = BitVec.ofBool _ := sgt_of (lit s.val (by omega)) h1
  rw [e1, e2, show ∀ p q, IntOp.andi (BitVec.ofBool p) (BitVec.ofBool q) = BitVec.ofBool (p && q) from andi_bool, select_bool]
  refine if_congr (by rw [Bool.and_eq_true, decide_eq_true_iff, decide_eq_true_iff]; omega) rfl neg_inf

theorem vw_at : val_main_v13 (F := Ideal) x1 (ix4 b s h d) = kvR x1 b h 768 (by omega) s d := by
  unfold kvR
  pointwise [val_main_v3, val_main_v4, val_main_v5, val_main_v6, val_main_v12, val_main_v13]

theorem e179 : val_main_v179 (F := Ideal) x0 x1 (ix5 b h g t s) = Ideal.exp (xwS t.val (kS x0 x1 b t h g 512 (by omega)) s - Finset.univ.sup (xwS t.val (kS x0 x1 b t h g 512 (by omega)))) := by
  rw [show xwS t.val (kS x0 x1 b t h g 512 (by omega)) = fun s => val_main_v172 (F := Ideal) x0 x1 (ix5 b h g t s) from funext fun s => (xw_at x0 x1 b t s h g).symm, ← max173]
  dsimp only
  rw [val_main_v179_apply, val_main_v178_apply, val_main_v177_apply, val_main_v176_apply, val_main_v175_apply, val_main_v174_apply,
    show idx_main_v176 (idx_main_v177 (ix5 b h g t s)) = ix4 b h g t from funext fun a => Fin.ext (match a with | ⟨0, _⟩ => rfl | ⟨1, _⟩ => rfl | ⟨2, _⟩ => rfl | ⟨3, _⟩ => rfl)]
  generalize val_main_v172 (F := Ideal) x0 x1 (ix5 b h g t s) = p
  generalize val_main_v173 (F := Ideal) x0 x1 (ix4 b h g t) = q
  exact exp_step p q

/-- The window branch. -/
theorem ow_at : val_main_v184 (F := Ideal) x0 x1 (ix5 b h d g t) = soft (xwS t.val (kS x0 x1 b t h g 512 (by omega))) (fun s => kvR x1 b h 768 (by omega) s d) := by
  have hd : val_main_v180 (F := Ideal) x0 x1 (ix4 b h g t) = ∑ k, Ideal.exp (xwS t.val (kS x0 x1 b t h g 512 (by omega)) k - Finset.univ.sup (xwS t.val (kS x0 x1 b t h g 512 (by omega)))) := by
    rw [val_main_v180_apply, show (val_main_cst_31 (F := Ideal)) (Shape.Idx.first h_S_) = (0 : EReal) from zero_f, zero_add]
    refine Finset.sum_congr rfl fun k _ => (congrArg _ (funext fun a => Fin.ext ?_)).trans (e179 x0 x1 b t k h g)
    match a with | ⟨0, _⟩ => rfl | ⟨1, _⟩ => rfl | ⟨2, _⟩ => rfl | ⟨3, _⟩ => rfl | ⟨4, _⟩ => rfl
  have hp : ∀ s : Fin 4096, val_main_v183 (F := Ideal) x0 x1 (ix5 b h g t s) = Ideal.div (val_main_v179 (F := Ideal) x0 x1 (ix5 b h g t s)) (val_main_v180 (F := Ideal) x0 x1 (ix4 b h g t)) := fun s => by
    rw [val_main_v183_apply, val_main_v182_apply, val_main_v181_apply,
      show idx_main_v181 (idx_main_v182 (ix5 b h g t s)) = ix4 b h g t from funext fun a => Fin.ext (match a with | ⟨0, _⟩ => rfl | ⟨1, _⟩ => rfl | ⟨2, _⟩ => rfl | ⟨3, _⟩ => rfl)]
    generalize val_main_v179 (F := Ideal) x0 x1 (ix5 b h g t s) = p
    generalize val_main_v180 (F := Ideal) x0 x1 (ix4 b h g t) = q
    rfl
  unfold soft
  rw [val_main_v184_apply]
  refine Finset.sum_congr rfl fun k _ => ?_
  have hl : lidx_main_v184 (ix5 b h d g t) k = ix4 b k h d := funext fun a => Fin.ext (match a with | ⟨0, _⟩ => rfl | ⟨1, _⟩ => rfl | ⟨2, _⟩ => rfl | ⟨3, _⟩ => rfl)
  have hr : ridx_main_v184 (ix5 b h d g t) k = ix5 b h g t k := funext fun a => Fin.ext (match a with | ⟨0, _⟩ => rfl | ⟨1, _⟩ => rfl | ⟨2, _⟩ => rfl | ⟨3, _⟩ => rfl | ⟨4, _⟩ => rfl)
  rw [hl, hr, vw_at, hp, hd, e179, mul_comm]

/-- A gate. -/
def gR (j : Fin 3) : EReal := Ideal.div 1 (1 + Ideal.exp (- x4 (ix3 b t (⟨16 + 3 * (4 * h.val + g.val) + j.val, by omega⟩ : Fin 128))))

theorem gate_at (j : Fin 3) : val_main_v27 (F := Ideal) x4 (ix5 b t h g j) = gR x4 b t h g j := by
  unfold gR
  pointwise [val_main_v20, val_main_v21, val_main_v22, val_main_cst, val_main_v23, val_main_v24, val_main_cst_0, val_main_v25, val_main_v26, val_main_v27]
  simp only [show 16 + (h.val * 12 + g.val * 3 + j.val) = 16 + 3 * (4 * h.val + g.val) + j.val by omega]

theorem sum_at : val_main_v198 (F := Ideal) x0 x1 x2 x3 x4 (ix3 b (⟨256 * h.val + 64 * g.val + d.val, by omega⟩ : Fin 1024) t) = val_main_v27 (F := Ideal) x4 (ix5 b t h g (0 : Fin 3)) * val_main_v55 (F := Ideal) x0 x2 x3 (ix5 b t h g d) + val_main_v27 (F := Ideal) x4 (ix5 b t h g (1 : Fin 3)) * val_main_v156 (F := Ideal) x0 x1 x2 (ix5 b t h g d) + val_main_v27 (F := Ideal) x4 (ix5 b t h g (2 : Fin 3)) * val_main_v184 (F := Ideal) x0 x1 (ix5 b h d g t) := by
  pointwise [val_main_v185, val_main_v186, val_main_v187, val_main_v188, val_main_v189, val_main_v190, val_main_v191, val_main_v192, val_main_v193, val_main_v194, val_main_v195, val_main_v196, val_main_v197, val_main_v198]

/-- The reference's result at an element: the gated sum of the three branches. -/
theorem out_at : val_main_v198 (F := Ideal) x0 x1 x2 x3 x4 (ix3 b (⟨256 * h.val + 64 * g.val + d.val, by omega⟩ : Fin 1024) t)
    = gR x4 b t h g 0 * (∑ n : Fin 255, x3 (ix4 b h d (⟨n.val, by omega⟩ : Fin 256)) * pcS t.val (sR x0 x2 b t h g) n)
      + gR x4 b t h g 1 * soft (xsS t.val (impS t.val (rR x0 x2 b t h)) (kS x0 x1 b t h g 0 (by omega))) (wsS (impS t.val (rR x0 x2 b t h)) fun s => kvR x1 b h 256 (by omega) s d)
      + gR x4 b t h g 2 * soft (xwS t.val (kS x0 x1 b t h g 512 (by omega))) (fun s => kvR x1 b h 768 (by omega) s d) := by
  rw [sum_at, gate_at, gate_at, gate_at, oc_at, os_at, ow_at, show impR x0 x2 b t h = impS t.val (rR x0 x2 b t h) from funext (imp_at x0 x2 b t h)]

end Cert.Proof.Ref

end
-- ==== Proof.Elt.lean ====
/- One element of the attention's result: at every point of the grid the kernel's block holds there what the reference
   computes, when queries, keys and compressed keys are finite. -/
module

public import proofs.«01_k».proof.Proof.KernC
public import proofs.«01_k».proof.Proof.Blocks
public import proofs.«01_k».proof.Proof.Comb
public import proofs.«01_k».proof.Proof.RefD

@[expose] public section

set_option maxRecDepth 16384

noncomputable section

namespace Cert.Proof.Attn

open Cert.KernelIdeal Cert.KernelIdeal.Gen Idealize.ShloMosaic Idealize.ShloMosaic.TcCoe Idealize.SL.Sem
open Cert.Proof.Flash Cert.Proof.Ref

/-- A real number. -/
def Real1 (x : EReal) : Prop := ∃ r : ℝ, x = (r : EReal)

theorem real_dot {ι : Type} [Fintype ι] (u v : ι → EReal) (hu : ∀ e, Real1 (u e)) (hv : ∀ e, Real1 (v e)) : Real1 (∑ e, u e * v e) := by
  refine Finset.sum_induction _ Real1 ?_ ⟨0, rfl⟩ fun e _ => ?_
  · rintro _ _ ⟨a, rfl⟩ ⟨b, rfl⟩
    exact ⟨a + b, (EReal.coe_add a b).symm⟩
  · obtain ⟨a, ha⟩ := hu e
    obtain ⟨b, hb⟩ := hv e
    exact ⟨a * b, by rw [ha, hb, EReal.coe_mul]⟩

theorem lane4_of (x : Fin 512) : x = lane4 ⟨x.val / 128, by omega⟩ ⟨x.val % 128, by omega⟩ :=
  Fin.ext (by show x.val = 128 * (x.val / 128) + x.val % 128; omega)

variable (m : (ℓ : Loc nD τ sig) → Buf (Elt Ideal) ℓ) (c : Dev nD)

/-- The claim's precondition on device `c`: finite queries, keys and compressed keys. -/
structure Fin1 : Prop where
  q : ∀ j, Real1 (a0 m c j)
  k : ∀ (b : Fin 4) (r : Fin 1024) (s : Fin 4096), (r.val / 256) % 2 = 0 → Real1 (a1 m c (ix3 b r s))
  c : ∀ j, Real1 (a2 m c j)

variable (hf : Fin1 m c) (t : Fin cfg0.N) (b h g : Fin 4) (hb : b.val = t.val / 128) (hh : h.val = t.val / 32 % 4)
  (y : Fin 128) (q : Fin 4096) (hq : q.val = 128 * (t.val % 32) + y.val) (d : Fin 64)

include hf in
theorem real_q (b h g : Fin 4) (q : Fin 4096) (e : Fin 64) : Real1 (qR (a0 m c) b q h g e) := hf.q _

include hf in
theorem real_kS (off : ℕ) (ho : off ≤ 768) (h2 : off / 256 % 2 = 0) (h3 : off % 256 = 0) (s : Fin 4096) : Real1 (kS (a0 m c) (a1 m c) b q h g off ho s) := by
  refine real_dot _ _ (fun e => ?_) fun e => real_q m c hf b h g q e
  exact hf.k b _ s (by show (off + h.val * 64 + e.val) / 256 % 2 = 0; omega)

include hb hh hq in
/-- The kernel's query columns are the reference's queries. -/
theorem qc_eq (e : Fin 64) : CaseB.qc (iblk m c 0 t) (ix2 e (lane4 g y)) = qR (a0 m c) b q h g e := by
  refine (qc_at g y e _).trans ((blk0 m c t b h hb hh _ y q hq).trans ?_)
  unfold qR
  exact congrArg _ (congrArg (fun r => ix3 b r q) (Fin.ext (by show 256 * h.val + (64 * g.val + e.val) = h.val * 256 + g.val * 64 + e.val; omega)))

include hb hh hq in
theorem dot16 (s : Fin 4096) : dotp (k0_pay16 (F := Ideal) (iblk m c 1 t)) (CaseB.qc (iblk m c 0 t)) (lane4 g y) s = kS (a0 m c) (a1 m c) b q h g 0 (by omega) s := by
  unfold dotp kS
  refine Finset.sum_congr rfl fun e _ => ?_
  rw [pay16_at, qc_eq m c t b h g hb hh y q hq, blk1 m c t b h hb hh]
  rfl

include hb hh hq in
theorem dot17 (s : Fin 4096) : dotp (k0_pay17 (F := Ideal) (iblk m c 3 t)) (CaseB.qc (iblk m c 0 t)) (lane4 g y) s = kS (a0 m c) (a1 m c) b q h g 512 (by omega) s := by
  unfold dotp kS
  refine Finset.sum_congr rfl fun e _ => ?_
  rw [pay17_at, qc_eq m c t b h g hb hh y q hq, blk3 m c t b h hb hh]
  rfl

include hb hh hq in
theorem tq_eq : tq (grid0.coords t) (lane4 g y) = q.val := by
  rw [lane4_tq, (coords_all t).2.2, hq]

include hf in
/-- Every score of the two key branches is a real number or masked. -/
theorem score_sel (Sel : Vec Ideal S64x128 .f32) (x : Fin 512) (n : ℕ) : Score (selS (grid0.coords t) (k0_pay16 (F := Ideal) (iblk m c 1 t)) (CaseB.qc (iblk m c 0 t)) Sel x n) := by
  have ht : t.val < 512 := lt_of_lt_of_eq t.isLt N_0
  unfold selS
  split
  · split
    · have e := fun s => dot16 m c t ⟨t.val / 128, by omega⟩ ⟨t.val / 32 % 4, by omega⟩ ⟨x.val / 128, by omega⟩ rfl rfl ⟨x.val % 128, by omega⟩ ⟨128 * (t.val % 32) + x.val % 128, by omega⟩ rfl s
      rw [← lane4_of x] at e
      rw [e]
      exact Or.inr (real_kS m c hf _ _ _ _ 0 _ rfl rfl _)
    · exact score_bot
  · exact score_bot

include hf in
theorem score_win (x : Fin 512) (n : ℕ) : Score (winS (grid0.coords t) (k0_pay17 (F := Ideal) (iblk m c 3 t)) (CaseB.qc (iblk m c 0 t)) x n) := by
  have ht : t.val < 512 := lt_of_lt_of_eq t.isLt N_0
  unfold winS
  split
  · split
    · have e := fun s => dot17 m c t ⟨t.val / 128, by omega⟩ ⟨t.val / 32 % 4, by omega⟩ ⟨x.val / 128, by omega⟩ rfl rfl ⟨x.val % 128, by omega⟩ ⟨128 * (t.val % 32) + x.val % 128, by omega⟩ rfl s
      rw [← lane4_of x] at e
      rw [e]
      exact Or.inr (real_kS m c hf _ _ _ _ 512 _ rfl rfl _)
    · exact score_bot
  · exact score_bot

include hb hh hq in
/-- The compressed scores: the reference's, and one key more. -/
theorem sK_eq : (fun n : Fin 255 => CaseB.sK (iblk m c 0 t) (iblk m c 5 t) (lane4 g y) n.castSucc) = sR (a0 m c) (a2 m c) b q h g := by
  funext n
  unfold CaseB.sK sR
  refine Finset.sum_congr rfl fun e _ => ?_
  rw [qc_eq m c t b h g hb hh y q hq, blk5 m c t b h hb hh]
  rfl

include hb hh hq in
/-- The kernel's importances are the reference's. -/
theorem iK_eq : CaseB.iK (grid0.coords t) (iblk m c 0 t) (iblk m c 5 t) (iblk m c 8 t) y = impS q.val (rR (a0 m c) (a2 m c) b q h) := by
  funext j
  unfold CaseB.iK
  have e : 128 * (grid0.coords t 2).val + y.val = q.val := by rw [hq]; exact congrArg (fun n => 128 * n + y.val) (coords_all t).2.2
  rw [e]
  refine congrArg (fun R => impS q.val R j) (funext fun j => ?_)
  unfold CaseB.rK rR
  rw [e]
  refine (imp_pad q.val q.isLt (fun g => CaseB.sK (iblk m c 0 t) (iblk m c 5 t) (lane4 g y)) (fun e => (iblk m c 8 t : Vec Ideal S64x1024 .bf16) (ix2 j e))
    (fun n => ovF n.val j.val) (fun n => ovF_01 _ _) (fun g n => blk8 m c t b h j g n)).trans ?_
  refine Finset.sum_congr rfl fun n _ => congrArg (· * ovF n.val j.val) (Finset.sum_congr rfl fun g _ => ?_)
  rw [sK_eq m c t b h g hb hh y q hq]

include hf in
theorem rR_nonneg (j : Fin 64) : 0 ≤ rR (a0 m c) (a2 m c) b q h j := by
  unfold rR
  refine Finset.sum_nonneg fun n _ => mul_nonneg (Finset.sum_nonneg fun g _ => ?_) ?_
  · have hr : ∀ n, Real1 (sR (a0 m c) (a2 m c) b q h g n) := fun n => real_dot _ _ (fun e => hf.c _) fun e => real_q m c hf b h g q e
    exact pc_nonneg q.val _ (fun n => Or.inr (hr n)) n fun n => coe_ne (hr n)
  · rcases ovF_01 n.val j.val with h | h <;> rw [h]
    exact zero_le_one

include hf hb hh hq in
/-- The kernel's element is the reference's, from a selection mask that holds the blocks the kernel chose. -/
theorem oK_eq (Sel : Vec Ideal S64x128 .f32)
    (hS : ∀ j : Fin 64, half < Sel (ix2 j y) ↔ (Finset.univ.filter fun n => Before (CaseB.iK (grid0.coords t) (iblk m c 0 t) (iblk m c 5 t) (iblk m c 8 t) y) n j).card < 16 ∧ 64 * j.val ≤ 128 * (grid0.coords t 2).val + y.val) :
    CaseB.oK (grid0.coords t) (iblk m c 0 t) (iblk m c 2 t) (iblk m c 4 t) (iblk m c 5 t) (iblk m c 6 t) (iblk m c 7 t)
        (k0_pay16 (F := Ideal) (iblk m c 1 t)) (k0_pay17 (F := Ideal) (iblk m c 3 t)) Sel g d y
      = Cert.ReferenceIdeal.Read.val_main_v198 (F := Ideal) (a0 m c) (a1 m c) (a2 m c) (a3 m c) (a4 m c) (ix3 b (⟨256 * h.val + 64 * g.val + d.val, by omega⟩ : Fin 1024) q) := by
  have ec := coords_all t
  have e2 : 128 * (grid0.coords t 2).val + y.val = q.val := by rw [hq]; exact congrArg (fun n => 128 * n + y.val) ec.2.2
  have eg : ∀ j : Fin 3, CaseB.gK (grid0.coords t) (iblk m c 7 t) g y j = gR (a4 m c) b q h g j := fun j => by
    unfold CaseB.gK gR
    rw [blk7 m c t b hb y _ q hq]
    refine congrArg (fun r : Fin 128 => Ideal.div 1 (1 + Ideal.exp (- a4 m c (ix3 b q r)))) (Fin.ext ?_)
    show 16 + 3 * (4 * (grid0.coords t 1).val + g.val) + j.val = 16 + 3 * (4 * h.val + g.val) + j.val
    have := ec.2.1
    omega
  have ht := tq_eq t b h g hb hh y q hq
  rw [iK_eq m c t b h hb hh y q hq, e2] at hS
  unfold CaseB.oK
  rw [Cert.Proof.Ref.out_at, eg, eg, eg, ht]
  refine congrArg₂ (· + ·) (congrArg₂ (· + ·) (congrArg _ ?_) (congrArg _ ?_)) (congrArg _ ?_)
  · refine (oc_pad q.val q.isLt _ fun n => (iblk m c 6 t : Vec Ideal S1x1x64x256 .bf16) (ix4 0 0 d n)).trans ?_
    rw [sK_eq m c t b h g hb hh y q hq]
    refine Finset.sum_congr rfl fun n _ => congrArg (· * _) ?_
    exact blk6 m c t b h hb hh d _
  · refine sel_branch q.val q.isLt _ (rR_nonneg m c hf b h q) _ _ (real_kS m c hf b h g q 0 _ rfl rfl) _ (by omega) _ _ (fun k => ?_) fun k hk => ?_
    · unfold selS
      refine dite_congr rfl (fun hk => ?_) fun _ => rfl
      rw [dot16 m c t b h g hb hh y q hq, ht]
      have hy : (⟨(lane4 g y).val % 128, by omega⟩ : Fin 128) = y := Fin.ext (lane4_mod g y)
      rw [hy]
      exact if_congr (by rw [hS]) rfl rfl
    · unfold valS
      rw [dif_pos (by omega), blk2 m c t b h hb hh]
      unfold kvR
      exact congrArg _ (congrArg _ (Fin.ext (by show 0 + k = k; omega)))
  · have hw := ec.2.2
    refine win_branch q.val q.isLt _ _ (real_kS m c hf b h g q 512 _ rfl rfl) (grid0.coords t 2).val y.val e2.symm y.isLt _ _ (fun k => ?_) fun k hk => ?_
    · unfold winS
      refine dite_congr rfl (fun hk => ?_) fun _ => rfl
      rw [dot17 m c t b h g hb hh y q hq, ht]
      rfl
    · unfold valS
      have hk' : 128 * fst (grid0.coords t) + k < 4096 := hk
      rw [dif_pos hk', blk4 m c t b h hb hh]
      rfl

end Cert.Proof.Attn

end
-- ==== Proof.Attn.lean ====
/- The attention kernel's result is the reference's: the scratch the kernel keeps between points, each block it writes back,
   the blocks covering the result array, and the claim. -/
module

public import proofs.«01_k».proof.Proof.Elt
public import proofs.«01_k».proof.Proof.Gen.KernelIdeal.Value
public import proofs.«01_k».proof.Proof.Gen.ReferenceIdeal.Run
public import proofs.«01_k».proof.Defs

@[expose] public section

set_option maxRecDepth 16384

noncomputable section

namespace Cert.Proof.Attn

open Cert.KernelIdeal Cert.KernelIdeal.Gen Idealize.ShloMosaic Idealize.ShloMosaic.TcCoe Idealize.SL.Sem
open Cert.Proof.Flash Cert.Proof.Ref

variable (m : (ℓ : Loc nD τ sig) → Buf (Elt Ideal) ℓ) (c : Dev nD)

/-- Points of one batch and head stage the same key blocks. -/
theorem blk1_same (t u : Fin cfg0.N) (e : u.val / 32 = t.val / 32) : (iblk m c 1 u : Vec Ideal S1x64x4096 .bf16) = iblk m c 1 t := by
  have ht : t.val < 512 := lt_of_lt_of_eq t.isLt N_0
  funext x
  obtain ⟨z, r, s, rfl⟩ : ∃ (z : Fin 1) (r : Fin 64) (s : Fin 4096), x = ix3 z r s := ⟨x 0, x 1, x 2, eq_ix3 x⟩
  obtain rfl : z = 0 := Subsingleton.elim _ _
  rw [blk1 m c t ⟨t.val / 128, by omega⟩ ⟨t.val / 32 % 4, by omega⟩ rfl rfl,
    blk1 m c u ⟨t.val / 128, by omega⟩ ⟨t.val / 32 % 4, by omega⟩ (by show t.val / 128 = u.val / 128; omega) (by show t.val / 32 % 4 = u.val / 32 % 4; omega)]

theorem blk3_same (t u : Fin cfg0.N) (e : u.val / 32 = t.val / 32) : (iblk m c 3 u : Vec Ideal S1x64x4096 .bf16) = iblk m c 3 t := by
  have ht : t.val < 512 := lt_of_lt_of_eq t.isLt N_0
  funext x
  obtain ⟨z, r, s, rfl⟩ : ∃ (z : Fin 1) (r : Fin 64) (s : Fin 4096), x = ix3 z r s := ⟨x 0, x 1, x 2, eq_ix3 x⟩
  obtain rfl : z = 0 := Subsingleton.elim _ _
  rw [blk3 m c t ⟨t.val / 128, by omega⟩ ⟨t.val / 32 % 4, by omega⟩ rfl rfl,
    blk3 m c u ⟨t.val / 128, by omega⟩ ⟨t.val / 32 % 4, by omega⟩ (by show t.val / 128 = u.val / 128; omega) (by show t.val / 32 % 4 = u.val / 32 % 4; omega)]

/-- What point `t` leaves in the two scratch buffers: its two key blocks, transposed. -/
def Left (t : Fin cfg0.N) : Prop :=
  (outsAt0 m c t.val t.isLt).2.1 = k0_pay16 (F := Ideal) (iblk m c 1 t) ∧ (outsAt0 m c t.val t.isLt).2.2 = k0_pay17 (F := Ideal) (iblk m c 3 t)

theorem left_A (t : Fin cfg0.N) (h0 : t.val % 32 = 0) : Left m c t := by
  unfold Left
  rw [outsAt0_A m c t h0]
  dsimp only
  exact ⟨CaseA.scr0 .., CaseA.scr1 ..⟩

theorem left_B (t u : Fin cfg0.N) (h0 : ¬t.val % 32 = 0) (hu : u.val = t.val - 1) (h : Left m c u) : Left m c t := by
  have e : u.val / 32 = t.val / 32 := by omega
  obtain ⟨n, hn⟩ := u
  obtain rfl : n = t.val - 1 := hu
  unfold Left at h ⊢
  rw [blk1_same m c t _ e, blk3_same m c t _ e] at h
  rw [outsAt0_B m c t h0]
  dsimp only
  unfold sout0_B_0 sout0_B_1
  exact h

/-- Every point leaves its key blocks in the scratch. -/
theorem scratch : ∀ (n : ℕ) (t : Fin cfg0.N), t.val = n → Left m c t
  | 0, t, e => left_A m c t (by omega)
  | n + 1, t, e => by
    by_cases h0 : t.val % 32 = 0
    · exact left_A m c t h0
    · have hn : n < cfg0.N := by have := t.isLt; omega
      exact left_B m c t ⟨n, hn⟩ h0 (by show n = t.val - 1; omega) (scratch n ⟨n, hn⟩ rfl)

/-- What the result array must hold: the reference's function of the arguments. -/
abbrev G : S4x1024x4096.Idx → EReal := Cert.ReferenceIdeal.Read.val_main_v198 (F := Ideal) (a0 m c) (a1 m c) (a2 m c) (a3 m c) (a4 m c)

variable (hf : Fin1 m c) (t : Fin cfg0.N)

/-- Where an element of point `t`'s block lies in the result array. -/
theorem emb_eq (b h : Fin 4) (hb : b.val = t.val / 128) (hh : h.val = t.val / 32 % 4) (g : Fin 4) (d : Fin 64) (y : Fin 128) (q : Fin 4096) (hq : q.val = 128 * (t.val % 32) + y.val) :
    ((cfg0.win 9).blk t).view.emb (ix3 0 ⟨64 * g.val + d.val, by omega⟩ y) = ix3 b (⟨256 * h.val + 64 * g.val + d.val, by omega⟩ : Fin 1024) q := by
  obtain ⟨h0, h1, h2⟩ := (idx_all t).2.2.2.2.2.2.2.2.2
  refine funext fun a => Fin.ext ?_
  match a with
  | ⟨0, _⟩ => show win0_9.index t (0 : Fin 3) * 1 + 1 * 0 = b.val; omega
  | ⟨1, _⟩ => show win0_9.index t (1 : Fin 3) * 256 + 1 * (64 * g.val + d.val) = 256 * h.val + 64 * g.val + d.val; omega
  | ⟨2, _⟩ => show win0_9.index t (2 : Fin 3) * 128 + 1 * y.val = q.val; omega

include hf in
/-- Every point writes back its block of the reference's result. -/
theorem flushed_eq : (dats m 0 c).flushed 9 t = ((cfg0.win 9).blk t).view.read (Elt Ideal) (G m c) := by
  have ht : t.val < 512 := lt_of_lt_of_eq t.isLt N_0
  have hc : ∀ (X : Vec Ideal S1x256x128 .f32) y, (cfg0.win 9).cut (grid0.coords t) X y = X y := fun _ _ => rfl
  have hr : ∀ X y, ((cfg0.win 9).blk t).view.read (Elt Ideal) X y = X (((cfg0.win 9).blk t).view.emb y) := fun _ _ => rfl
  funext x
  obtain ⟨z, r, y, rfl⟩ : ∃ (z : Fin 1) (r : Fin 256) (y : Fin 128), x = ix3 z r y := ⟨x 0, x 1, x 2, eq_ix3 x⟩
  obtain rfl : z = 0 := Subsingleton.elim _ _
  obtain ⟨g, d, rfl⟩ : ∃ (g : Fin 4) (d : Fin 64), r = ⟨64 * g.val + d.val, by omega⟩ :=
    ⟨⟨r.val / 64, by omega⟩, ⟨r.val % 64, by omega⟩, Fin.ext (by show r.val = 64 * (r.val / 64) + r.val % 64; omega)⟩
  refine Eq.trans ?_ (hr _ _).symm
  rw [emb_eq t ⟨t.val / 128, by omega⟩ ⟨t.val / 32 % 4, by omega⟩ rfl rfl g d y ⟨128 * (t.val % 32) + y.val, by omega⟩ rfl]
  have key := fun Sel hS => oK_eq m c hf t ⟨t.val / 128, by omega⟩ ⟨t.val / 32 % 4, by omega⟩ g rfl rfl y ⟨128 * (t.val % 32) + y.val, by omega⟩ rfl d Sel hS
  by_cases h0 : t.val % 32 = 0
  · rw [Value.flushed9_A m c t h0]
    refine (hc _ _).trans (Eq.trans ?_ (key _ (CaseB.sel_iff c (grid0.coords t) (ms0_0 t) (hs0_0 t) (ms0_5 t) (hs0_5 t) (ms0_8 t) (hs0_8 t) scM0_2 (iblk m c 0 t) (iblk m c 5 t) (iblk m c 8 t) y)))
    exact CaseA.out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (iblk m c 4 t) (iblk m c 5 t) (iblk m c 6 t) (iblk m c 7 t) (iblk m c 8 t) g y d ((hcond0_0 t).mpr h0) (score_sel m c hf t _) (score_win m c hf t)
  · rw [Value.flushed9_B m c t h0]
    obtain ⟨e0, e1⟩ := scratch m c (t.val - 1) ⟨t.val - 1, Nat.lt_of_le_of_lt (Nat.sub_le _ _) t.isLt⟩ rfl
    dsimp only at e0 e1
    have e : (t.val - 1) / 32 = t.val / 32 := by omega
    rw [e0, e1, blk1_same m c t ⟨t.val - 1, _⟩ e, blk3_same m c t ⟨t.val - 1, _⟩ e]
    refine (hc _ _).trans (Eq.trans ?_ (key _ (CaseB.sel_iff c (grid0.coords t) (ms0_0 t) (hs0_0 t) (ms0_5 t) (hs0_5 t) (ms0_8 t) (hs0_8 t) scM0_2 (iblk m c 0 t) (iblk m c 5 t) (iblk m c 8 t) y)))
    exact CaseB.out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (iblk m c 4 t) (iblk m c 5 t) (iblk m c 6 t) (iblk m c 7 t) (iblk m c 8 t) (k0_pay16 (F := Ideal) (iblk m c 1 t)) (k0_pay17 (F := Ideal) (iblk m c 3 t)) g y d
      (fun h => h0 ((hcond0_0 t).mp h)) (score_sel m c hf t _) (score_win m c hf t)

/-- Every index of the result array lies in the block of one point. -/
theorem cover (i : S4x1024x4096.Idx) : ∃ t : Fin cfg0.N, (cfg0.win 9).flush t = true ∧ i ∈ ((cfg0.win 9).blk t).view.set := by
  obtain ⟨b, r, q, rfl⟩ : ∃ (b : Fin 4) (r : Fin 1024) (q : Fin 4096), i = ix3 b r q := ⟨i 0, i 1, i 2, eq_ix3 i⟩
  have hN : cfg0.N = 512 := N_0
  refine ⟨⟨128 * b.val + 32 * (r.val / 256) + q.val / 128, by omega⟩, flush0_9 _, ?_⟩
  generalize ht : (⟨128 * b.val + 32 * (r.val / 256) + q.val / 128, by omega⟩ : Fin cfg0.N) = t
  have htv : t.val = 128 * b.val + 32 * (r.val / 256) + q.val / 128 := by rw [← ht]
  obtain ⟨h0, h1, h2⟩ := (idx_all t).2.2.2.2.2.2.2.2.2
  show ix3 b r q ∈ ((View.whole main_v32).slice (win0_9.rect t)).set
  rw [View.set_slice_whole, Rect.mem_set_unit]
  intro a
  match a with
  | ⟨0, _⟩ => show win0_9.index t (0 : Fin 3) * 1 ≤ b.val ∧ b.val < win0_9.index t (0 : Fin 3) * 1 + 1; omega
  | ⟨1, _⟩ => show win0_9.index t (1 : Fin 3) * 256 ≤ r.val ∧ r.val < win0_9.index t (1 : Fin 3) * 256 + 256; omega
  | ⟨2, _⟩ => show win0_9.index t (2 : Fin 3) * 128 ≤ q.val ∧ q.val < win0_9.index t (2 : Fin 3) * 128 + 128; omega

include hf in
theorem final : (dats m 0 c).arrAt 9 cfg0.N = G m c :=
  (dats m 0 c).arrAt_eq_of_cover 9 (G m c) (fun t _ => flushed_eq m c hf t) cover

/-- The shape relations the precondition's operations take. -/
instance preFacts : Cert.Pre_finite_scores.Facts where
  bcast_S_S4x1024x4096 := by decide
  bcast_S_S4x4x256x64 := by decide

/-- An extended real whose absolute value is below infinity is a real number. -/
theorem real_of_abs (x : EReal) (h : Ideal.cmp .olt (max x (-x)) (Ideal.ofBits .bf16 0x7F80#16) = 1#1) : Real1 x := by
  have e : Ideal.ofBits .bf16 0x7F80#16 = (⊤ : EReal) := by simp [Ideal.ofBits, Ideal.ieee]
  rw [e] at h
  induction x with
  | bot => exact absurd h (by simp [Ideal.cmp])
  | top => exact absurd h (by simp [Ideal.cmp])
  | coe r => exact ⟨r, rfl⟩

/-- The rows the precondition asks to be finite: those whose bit 8 is clear. -/
theorem row_word : ∀ r : Fin 1024, r.val / 256 % 2 = 0 → IntOp.cmpi .ne (IntOp.andi (BitVec.ofNat 32 r.val) 256#32) 0#32 = 0#1 := by
  decide +kernel

/-- The precondition's three arrays of flags, read. -/
theorem fin_of_pre (hp : Cert.Pre_KernelIdeal_finite_scores m) : Fin1 m c := by
  obtain ⟨h0, h1, h2⟩ := hp c
  refine ⟨fun j => real_of_abs _ (congrFun h0 j), fun b r s hr => real_of_abs _ ?_, fun j => real_of_abs _ (congrFun h2 j)⟩
  have e : IntOp.ori (IntOp.cmpi .ne (IntOp.andi (BitVec.ofNat 32 r.val) 256#32) 0#32) (Ideal.cmp .olt (max (a1 m c (ix3 b r s)) (-a1 m c (ix3 b r s))) (Ideal.ofBits .bf16 0x7F80#16)) = 1#1 :=
    congrFun h1 (ix3 b r s)
  rw [row_word r hr] at e
  refine Eq.trans ?_ e
  exact (BitVec.zero_or).symm

/-- The kernel's and the reference's results are equal at the extended reals, from arguments that agree and meet the precondition. -/
theorem algebraic : Cert.algebraic_KernelIdeal_ReferenceIdeal_pre_finite_scores := by
  intro m ρ m' ρ' hp hagree
  refine ⟨fun c => G m c, ?_, ?_⟩
  · exact (θ_run Cert.KernelIdeal.defs _ _).mono (fun _ h c => ⟨(h c).1.trans (final m c (fin_of_pre m c hp)), (h c).2⟩)
      (Cert.KernelIdeal.Value.run_blocks (F := Ideal) m ρ)
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [Cert.ReferenceIdeal.Read.val_main_v198_eq,
    show StableHlo.launchContents m' c (Proc.devRef .tc Cert.ReferenceIdeal.main_arg0) = a0 m c from e0,
    show StableHlo.launchContents m' c (Proc.devRef .tc Cert.ReferenceIdeal.main_arg1) = a1 m c from e1,
    show StableHlo.launchContents m' c (Proc.devRef .tc Cert.ReferenceIdeal.main_arg2) = a2 m c from e2,
    show StableHlo.launchContents m' c (Proc.devRef .tc Cert.ReferenceIdeal.main_arg3) = a3 m c from e3,
    show StableHlo.launchContents m' c (Proc.devRef .tc Cert.ReferenceIdeal.main_arg4) = a4 m c from e4]

end Cert.Proof.Attn

end
-- ==== Proof.InProjA.lean ====
/-
  The input projection, at the extended reals: the kernel's six result arrays are the reference's.
  Everything is said of one function, `pj`: the dot product of a row of the input with a column of the weight. The
  kernel's weight columns are gathered by the host into two other orders (`wn`, `wt`); the rotation of the queries
  and keys is `rope`, of a function of the column. `ref5` … `ref10` read the reference's results in these terms,
  `at5` … `at10` the kernel's blocks; `final5` … `final10` put the blocks together; `algebraic` is the claim.
-/
module

public import proofs.«01_k».proof.Defs
public import proofs.«01_k».proof.Proof.Gen.Kernel2Ideal.Value
public import proofs.«01_k».proof.Proof.Gen.Reference2Ideal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.InProj

open Cert.Kernel2Ideal Cert.Kernel2Ideal.Gen

/-- Entry `k` of row `q` of batch `b` of the input (zero outside the array), and of column `n` of the weight. -/
def xa (x0 : FVec Ideal S4x4096x1024 .f32) (b q : ℕ) (k : Fin 1024) : EReal :=
  if h : b < 4 ∧ q < 4096 then x0 (ix3 ⟨b, h.1⟩ ⟨q, h.2⟩ k) else 0
def wa (x1 : FVec Ideal S1024x5184 .f32) (k : Fin 1024) (n : ℕ) : EReal :=
  if h : n < 5184 then x1 (ix2 k ⟨n, h⟩) else 0
/-- The projection of row `q` of batch `b` to column `n`. -/
def pj (x0 : FVec Ideal S4x4096x1024 .f32) (x1 : FVec Ideal S1024x5184 .f32) (b q n : ℕ) : EReal :=
  ∑ k : Fin 1024, xa x0 b q k * wa x1 k n

theorem xa_eq (x0 : FVec Ideal S4x4096x1024 .f32) (b : Fin 4) (q : Fin 4096) (k : Fin 1024) : x0 (ix3 b q k) = xa x0 b.val q.val k := by
  unfold xa
  rw [dif_pos ⟨b.isLt, q.isLt⟩]
theorem wa_eq (x1 : FVec Ideal S1024x5184 .f32) (k : Fin 1024) (n : ℕ) (h : n < 5184) : x1 (ix2 k ⟨n, h⟩) = wa x1 k n := by
  unfold wa
  rw [dif_pos h]
theorem pj_eq (x0 : FVec Ideal S4x4096x1024 .f32) (x1 : FVec Ideal S1024x5184 .f32) (b : Fin 4) (q : Fin 4096) (n : ℕ) (h : n < 5184) :
    (∑ k : Fin 1024, x0 (ix3 b q k) * x1 (ix2 k ⟨n, h⟩)) = pj x0 x1 b.val q.val n := by
  unfold pj
  exact Finset.sum_congr rfl fun k _ => congrArg₂ (· * ·) (xa_eq x0 b q k) (wa_eq x1 k n h)

/-- The angle of frequency `k` at position `q`. -/
def ang (q k : ℕ) : EReal :=
  FloatOps.sitofp (F := Ideal) .f32 (BitVec.ofNat 32 q) *
    Ideal.pow (Ideal.ofBits .f32 1176256512#32)
      (Ideal.div (-(Ideal.ofBits .f32 1073741824#32 * FloatOps.sitofp (F := Ideal) .f32 (BitVec.ofNat 32 k)))
        (Ideal.ofBits .f32 1115684864#32))

/-- The queries' scale. -/
def qs : EReal := Ideal.ofBits .f32 1040187392#32

/-- Column `l` of a rotated row, heads of 64 columns, the two halves of a head rotated into each other. -/
def rope (A : ℕ → EReal) (q l : ℕ) : EReal :=
  if l % 64 < 32 then A l * Ideal.cos (ang q (l % 64)) - A (l + 32) * Ideal.sin (ang q (l % 64))
  else A (l - 32) * Ideal.sin (ang q (l % 64 - 32)) + A l * Ideal.cos (ang q (l % 64 - 32))

/-- Element `l` of the scaled, rotated query at position `q` of batch `b`. -/
def qv (x0 : FVec Ideal S4x4096x1024 .f32) (x1 : FVec Ideal S1024x5184 .f32) (b q l : ℕ) : EReal :=
  rope (fun n => pj x0 x1 b q (2576 + n)) q l * qs

/-- Two spellings of a rotated column agree when their columns and frequencies do. -/
theorem rlo (A : ℕ → EReal) (q : ℕ) {a a' b b' k k' : ℕ} (ha : a = a') (hb : b = b') (hk : k = k') :
    A a * Ideal.cos (ang q k) - A b * Ideal.sin (ang q k) = A a' * Ideal.cos (ang q k') - A b' * Ideal.sin (ang q k') := by
  subst ha hb hk; rfl
theorem rhi (A : ℕ → EReal) (q : ℕ) {a a' b b' k k' : ℕ} (ha : a = a') (hb : b = b') (hk : k = k') :
    A a * Ideal.sin (ang q k) + A b * Ideal.cos (ang q k) = A a' * Ideal.sin (ang q k') + A b' * Ideal.cos (ang q k') := by
  subst ha hb hk; rfl

/-- A rotation of columns counted from a multiple of a head's width is the rotation at the later column. -/
theorem rope_shift (B : ℕ → EReal) (q l off : ℕ) (hoff : off % 64 = 0) (src l' : ℕ) (hl : l' = off + l) :
    rope (fun n => B (src + off + n)) q l = rope (fun n => B (src + n)) q l' := by
  subst hl
  unfold rope
  have e : (off + l) % 64 = l % 64 := by omega
  rw [e]
  split_ifs
  · exact rlo B q (by omega) (by omega) rfl
  · exact rhi B q (by omega) (by omega) rfl

section Reference
variable (x0 : FVec Ideal S4x4096x1024 .f32) (x1 : FVec Ideal S1024x5184 .f32) (b : Fin 4) (q : Fin 4096)
open Cert.Reference2Ideal.Read

/-- The reference's six results at an index. -/
theorem ref5 (l : Fin 1024) : val_main_v1 (F := Ideal) x0 x1 (ix3 b q l) = pj x0 x1 b.val q.val l.val := by
  pointwise [val_main_v0, val_main_v1]
  simp only [pj_eq]
theorem ref6 (l : Fin 1536) : val_main_v2 (F := Ideal) x0 x1 (ix3 b q l) = pj x0 x1 b.val q.val (1024 + l.val) := by
  pointwise [val_main_v0, val_main_v2]
  simp only [pj_eq]
theorem ref7 (l : Fin 128) : val_main_v97 (F := Ideal) x0 x1 (ix3 b q l)
    = if l.val < 16 then pj x0 x1 b.val q.val (2560 + l.val)
      else if l.val - 16 < 48 then pj x0 x1 b.val q.val (5136 + (l.val - 16)) else 0 := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_cst_1, val_main_v20, val_main_v21, val_main_cst_2, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst_3, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_cst_4, val_main_v96, val_main_v97, val_main_v98, val_main_v99, val_main_v100, val_main_v101, val_main_v102, val_main_v103, val_main_v104]
  simp only [pj_eq]
  rfl
theorem ref8 (l : Fin 512) : val_main_v98 (F := Ideal) x0 x1 (ix3 b q l) = pj x0 x1 b.val q.val (3600 + l.val) := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_cst_1, val_main_v20, val_main_v21, val_main_cst_2, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst_3, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_cst_4, val_main_v96, val_main_v97, val_main_v98, val_main_v99, val_main_v100, val_main_v101, val_main_v102, val_main_v103, val_main_v104]
  simp only [pj_eq]
  split_ifs
  · rfl
  · exact congrArg _ (by omega)
theorem ref9 (l : Fin 1024) : val_main_v103 (F := Ideal) x0 x1 (ix3 b l q)
    = qv x0 x1 b.val q.val l.val := by
  unfold qv
  pointwise [val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_cst_1, val_main_v20, val_main_v21, val_main_cst_2, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst_3, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_cst_4, val_main_v96, val_main_v97, val_main_v98, val_main_v99, val_main_v100, val_main_v101, val_main_v102, val_main_v103, val_main_v104]
  simp only [pj_eq]
  unfold rope
  split_ifs
  · exact congrArg (· * _) (rlo (pj x0 x1 b.val q.val) q.val (by omega) (by omega) (by omega))
  · exact congrArg (· * _) (rhi (pj x0 x1 b.val q.val) q.val (by omega) (by omega) (by omega))
theorem ref10 (l : Fin 1024) : val_main_v104 (F := Ideal) x0 x1 (ix3 b l q)
    = if l.val < 256 ∨ (512 ≤ l.val ∧ l.val < 768) then rope (fun n => pj x0 x1 b.val q.val (4112 + n)) q.val l.val
      else pj x0 x1 b.val q.val (4112 + l.val) := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_cst_1, val_main_v20, val_main_v21, val_main_cst_2, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst_3, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_cst_4, val_main_v96, val_main_v97, val_main_v98, val_main_v99, val_main_v100, val_main_v101, val_main_v102, val_main_v103, val_main_v104]
  simp only [pj_eq]
  unfold rope
  split_ifs <;> first
    | (exfalso; omega)
    | exact rlo (pj x0 x1 b.val q.val) q.val (by omega) (by omega) (by omega)
    | exact rhi (pj x0 x1 b.val q.val) q.val (by omega) (by omega) (by omega)
    | exact congrArg _ (by omega)
end Reference

section Payloads
variable (x0 : FVec Ideal S4x4096x1024 .f32) (x1 : FVec Ideal S1024x5184 .f32) (b q : ℕ)

/-- The cast block of the input at an index. -/
theorem p3 (P0 : Vec Ideal S1x256x1024 .f32) (r : Fin 256) (hx : ∀ k, P0 (ix3 0 r k) = xa x0 b q k) (k : Fin 1024) :
    k0_pay3 P0 (ix2 r k) = xa x0 b q k := by
  pointwise [k0_pay3]
  exact hx k

/-- A stored product block at an index. -/
theorem p4 (P0 : Vec Ideal S1x256x1024 .f32) (P1 : Vec Ideal S1024x256 .bf16) (u : Fin 1) (r l : Fin 256) (n : ℕ)
    (hx : ∀ k, P0 (ix3 0 r k) = xa x0 b q k) (hw : ∀ k, P1 (ix2 k l) = wa x1 k n) :
    k0_pay4 P0 P1 (ix3 u r l) = pj x0 x1 b q n := by
  pointwise [k0_pay4, k0_pay3]
  simp only [hx, hw]
  rfl
theorem p5 (P0 : Vec Ideal S1x256x1024 .f32) (P1 : Vec Ideal S1024x256 .bf16) (u : Fin 1) (r l : Fin 256) (n : ℕ)
    (hx : ∀ k, P0 (ix3 0 r k) = xa x0 b q k) (hw : ∀ k, P1 (ix2 k l) = wa x1 k n) :
    k0_pay5 P0 P1 (ix3 u r l) = pj x0 x1 b q n := by
  pointwise [k0_pay5, k0_pay3]
  simp only [hx, hw]
  rfl
theorem p6 (P0 : Vec Ideal S1x256x1024 .f32) (P1 : Vec Ideal S1024x256 .bf16) (u : Fin 1) (r l : Fin 256) (n : ℕ)
    (hx : ∀ k, P0 (ix3 0 r k) = xa x0 b q k) (hw : ∀ k, P1 (ix2 k l) = wa x1 k n) :
    k0_pay6 P0 P1 (ix3 u r l) = pj x0 x1 b q n := by
  pointwise [k0_pay6, k0_pay3]
  simp only [hx, hw]
  rfl
theorem p7 (P0 : Vec Ideal S1x256x1024 .f32) (P1 : Vec Ideal S1024x256 .bf16) (u : Fin 1) (r l : Fin 256) (n : ℕ)
    (hx : ∀ k, P0 (ix3 0 r k) = xa x0 b q k) (hw : ∀ k, P1 (ix2 k l) = wa x1 k n) :
    k0_pay7 P0 P1 (ix3 u r l) = pj x0 x1 b q n := by
  pointwise [k0_pay7, k0_pay3]
  simp only [hx, hw]
  rfl
theorem p8 (P0 : Vec Ideal S256x1024 .bf16) (P1 : Vec Ideal S1024x256 .bf16) (u : Fin 1) (r l : Fin 256) (n : ℕ)
    (hx : ∀ k, P0 (ix2 r k) = xa x0 b q k) (hw : ∀ k, P1 (ix2 k l) = wa x1 k n) :
    k0_pay8 P0 P1 (ix3 u r l) = pj x0 x1 b q n := by
  pointwise [k0_pay8]
  simp only [hx, hw]
  rfl
theorem p9 (P0 : Vec Ideal S256x1024 .bf16) (P1 : Vec Ideal S1024x256 .bf16) (u : Fin 1) (r l : Fin 256) (n : ℕ)
    (hx : ∀ k, P0 (ix2 r k) = xa x0 b q k) (hw : ∀ k, P1 (ix2 k l) = wa x1 k n) :
    k0_pay9 P0 P1 (ix3 u r l) = pj x0 x1 b q n := by
  pointwise [k0_pay9]
  simp only [hx, hw]
  rfl
theorem p10 (P0 : Vec Ideal S256x1024 .bf16) (P1 : Vec Ideal S1024x256 .bf16) (u : Fin 1) (r l : Fin 256) (n : ℕ)
    (hx : ∀ k, P0 (ix2 r k) = xa x0 b q k) (hw : ∀ k, P1 (ix2 k l) = wa x1 k n) :
    k0_pay10 P0 P1 (ix3 u r l) = pj x0 x1 b q n := by
  pointwise [k0_pay10]
  simp only [hx, hw]
  rfl
theorem p11 (P0 : Vec Ideal S256x1024 .bf16) (P1 : Vec Ideal S1024x256 .bf16) (u : Fin 1) (r l : Fin 256) (n : ℕ)
    (hx : ∀ k, P0 (ix2 r k) = xa x0 b q k) (hw : ∀ k, P1 (ix2 k l) = wa x1 k n) :
    k0_pay11 P0 P1 (ix3 u r l) = pj x0 x1 b q n := by
  pointwise [k0_pay11]
  simp only [hx, hw]
  rfl
theorem p13 (P0 : Vec Ideal S256x1024 .bf16) (P1 : Vec Ideal S1024x256 .bf16) (u : Fin 1) (r l : Fin 256) (n : ℕ)
    (hx : ∀ k, P0 (ix2 r k) = xa x0 b q k) (hw : ∀ k, P1 (ix2 k l) = wa x1 k n) :
    k0_pay13 (k0_pay12 P0 P1) (ix3 u r l) = pj x0 x1 b q n := by
  pointwise [k0_pay12, k0_pay13]
  simp only [hx, hw]
  rfl
theorem p14 (P0 : Vec Ideal S256x1024 .bf16) (P1 : Vec Ideal S1024x256 .bf16) (u : Fin 1) (r l : Fin 256) (n : ℕ)
    (hx : ∀ k, P0 (ix2 r k) = xa x0 b q k) (hw : ∀ k, P1 (ix2 k l) = wa x1 k n) :
    k0_pay14 P0 P1 (ix3 u r l) = pj x0 x1 b q n := by
  pointwise [k0_pay14]
  simp only [hx, hw]
  rfl
theorem p15 (P0 : Vec Ideal S256x1024 .bf16) (P1 : Vec Ideal S1024x128 .bf16) (u : Fin 1) (r : Fin 256) (l : Fin 128) :
    k0_pay15 P0 P1 (ix3 u r l) = ∑ k : Fin 1024, P0 (ix2 r k) * P1 (ix2 k l) := by
  pointwise [k0_pay15]
theorem p16 (P0 : Vec Ideal S256x1024 .bf16) (P1 : Vec Ideal S1024x256 .bf16) (u : Fin 1) (r l : Fin 256) (n : ℕ)
    (hx : ∀ k, P0 (ix2 r k) = xa x0 b q k) (hw : ∀ k, P1 (ix2 k l) = wa x1 k n) :
    k0_pay16 P0 P1 (ix3 u r l) = pj x0 x1 b q n := by
  pointwise [k0_pay16]
  simp only [hx, hw]
  rfl
theorem p17 (P0 : Vec Ideal S256x1024 .bf16) (P1 : Vec Ideal S1024x256 .bf16) (u : Fin 1) (r l : Fin 256) (n : ℕ)
    (hx : ∀ k, P0 (ix2 r k) = xa x0 b q k) (hw : ∀ k, P1 (ix2 k l) = wa x1 k n) :
    k0_pay17 P0 P1 (ix3 u r l) = pj x0 x1 b q n := by
  pointwise [k0_pay17]
  simp only [hx, hw]
  rfl
/-- A stored transposed product block at an index. -/
theorem p2 (P0 P1 : Vec Ideal S256x1024 .bf16) (u : Fin 1) (r l : Fin 256) (n : ℕ)
    (hx : ∀ k, P0 (ix2 l k) = xa x0 b q k) (hw : ∀ k, P1 (ix2 r k) = wa x1 k n) :
    k0_pay2 P0 P1 (ix3 u r l) = pj x0 x1 b q n := by
  pointwise [k0_pay2]
  simp only [hx, hw]
  exact Finset.sum_congr rfl fun k _ => mul_comm _ _
theorem p77 (P0 P1 : Vec Ideal S256x1024 .bf16) (u : Fin 1) (r l : Fin 256) (n : ℕ)
    (hx : ∀ k, P0 (ix2 l k) = xa x0 b q k) (hw : ∀ k, P1 (ix2 r k) = wa x1 k n) :
    k0_pay77 P0 P1 (ix3 u r l) = pj x0 x1 b q n := by
  pointwise [k0_pay77]
  simp only [hx, hw]
  exact Finset.sum_congr rfl fun k _ => mul_comm _ _
/-- A stored rotated block at an index: the rotation of the rows' products with the input's row. -/
theorem p37 (P0 P1 : Vec Ideal S256x1024 .bf16) (C S C' S' : Vec Ideal S32x256 .f32) (u : Fin 1) (r l : Fin 256) (off : ℕ)
    (hx : ∀ k, P0 (ix2 l k) = xa x0 b q k) (hw : ∀ (n : Fin 256) k, P1 (ix2 n k) = wa x1 k (off + n.val))
    (hC : ∀ k : Fin 32, C (ix2 k l) = Ideal.cos (ang q k.val)) (hS : ∀ k : Fin 32, S (ix2 k l) = Ideal.sin (ang q k.val))
    (hC' : ∀ k : Fin 32, C' (ix2 k l) = Ideal.cos (ang q k.val)) (hS' : ∀ k : Fin 32, S' (ix2 k l) = Ideal.sin (ang q k.val)):
    k0_pay37 C S (k0_pay23 P0 C' S' P1) (k0_pay24 P0 C' S' P1) (k0_pay27 P0 C' S' P1) (k0_pay28 P0 C' S' P1) (k0_pay31 P0 C' S' P1) (k0_pay32 P0 C' S' P1) (k0_pay33 P0 P1) (k0_pay34 P0 P1) (k0_pay35 P0 C' S' P1) (k0_pay36 (F := Ideal)) (ix3 u r l)
      = rope (fun n => pj x0 x1 b q (off + n)) q r.val * qs := by
  have hA : ∀ n : Fin 256, (∑ k : Fin 1024, P1 (ix2 n k) * P0 (ix2 l k)) = pj x0 x1 b q (off + n.val) := fun n =>
    Finset.sum_congr rfl fun k _ => by rw [hx, hw, mul_comm]
  pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
  simp only [hA, hC, hS, hC', hS', mul_one]
  unfold rope
  split_ifs <;> first
    | (exfalso; omega)
    | exact congrArg (· * _) (rlo (pj x0 x1 b q) q (by omega) (by omega) (by omega))
    | exact congrArg (· * _) (rhi (pj x0 x1 b q) q (by omega) (by omega) (by omega))
theorem p52 (P0 P1 : Vec Ideal S256x1024 .bf16) (C S : Vec Ideal S32x256 .f32) (u : Fin 1) (r l : Fin 256) (off : ℕ)
    (hx : ∀ k, P0 (ix2 l k) = xa x0 b q k) (hw : ∀ (n : Fin 256) k, P1 (ix2 n k) = wa x1 k (off + n.val))
    (hC : ∀ k : Fin 32, C (ix2 k l) = Ideal.cos (ang q k.val)) (hS : ∀ k : Fin 32, S (ix2 k l) = Ideal.sin (ang q k.val))
    :
    k0_pay52 C S (k0_pay38 P0 P1) (k0_pay41 P0 C S P1) (k0_pay42 P0 C S P1) (k0_pay45 P0 C S P1) (k0_pay46 P0 C S P1) (k0_pay49 P0 C S P1) (k0_pay50 P0 S P1) (k0_pay51 P0 C P1) (ix3 u r l)
      = rope (fun n => pj x0 x1 b q (off + n)) q r.val * qs := by
  have hA : ∀ n : Fin 256, (∑ k : Fin 1024, P1 (ix2 n k) * P0 (ix2 l k)) = pj x0 x1 b q (off + n.val) := fun n =>
    Finset.sum_congr rfl fun k _ => by rw [hx, hw, mul_comm]
  pointwise [k0_pay38, k0_pay39, k0_pay40, k0_pay41, k0_pay42, k0_pay43, k0_pay44, k0_pay45, k0_pay46, k0_pay47, k0_pay48, k0_pay49, k0_pay50, k0_pay51, k0_pay52]
  simp only [hA, hC, hS, mul_one]
  unfold rope
  split_ifs <;> first
    | (exfalso; omega)
    | exact congrArg (· * _) (rlo (pj x0 x1 b q) q (by omega) (by omega) (by omega))
    | exact congrArg (· * _) (rhi (pj x0 x1 b q) q (by omega) (by omega) (by omega))
theorem p63 (P0 P1 : Vec Ideal S256x1024 .bf16) (C S : Vec Ideal S32x256 .f32) (u : Fin 1) (r l : Fin 256) (off : ℕ)
    (hx : ∀ k, P0 (ix2 l k) = xa x0 b q k) (hw : ∀ (n : Fin 256) k, P1 (ix2 n k) = wa x1 k (off + n.val))
    (hC : ∀ k : Fin 32, C (ix2 k l) = Ideal.cos (ang q k.val)) (hS : ∀ k : Fin 32, S (ix2 k l) = Ideal.sin (ang q k.val))
    :
    k0_pay63 C S (k0_pay53 P0 P1) (k0_pay56 P0 C S P1) (k0_pay57 P0 C S P1) (k0_pay60 P0 C S P1) (k0_pay61 P0 C S P1) (k0_pay62 (F := Ideal)) (ix3 u r l)
      = rope (fun n => pj x0 x1 b q (off + n)) q r.val * qs := by
  have hA : ∀ n : Fin 256, (∑ k : Fin 1024, P1 (ix2 n k) * P0 (ix2 l k)) = pj x0 x1 b q (off + n.val) := fun n =>
    Finset.sum_congr rfl fun k _ => by rw [hx, hw, mul_comm]
  pointwise [k0_pay53, k0_pay54, k0_pay55, k0_pay56, k0_pay57, k0_pay58, k0_pay59, k0_pay60, k0_pay61, k0_pay62, k0_pay63]
  simp only [hA, hC, hS, mul_one]
  unfold rope
  split_ifs <;> first
    | (exfalso; omega)
    | exact congrArg (· * _) (rlo (pj x0 x1 b q) q (by omega) (by omega) (by omega))
    | exact congrArg (· * _) (rhi (pj x0 x1 b q) q (by omega) (by omega) (by omega))
theorem p71 (P0 P1 : Vec Ideal S256x1024 .bf16) (C S : Vec Ideal S32x256 .f32) (u : Fin 1) (r l : Fin 256) (off : ℕ)
    (hx : ∀ k, P0 (ix2 l k) = xa x0 b q k) (hw : ∀ (n : Fin 256) k, P1 (ix2 n k) = wa x1 k (off + n.val))
    (hC : ∀ k : Fin 32, C (ix2 k l) = Ideal.cos (ang q k.val)) (hS : ∀ k : Fin 32, S (ix2 k l) = Ideal.sin (ang q k.val))
    :
    k0_pay71 C S (k0_pay64 P0 P1) (k0_pay67 P0 C S P1) (k0_pay68 P0 C S P1) (k0_pay69 P0 P1) (k0_pay70 P0 P1) (ix3 u r l)
      = rope (fun n => pj x0 x1 b q (off + n)) q r.val * qs := by
  have hA : ∀ n : Fin 256, (∑ k : Fin 1024, P1 (ix2 n k) * P0 (ix2 l k)) = pj x0 x1 b q (off + n.val) := fun n =>
    Finset.sum_congr rfl fun k _ => by rw [hx, hw, mul_comm]
  pointwise [k0_pay64, k0_pay65, k0_pay66, k0_pay67, k0_pay68, k0_pay69, k0_pay70, k0_pay71]
  simp only [hA, hC, hS, mul_one]
  unfold rope
  split_ifs <;> first
    | (exfalso; omega)
    | exact congrArg (· * _) (rlo (pj x0 x1 b q) q (by omega) (by omega) (by omega))
    | exact congrArg (· * _) (rhi (pj x0 x1 b q) q (by omega) (by omega) (by omega))
theorem p76 (P0 P1 : Vec Ideal S256x1024 .bf16) (C S : Vec Ideal S32x256 .f32) (u : Fin 1) (r l : Fin 256) (off : ℕ)
    (hx : ∀ k, P0 (ix2 l k) = xa x0 b q k) (hw : ∀ (n : Fin 256) k, P1 (ix2 n k) = wa x1 k (off + n.val))
    (hC : ∀ k : Fin 32, C (ix2 k l) = Ideal.cos (ang q k.val)) (hS : ∀ k : Fin 32, S (ix2 k l) = Ideal.sin (ang q k.val))
    :
    k0_pay76 C S (k0_pay72 P0 P1) (k0_pay73 P0 P1) (k0_pay74 P0 P1) (k0_pay75 P0 C S P1) (ix3 u r l)
      = rope (fun n => pj x0 x1 b q (off + n)) q r.val := by
  have hA : ∀ n : Fin 256, (∑ k : Fin 1024, P1 (ix2 n k) * P0 (ix2 l k)) = pj x0 x1 b q (off + n.val) := fun n =>
    Finset.sum_congr rfl fun k _ => by rw [hx, hw, mul_comm]
  pointwise [k0_pay72, k0_pay73, k0_pay74, k0_pay75, k0_pay76]
  simp only [hA, hC, hS, mul_one]
  unfold rope
  split_ifs <;> first
    | (exfalso; omega)
    | exact (rlo (pj x0 x1 b q) q (by omega) (by omega) (by omega))
    | exact (rhi (pj x0 x1 b q) q (by omega) (by omega) (by omega))
theorem p1 (P0 P1 : Vec Ideal S256x1024 .bf16) (C S : Vec Ideal S32x256 .f32) (u : Fin 1) (r l : Fin 256) (off : ℕ)
    (hx : ∀ k, P0 (ix2 l k) = xa x0 b q k) (hw : ∀ (n : Fin 256) k, P1 (ix2 n k) = wa x1 k (off + n.val))
    (hC : ∀ k : Fin 32, C (ix2 k l) = Ideal.cos (ang q k.val)) (hS : ∀ k : Fin 32, S (ix2 k l) = Ideal.sin (ang q k.val))
    :
    k0_pay1 C S (k0_pay78 P0 P1) (k0_pay81 P0 C S P1) (k0_pay82 P0 C S P1) (k0_pay85 P0 C S P1) (k0_pay86 P0 C S P1) (k0_pay89 P0 C S P1) (k0_pay90 P0 C S P1) (Scalar.ofBits .f32 0x3F800000#32) (ix3 u r l)
      = rope (fun n => pj x0 x1 b q (off + n)) q r.val := by
  have hA : ∀ n : Fin 256, (∑ k : Fin 1024, P1 (ix2 n k) * P0 (ix2 l k)) = pj x0 x1 b q (off + n.val) := fun n =>
    Finset.sum_congr rfl fun k _ => by rw [hx, hw, mul_comm]
  pointwise [k0_pay1, k0_pay78, k0_pay79, k0_pay80, k0_pay81, k0_pay82, k0_pay83, k0_pay84, k0_pay85, k0_pay86, k0_pay87, k0_pay88, k0_pay89, k0_pay90]
  simp only [hA, hC, hS, mul_one]
  unfold rope
  split_ifs <;> first
    | (exfalso; omega)
    | exact (rlo (pj x0 x1 b q) q (by omega) (by omega) (by omega))
    | exact (rhi (pj x0 x1 b q) q (by omega) (by omega) (by omega))
theorem p18 (C : Vec Ideal S32x256 .f32) (l : Fin 256) (k : Fin 32) : k0_pay18 C (ix2 k l) = C (ix2 k l) := by
  pointwise [k0_pay18]
theorem p19 (C : Vec Ideal S32x256 .f32) (l : Fin 256) (k : Fin 32) : k0_pay19 C (ix2 k l) = C (ix2 k l) := by
  pointwise [k0_pay19]
end Payloads

variable (m : (ℓ : Loc nD τ sig) → Buf (Elt Ideal) ℓ)

/-- Device `c`'s contents of the two arguments. -/
abbrev a0 (c : Dev nD) : FVec Ideal S4x4096x1024 .f32 := m ((c : Thread nD τ).loc main_arg0)
abbrev a1 (c : Dev nD) : FVec Ideal S1024x5184 .f32 := m ((c : Thread nD τ).loc main_arg1)

/-- The host's two orders of the weight's columns. -/
def wn (x1 : FVec Ideal S1024x5184 .f32) (k : Fin 1024) (n : ℕ) : EReal :=
  if n < 2576 then wa x1 k n else if n < 2624 then wa x1 k (n + 2560) else if n < 2688 then 0 else wa x1 k (n + 912)
def wt (x1 : FVec Ideal S1024x5184 .f32) (k : Fin 1024) (n : ℕ) : EReal :=
  if n < 1024 then wa x1 k (2576 + n) else wa x1 k (3088 + n)

/-- What the host wrote before the call, at an index. -/
theorem V_v7 (c : Dev nD) (k : Fin 1024) (j : Fin 3200) : V m c main_v7 (ix2 k j) = wn (a1 m c) k j.val := by
  by_cases h1 : j.val < 2560
  · have hw : wn (a1 m c) k j.val = a1 m c (ix2 k ⟨j.val, by omega⟩) := by
      unfold wn
      rw [if_pos (by omega)]
      exact (wa_eq _ _ _ _).symm
    rw [hw]
    unfold V a1
    after_reads_at
    simp only [dif_pos h1]
    after_reads_at
  by_cases h2 : j.val - 2560 < 128
  · by_cases h3 : j.val - 2560 < 16
    · have hw : wn (a1 m c) k j.val = a1 m c (ix2 k ⟨2560 + (j.val - 2560), by omega⟩) := by
        unfold wn
        rw [if_pos (by omega)]
        exact (congrArg (wa _ k) (by omega)).trans (wa_eq _ _ _ _).symm
      rw [hw]
      unfold V a1
      after_reads_at
      simp only [dif_neg h1, dif_pos h2]
      after_reads_at
      simp only [dif_pos h3]
      after_reads_at
    by_cases h4 : j.val - 2560 - 16 < 48
    · have hw : wn (a1 m c) k j.val = a1 m c (ix2 k ⟨5136 + (j.val - 2560 - 16), by omega⟩) := by
        unfold wn
        rw [if_neg (by omega), if_pos (by omega)]
        exact (congrArg (wa _ k) (by omega)).trans (wa_eq _ _ _ _).symm
      rw [hw]
      unfold V a1
      after_reads_at
      simp only [dif_neg h1, dif_pos h2]
      after_reads_at
      simp only [dif_neg h3, dif_pos h4]
      after_reads_at
    · have hw : wn (a1 m c) k j.val = 0 := by
        unfold wn
        rw [if_neg (by omega), if_neg (by omega), if_pos (by omega)]
      rw [hw]
      unfold V
      after_reads_at
      simp only [dif_neg h1, dif_pos h2]
      after_reads_at
      simp only [dif_neg h3, dif_neg h4]
      after_reads_at
  · have hw : wn (a1 m c) k j.val = a1 m c (ix2 k ⟨3600 + (j.val - 2560 - 128), by omega⟩) := by
      unfold wn
      rw [if_neg (by omega), if_neg (by omega), if_neg (by omega)]
      exact (congrArg (wa _ k) (by omega)).trans (wa_eq _ _ _ _).symm
    rw [hw]
    unfold V a1
    after_reads_at
    simp only [dif_neg h1, dif_neg h2]
    after_reads_at
theorem V_v12 (c : Dev nD) (k : Fin 1024) (j : Fin 2048) : V m c main_v12 (ix2 j k) = wt (a1 m c) k j.val := by
  by_cases h1 : j.val < 1024
  · have hw : wt (a1 m c) k j.val = a1 m c (ix2 k ⟨2576 + j.val, by omega⟩) := by
      unfold wt
      rw [if_pos h1]
      exact (wa_eq _ _ _ _).symm
    rw [hw]
    unfold V a1
    after_reads_at
    simp only [dif_pos h1]
    after_reads_at
  · have hw : wt (a1 m c) k j.val = a1 m c (ix2 k ⟨4112 + (j.val - 1024), by omega⟩) := by
      unfold wt
      rw [if_neg h1]
      exact (congrArg (wa _ k) (by omega)).trans (wa_eq _ _ _ _).symm
    rw [hw]
    unfold V a1
    after_reads_at
    simp only [dif_neg h1]
    after_reads_at
theorem V_v29 (c : Dev nD) (k : Fin 32) (j : Fin 4096) : V m c main_v29 (ix2 k j) = Ideal.cos (ang j.val k.val) := by
  unfold V
  after_reads_at
  exact congrArg Ideal.cos (mul_comm _ _)
theorem V_v30 (c : Dev nD) (k : Fin 32) (j : Fin 4096) : V m c main_v30 (ix2 k j) = Ideal.sin (ang j.val k.val) := by
  unfold V
  after_reads_at
  exact congrArg Ideal.sin (mul_comm _ _)

/-- The block index of every window at every point: batch `t / 16`, row block `t % 16`. -/
theorem idx_all : ∀ t : Fin cfg0.N,
    (win0_0.index t (0 : Fin 3) = t.val / 16 ∧ win0_0.index t (1 : Fin 3) = t.val % 16 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = t.val % 16)
    ∧ (win0_4.index t (0 : Fin 2) = 0 ∧ win0_4.index t (1 : Fin 2) = t.val % 16) :=
  (by decide +kernel : ∀ t : Fin grid0.N, _)
theorem idx5 : ∀ t : Fin cfg0.N,
    win0_5.index t (0 : Fin 3) = t.val / 16 ∧ win0_5.index t (1 : Fin 3) = t.val % 16 ∧ win0_5.index t (2 : Fin 3) = 0 :=
  (by decide +kernel : ∀ t : Fin grid0.N, _)
theorem idx6 : ∀ t : Fin cfg0.N,
    win0_6.index t (0 : Fin 3) = t.val / 16 ∧ win0_6.index t (1 : Fin 3) = t.val % 16 ∧ win0_6.index t (2 : Fin 3) = 0 :=
  (by decide +kernel : ∀ t : Fin grid0.N, _)
theorem idx7 : ∀ t : Fin cfg0.N,
    win0_7.index t (0 : Fin 3) = t.val / 16 ∧ win0_7.index t (1 : Fin 3) = t.val % 16 ∧ win0_7.index t (2 : Fin 3) = 0 :=
  (by decide +kernel : ∀ t : Fin grid0.N, _)
theorem idx8 : ∀ t : Fin cfg0.N,
    win0_8.index t (0 : Fin 3) = t.val / 16 ∧ win0_8.index t (1 : Fin 3) = t.val % 16 ∧ win0_8.index t (2 : Fin 3) = 0 :=
  (by decide +kernel : ∀ t : Fin grid0.N, _)
theorem idx9 : ∀ t : Fin cfg0.N,
    win0_9.index t (0 : Fin 3) = t.val / 16 ∧ win0_9.index t (1 : Fin 3) = 0 ∧ win0_9.index t (2 : Fin 3) = t.val % 16 :=
  (by decide +kernel : ∀ t : Fin grid0.N, _)
theorem idx10 : ∀ t : Fin cfg0.N,
    win0_10.index t (0 : Fin 3) = t.val / 16 ∧ win0_10.index t (1 : Fin 3) = 0 ∧ win0_10.index t (2 : Fin 3) = t.val % 16 :=
  (by decide +kernel : ∀ t : Fin grid0.N, _)

/-- Each window's block, read at an index, is its array at that index moved by the block's offset. -/
theorem blk0 (c : Dev nD) (t : Fin cfg0.N) (r : Fin 256) (k : Fin 1024) :
    View.ld (iblk m c 0 t) r0_0 (ix3 0 r k) = xa (a0 m c) (t.val / 16) (t.val % 16 * 256 + r.val) k := by
  have ht : t.val < 64 := lt_of_lt_of_eq t.isLt N_0
  have hb : t.val / 16 < 4 := by omega
  have hq : t.val % 16 * 256 + r.val < 4096 := by omega
  refine Eq.trans ?_ (xa_eq (a0 m c) ⟨t.val / 16, hb⟩ ⟨t.val % 16 * 256 + r.val, hq⟩ k)
  show V m c main_arg0 (((cfg0.win 0).blk t).view.emb (r0_0.idx (ix3 0 r k))) = _
  rw [V_main_arg0]
  refine congrArg _ (funext fun a => Fin.ext ?_)
  obtain ⟨h0, h1, h2⟩ := (idx_all t).1
  match a with
  | ⟨0, _⟩ => show win0_0.index t (0 : Fin 3) * 1 + 1 * (0 + 1 * 0) = t.val / 16; omega
  | ⟨1, _⟩ => show win0_0.index t (1 : Fin 3) * 256 + 1 * (0 + 1 * r.val) = t.val % 16 * 256 + r.val; omega
  | ⟨2, _⟩ => show win0_0.index t (2 : Fin 3) * 1024 + 1 * (0 + 1 * k.val) = k.val; omega
/-- The cast block of the input. -/
theorem blk91 (c : Dev nD) (t : Fin cfg0.N) (r : Fin 256) (k : Fin 1024) :
    k0_pay91 (iblk m c 0 t) (iblk m c 1 t) (iblk m c 2 t) (iblk m c 3 t) (iblk m c 4 t) (ix2 r k)
      = xa (a0 m c) (t.val / 16) (t.val % 16 * 256 + r.val) k := by
  unfold k0_pay91
  exact p3 _ _ _ _ r (blk0 m c t r) k
theorem blk1 (c : Dev nD) (t : Fin cfg0.N) (off w : ℕ) (inb : ∀ a, (![0, off] : Fin 2 → Nat) a + (![1024, w] : Fin 2 → Nat) a ≤ S1024x3200.size a)
    (k : Fin 1024) (l : Fin w) :
    View.ld (iblk m c 1 t) (Rect.unit (s := S1024x3200) ![0, off] ![1024, w] inb) (ix2 k l) = wn (a1 m c) k (off + l.val) := by
  have hl : off + l.val < 3200 := lt_of_lt_of_le (Nat.add_lt_add_left l.isLt off) (inb 1)
  rw [← V_v7 m c k ⟨off + l.val, hl⟩]
  show V m c main_v7 (((cfg0.win 1).blk t).view.emb ((Rect.unit (s := S1024x3200) ![0, off] ![1024, w] inb).idx (ix2 k l))) = _
  refine congrArg _ (funext fun a => Fin.ext ?_)
  obtain ⟨h0, h1⟩ := (idx_all t).2.1
  match a with
  | ⟨0, _⟩ => show win0_1.index t (0 : Fin 2) * 1024 + 1 * (0 + 1 * k.val) = k.val; omega
  | ⟨1, _⟩ => show win0_1.index t (1 : Fin 2) * 3200 + 1 * (off + 1 * l.val) = off + l.val; omega
theorem blk2 (c : Dev nD) (t : Fin cfg0.N) (off : ℕ) (inb : ∀ a, (![off, 0] : Fin 2 → Nat) a + S256x1024.size a ≤ S2048x1024.size a)
    (k : Fin 1024) (r : Fin 256) :
    View.ld (iblk m c 2 t) (Rect.unit (s := S2048x1024) ![off, 0] S256x1024.size inb) (ix2 r k) = wt (a1 m c) k (off + r.val) := by
  have hl : off + r.val < 2048 := lt_of_lt_of_le (Nat.add_lt_add_left r.isLt off) (inb 0)
  rw [← V_v12 m c k ⟨off + r.val, hl⟩]
  show V m c main_v12 (((cfg0.win 2).blk t).view.emb ((Rect.unit (s := S2048x1024) ![off, 0] S256x1024.size inb).idx (ix2 r k))) = _
  refine congrArg _ (funext fun a => Fin.ext ?_)
  obtain ⟨h0, h1⟩ := (idx_all t).2.2.1
  match a with
  | ⟨0, _⟩ => show win0_2.index t (0 : Fin 2) * 2048 + 1 * (off + 1 * r.val) = off + r.val; omega
  | ⟨1, _⟩ => show win0_2.index t (1 : Fin 2) * 1024 + 1 * (0 + 1 * k.val) = k.val; omega
theorem blk3 (c : Dev nD) (t : Fin cfg0.N) (l : Fin 256) (k : Fin 32) :
    View.ld (iblk m c 3 t) r0_27 (ix2 k l) = Ideal.cos (ang (t.val % 16 * 256 + l.val) k.val) := by
  have hq : t.val % 16 * 256 + l.val < 4096 := by omega
  refine Eq.trans ?_ (V_v29 m c k ⟨t.val % 16 * 256 + l.val, hq⟩)
  show V m c main_v29 (((cfg0.win 3).blk t).view.emb (r0_27.idx (ix2 k l))) = _
  refine congrArg _ (funext fun a => Fin.ext ?_)
  obtain ⟨h0, h1⟩ := (idx_all t).2.2.2.1
  match a with
  | ⟨0, _⟩ => show win0_3.index t (0 : Fin 2) * 32 + 1 * (0 + 1 * k.val) = k.val; omega
  | ⟨1, _⟩ => show win0_3.index t (1 : Fin 2) * 256 + 1 * (0 + 1 * l.val) = t.val % 16 * 256 + l.val; omega
theorem blk92 (c : Dev nD) (t : Fin cfg0.N) (l : Fin 256) (k : Fin 32) :
    k0_pay92 (iblk m c 0 t) (iblk m c 1 t) (iblk m c 2 t) (iblk m c 3 t) (iblk m c 4 t) (ix2 k l)
      = Ideal.cos (ang (t.val % 16 * 256 + l.val) k.val) := by
  unfold k0_pay92
  exact (p18 _ l k).trans (blk3 m c t l k)
theorem blk4 (c : Dev nD) (t : Fin cfg0.N) (l : Fin 256) (k : Fin 32) :
    View.ld (iblk m c 4 t) r0_27 (ix2 k l) = Ideal.sin (ang (t.val % 16 * 256 + l.val) k.val) := by
  have hq : t.val % 16 * 256 + l.val < 4096 := by omega
  refine Eq.trans ?_ (V_v30 m c k ⟨t.val % 16 * 256 + l.val, hq⟩)
  show V m c main_v30 (((cfg0.win 4).blk t).view.emb (r0_27.idx (ix2 k l))) = _
  refine congrArg _ (funext fun a => Fin.ext ?_)
  obtain ⟨h0, h1⟩ := (idx_all t).2.2.2.2
  match a with
  | ⟨0, _⟩ => show win0_4.index t (0 : Fin 2) * 32 + 1 * (0 + 1 * k.val) = k.val; omega
  | ⟨1, _⟩ => show win0_4.index t (1 : Fin 2) * 256 + 1 * (0 + 1 * l.val) = t.val % 16 * 256 + l.val; omega
theorem blk93 (c : Dev nD) (t : Fin cfg0.N) (l : Fin 256) (k : Fin 32) :
    k0_pay93 (iblk m c 0 t) (iblk m c 1 t) (iblk m c 2 t) (iblk m c 3 t) (iblk m c 4 t) (ix2 k l)
      = Ideal.sin (ang (t.val % 16 * 256 + l.val) k.val) := by
  unfold k0_pay93
  exact (p19 _ l k).trans (blk4 m c t l k)

/-- The gathered weights at the columns a block takes. -/
theorem wn_lo (x1 : FVec Ideal S1024x5184 .f32) (k : Fin 1024) (n : ℕ) (h : n < 2576) : wn x1 k n = wa x1 k n := if_pos h
theorem wn_hi (x1 : FVec Ideal S1024x5184 .f32) (k : Fin 1024) (n j : ℕ) (h : 2688 ≤ n) (e : j = n + 912) : wn x1 k n = wa x1 k j := by
  subst e
  unfold wn
  rw [if_neg (by omega), if_neg (by omega), if_neg (by omega)]
theorem wt_lo (x1 : FVec Ideal S1024x5184 .f32) (k : Fin 1024) (n j : ℕ) (h : n < 1024) (e : j = 2576 + n) : wt x1 k n = wa x1 k j := by
  subst e
  exact if_pos h
theorem wt_hi (x1 : FVec Ideal S1024x5184 .f32) (k : Fin 1024) (n j : ℕ) (h : 1024 ≤ n) (e : j = 3088 + n) : wt x1 k n = wa x1 k j := by
  subst e
  exact if_neg (by omega)

/-- What the body leaves in each output window's buffer, as one function of the index. -/
theorem at5 (c : Dev nD) (t : Fin cfg0.N) (y : (⟨3, ![1, 256, 1024]⟩ : Shape).Idx) :
    out0_5 (F := Ideal) (iblk m c 0 t) (iblk m c 1 t) (iblk m c 2 t) (iblk m c 3 t) (iblk m c 4 t) y
      = pj (a0 m c) (a1 m c) (t.val / 16) (t.val % 16 * 256 + (y 1).val) (y 2).val := by
  unfold out0_5
  refine View.canon_apply_of_pieces (Val := Elt Ideal) (fun y => pj (a0 m c) (a1 m c) (t.val / 16) (t.val % 16 * 256 + (y 1).val) (y 2).val) _ ?_ y (cover0_5 _ _ _ _ y)
  intro pc hpc
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay7 (F := Ideal) _ _ (ix3 u r l) = pj (a0 m c) (a1 m c) (t.val / 16) (t.val % 16 * 256 + (0 + 1 * r.val)) (768 + 1 * l.val)
    rw [show t.val % 16 * 256 + (0 + 1 * r.val) = t.val % 16 * 256 + r.val by omega, show (768 + 1 * l.val) = 768 + l.val by omega]
    exact p7 (a0 m c) (a1 m c) _ _ _ _ u r l _ (blk0 m c t r) (fun k => (blk1 m c t 768 256 _ k l).trans (wn_lo _ _ _ (by omega)))
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay6 (F := Ideal) _ _ (ix3 u r l) = pj (a0 m c) (a1 m c) (t.val / 16) (t.val % 16 * 256 + (0 + 1 * r.val)) (512 + 1 * l.val)
    rw [show t.val % 16 * 256 + (0 + 1 * r.val) = t.val % 16 * 256 + r.val by omega, show (512 + 1 * l.val) = 512 + l.val by omega]
    exact p6 (a0 m c) (a1 m c) _ _ _ _ u r l _ (blk0 m c t r) (fun k => (blk1 m c t 512 256 _ k l).trans (wn_lo _ _ _ (by omega)))
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay5 (F := Ideal) _ _ (ix3 u r l) = pj (a0 m c) (a1 m c) (t.val / 16) (t.val % 16 * 256 + (0 + 1 * r.val)) (256 + 1 * l.val)
    rw [show t.val % 16 * 256 + (0 + 1 * r.val) = t.val % 16 * 256 + r.val by omega, show (256 + 1 * l.val) = 256 + l.val by omega]
    exact p5 (a0 m c) (a1 m c) _ _ _ _ u r l _ (blk0 m c t r) (fun k => (blk1 m c t 256 256 _ k l).trans (wn_lo _ _ _ (by omega)))
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay4 (F := Ideal) _ _ (ix3 u r l) = pj (a0 m c) (a1 m c) (t.val / 16) (t.val % 16 * 256 + (0 + 1 * r.val)) (0 + 1 * l.val)
    rw [show t.val % 16 * 256 + (0 + 1 * r.val) = t.val % 16 * 256 + r.val by omega, show (0 + 1 * l.val) = 0 + l.val by omega]
    exact p4 (a0 m c) (a1 m c) _ _ _ _ u r l _ (blk0 m c t r) (fun k => (blk1 m c t 0 256 _ k l).trans (wn_lo _ _ _ (by omega)))
  nomatch hpc
theorem at6 (c : Dev nD) (t : Fin cfg0.N) (y : (⟨3, ![1, 256, 1536]⟩ : Shape).Idx) :
    out0_6 (F := Ideal) (iblk m c 0 t) (iblk m c 1 t) (iblk m c 2 t) (iblk m c 3 t) (iblk m c 4 t) y
      = pj (a0 m c) (a1 m c) (t.val / 16) (t.val % 16 * 256 + (y 1).val) (1024 + (y 2).val) := by
  unfold out0_6
  refine View.canon_apply_of_pieces (Val := Elt Ideal) (fun y => pj (a0 m c) (a1 m c) (t.val / 16) (t.val % 16 * 256 + (y 1).val) (1024 + (y 2).val)) _ ?_ y (cover0_6 _ _ _ _ _ _ y)
  intro pc hpc
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay14 (F := Ideal) _ _ (ix3 u r l) = pj (a0 m c) (a1 m c) (t.val / 16) (t.val % 16 * 256 + (0 + 1 * r.val)) (1024 + (1280 + 1 * l.val))
    rw [show t.val % 16 * 256 + (0 + 1 * r.val) = t.val % 16 * 256 + r.val by omega, show 1024 + (1280 + 1 * l.val) = 2304 + l.val by omega]
    exact p14 (a0 m c) (a1 m c) _ _ _ _ u r l _ (blk91 m c t r) (fun k => (blk1 m c t 2304 256 _ k l).trans (wn_lo _ _ _ (by omega)))
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay13 (F := Ideal) (k0_pay12 _ _) (ix3 u r l) = pj (a0 m c) (a1 m c) (t.val / 16) (t.val % 16 * 256 + (0 + 1 * r.val)) (1024 + (1024 + 1 * l.val))
    rw [show t.val % 16 * 256 + (0 + 1 * r.val) = t.val % 16 * 256 + r.val by omega, show 1024 + (1024 + 1 * l.val) = 2048 + l.val by omega]
    exact p13 (a0 m c) (a1 m c) _ _ _ _ u r l _ (blk91 m c t r) (fun k => (blk1 m c t 2048 256 _ k l).trans (wn_lo _ _ _ (by omega)))
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay11 (F := Ideal) _ _ (ix3 u r l) = pj (a0 m c) (a1 m c) (t.val / 16) (t.val % 16 * 256 + (0 + 1 * r.val)) (1024 + (768 + 1 * l.val))
    rw [show t.val % 16 * 256 + (0 + 1 * r.val) = t.val % 16 * 256 + r.val by omega, show 1024 + (768 + 1 * l.val) = 1792 + l.val by omega]
    exact p11 (a0 m c) (a1 m c) _ _ _ _ u r l _ (blk91 m c t r) (fun k => (blk1 m c t 1792 256 _ k l).trans (wn_lo _ _ _ (by omega)))
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay10 (F := Ideal) _ _ (ix3 u r l) = pj (a0 m c) (a1 m c) (t.val / 16) (t.val % 16 * 256 + (0 + 1 * r.val)) (1024 + (512 + 1 * l.val))
    rw [show t.val % 16 * 256 + (0 + 1 * r.val) = t.val % 16 * 256 + r.val by omega, show 1024 + (512 + 1 * l.val) = 1536 + l.val by omega]
    exact p10 (a0 m c) (a1 m c) _ _ _ _ u r l _ (blk91 m c t r) (fun k => (blk1 m c t 1536 256 _ k l).trans (wn_lo _ _ _ (by omega)))
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay9 (F := Ideal) _ _ (ix3 u r l) = pj (a0 m c) (a1 m c) (t.val / 16) (t.val % 16 * 256 + (0 + 1 * r.val)) (1024 + (256 + 1 * l.val))
    rw [show t.val % 16 * 256 + (0 + 1 * r.val) = t.val % 16 * 256 + r.val by omega, show 1024 + (256 + 1 * l.val) = 1280 + l.val by omega]
    exact p9 (a0 m c) (a1 m c) _ _ _ _ u r l _ (blk91 m c t r) (fun k => (blk1 m c t 1280 256 _ k l).trans (wn_lo _ _ _ (by omega)))
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay8 (F := Ideal) _ _ (ix3 u r l) = pj (a0 m c) (a1 m c) (t.val / 16) (t.val % 16 * 256 + (0 + 1 * r.val)) (1024 + (0 + 1 * l.val))
    rw [show t.val % 16 * 256 + (0 + 1 * r.val) = t.val % 16 * 256 + r.val by omega, show 1024 + (0 + 1 * l.val) = 1024 + l.val by omega]
    exact p8 (a0 m c) (a1 m c) _ _ _ _ u r l _ (blk91 m c t r) (fun k => (blk1 m c t 1024 256 _ k l).trans (wn_lo _ _ _ (by omega)))
  nomatch hpc
theorem at8 (c : Dev nD) (t : Fin cfg0.N) (y : (⟨3, ![1, 256, 512]⟩ : Shape).Idx) :
    out0_8 (F := Ideal) (iblk m c 0 t) (iblk m c 1 t) (iblk m c 2 t) (iblk m c 3 t) (iblk m c 4 t) y
      = pj (a0 m c) (a1 m c) (t.val / 16) (t.val % 16 * 256 + (y 1).val) (3600 + (y 2).val) := by
  unfold out0_8
  refine View.canon_apply_of_pieces (Val := Elt Ideal) (fun y => pj (a0 m c) (a1 m c) (t.val / 16) (t.val % 16 * 256 + (y 1).val) (3600 + (y 2).val)) _ ?_ y (cover0_8 _ _ y)
  intro pc hpc
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay17 (F := Ideal) _ _ (ix3 u r l) = pj (a0 m c) (a1 m c) (t.val / 16) (t.val % 16 * 256 + (0 + 1 * r.val)) (3600 + (256 + 1 * l.val))
    rw [show t.val % 16 * 256 + (0 + 1 * r.val) = t.val % 16 * 256 + r.val by omega, show 3600 + (256 + 1 * l.val) = 3856 + l.val by omega]
    exact p17 (a0 m c) (a1 m c) _ _ _ _ u r l _ (blk91 m c t r) (fun k => (blk1 m c t 2944 256 _ k l).trans (wn_hi _ _ _ _ (by omega) (by omega)))
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay16 (F := Ideal) _ _ (ix3 u r l) = pj (a0 m c) (a1 m c) (t.val / 16) (t.val % 16 * 256 + (0 + 1 * r.val)) (3600 + (0 + 1 * l.val))
    rw [show t.val % 16 * 256 + (0 + 1 * r.val) = t.val % 16 * 256 + r.val by omega, show 3600 + (0 + 1 * l.val) = 3600 + l.val by omega]
    exact p16 (a0 m c) (a1 m c) _ _ _ _ u r l _ (blk91 m c t r) (fun k => (blk1 m c t 2688 256 _ k l).trans (wn_hi _ _ _ _ (by omega) (by omega)))
  nomatch hpc
theorem at9 (c : Dev nD) (t : Fin cfg0.N) (y : (⟨3, ![1, 1024, 256]⟩ : Shape).Idx) :
    out0_9 (F := Ideal) (iblk m c 0 t) (iblk m c 1 t) (iblk m c 2 t) (iblk m c 3 t) (iblk m c 4 t) y
      = qv (a0 m c) (a1 m c) (t.val / 16) (t.val % 16 * 256 + (y 2).val) (y 1).val := by
  unfold out0_9
  refine View.canon_apply_of_pieces (Val := Elt Ideal) (fun y => qv (a0 m c) (a1 m c) (t.val / 16) (t.val % 16 * 256 + (y 2).val) (y 1).val) _ ?_ y (cover0_9 _ _ _ _ y)
  intro pc hpc
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay71 (F := Ideal) _ _ _ _ _ _ _ (ix3 u r l) = qv (a0 m c) (a1 m c) (t.val / 16) (t.val % 16 * 256 + (0 + 1 * l.val)) (768 + 1 * r.val)
    rw [show t.val % 16 * 256 + (0 + 1 * l.val) = t.val % 16 * 256 + l.val by omega]
    refine (p71 (a0 m c) (a1 m c) (t.val / 16) (t.val % 16 * 256 + l.val) _ _ _ _ u r l 3344 (blk91 m c t l)
      (fun n k => (blk2 m c t 768 _ k n).trans (wt_lo _ _ _ _ (by omega) (by omega))) (blk92 m c t l) (blk93 m c t l)).trans ?_
    unfold qv; refine congrArg (· * qs) ?_
    exact rope_shift (pj (a0 m c) (a1 m c) (t.val / 16) (t.val % 16 * 256 + l.val)) _ _ 768 (by omega) 2576 _ (by omega)
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay63 (F := Ideal) _ _ _ _ _ _ _ _ (ix3 u r l) = qv (a0 m c) (a1 m c) (t.val / 16) (t.val % 16 * 256 + (0 + 1 * l.val)) (512 + 1 * r.val)
    rw [show t.val % 16 * 256 + (0 + 1 * l.val) = t.val % 16 * 256 + l.val by omega]
    refine (p63 (a0 m c) (a1 m c) (t.val / 16) (t.val % 16 * 256 + l.val) _ _ _ _ u r l 3088 (blk91 m c t l)
      (fun n k => (blk2 m c t 512 _ k n).trans (wt_lo _ _ _ _ (by omega) (by omega))) (blk92 m c t l) (blk93 m c t l)).trans ?_
    unfold qv; refine congrArg (· * qs) ?_
    exact rope_shift (pj (a0 m c) (a1 m c) (t.val / 16) (t.val % 16 * 256 + l.val)) _ _ 512 (by omega) 2576 _ (by omega)
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay52 (F := Ideal) _ _ _ _ _ _ _ _ _ _ (ix3 u r l) = qv (a0 m c) (a1 m c) (t.val / 16) (t.val % 16 * 256 + (0 + 1 * l.val)) (256 + 1 * r.val)
    rw [show t.val % 16 * 256 + (0 + 1 * l.val) = t.val % 16 * 256 + l.val by omega]
    refine (p52 (a0 m c) (a1 m c) (t.val / 16) (t.val % 16 * 256 + l.val) _ _ _ _ u r l 2832 (blk91 m c t l)
      (fun n k => (blk2 m c t 256 _ k n).trans (wt_lo _ _ _ _ (by omega) (by omega))) (blk92 m c t l) (blk93 m c t l)).trans ?_
    unfold qv; refine congrArg (· * qs) ?_
    exact rope_shift (pj (a0 m c) (a1 m c) (t.val / 16) (t.val % 16 * 256 + l.val)) _ _ 256 (by omega) 2576 _ (by omega)
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay37 (F := Ideal) _ _ _ _ _ _ _ _ _ _ _ _ (ix3 u r l) = qv (a0 m c) (a1 m c) (t.val / 16) (t.val % 16 * 256 + (0 + 1 * l.val)) (0 + 1 * r.val)
    rw [show t.val % 16 * 256 + (0 + 1 * l.val) = t.val % 16 * 256 + l.val by omega]
    refine (p37 (a0 m c) (a1 m c) (t.val / 16) (t.val % 16 * 256 + l.val) _ _ _ _ _ _ u r l 2576 (blk91 m c t l)
      (fun n k => (blk2 m c t 0 _ k n).trans (wt_lo _ _ _ _ (by omega) (by omega))) (blk92 m c t l) (blk93 m c t l) (blk3 m c t l) (blk4 m c t l)).trans ?_
    unfold qv; refine congrArg (· * qs) ?_
    exact rope_shift (pj (a0 m c) (a1 m c) (t.val / 16) (t.val % 16 * 256 + l.val)) _ _ 0 (by omega) 2576 _ (by omega)
  nomatch hpc
theorem at10 (c : Dev nD) (t : Fin cfg0.N) (y : (⟨3, ![1, 1024, 256]⟩ : Shape).Idx) :
    out0_10 (F := Ideal) (iblk m c 0 t) (iblk m c 1 t) (iblk m c 2 t) (iblk m c 3 t) (iblk m c 4 t) y
      = (if (y 1).val < 256 ∨ (512 ≤ (y 1).val ∧ (y 1).val < 768) then rope (fun n => pj (a0 m c) (a1 m c) (t.val / 16) (t.val % 16 * 256 + (y 2).val) (4112 + n)) (t.val % 16 * 256 + (y 2).val) (y 1).val else pj (a0 m c) (a1 m c) (t.val / 16) (t.val % 16 * 256 + (y 2).val) (4112 + (y 1).val)) := by
  unfold out0_10
  refine View.canon_apply_of_pieces (Val := Elt Ideal) (fun y => (if (y 1).val < 256 ∨ (512 ≤ (y 1).val ∧ (y 1).val < 768) then rope (fun n => pj (a0 m c) (a1 m c) (t.val / 16) (t.val % 16 * 256 + (y 2).val) (4112 + n)) (t.val % 16 * 256 + (y 2).val) (y 1).val else pj (a0 m c) (a1 m c) (t.val / 16) (t.val % 16 * 256 + (y 2).val) (4112 + (y 1).val))) _ ?_ y (cover0_10 _ _ _ _ y)
  intro pc hpc
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay2 (F := Ideal) _ _ (ix3 u r l) = (if (768 + 1 * r.val) < 256 ∨ (512 ≤ (768 + 1 * r.val) ∧ (768 + 1 * r.val) < 768) then rope (fun n => pj (a0 m c) (a1 m c) (t.val / 16) (t.val % 16 * 256 + (0 + 1 * l.val)) (4112 + n)) (t.val % 16 * 256 + (0 + 1 * l.val)) (768 + 1 * r.val) else pj (a0 m c) (a1 m c) (t.val / 16) (t.val % 16 * 256 + (0 + 1 * l.val)) (4112 + (768 + 1 * r.val)))
    rw [show t.val % 16 * 256 + (0 + 1 * l.val) = t.val % 16 * 256 + l.val by omega]
    rw [if_neg (by omega)]
    exact p2 (a0 m c) (a1 m c) _ _ _ _ u r l _ (blk91 m c t l) (fun k => (blk2 m c t 1792 _ k r).trans (wt_hi _ _ _ _ (by omega) (by omega)))
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay1 (F := Ideal) _ _ _ _ _ _ _ _ _ _ (ix3 u r l) = (if (512 + 1 * r.val) < 256 ∨ (512 ≤ (512 + 1 * r.val) ∧ (512 + 1 * r.val) < 768) then rope (fun n => pj (a0 m c) (a1 m c) (t.val / 16) (t.val % 16 * 256 + (0 + 1 * l.val)) (4112 + n)) (t.val % 16 * 256 + (0 + 1 * l.val)) (512 + 1 * r.val) else pj (a0 m c) (a1 m c) (t.val / 16) (t.val % 16 * 256 + (0 + 1 * l.val)) (4112 + (512 + 1 * r.val)))
    rw [show t.val % 16 * 256 + (0 + 1 * l.val) = t.val % 16 * 256 + l.val by omega]
    rw [if_pos (by omega)]
    refine (p1 (a0 m c) (a1 m c) (t.val / 16) (t.val % 16 * 256 + l.val) _ _ _ _ u r l 4624 (blk91 m c t l)
      (fun n k => (blk2 m c t 1536 _ k n).trans (wt_hi _ _ _ _ (by omega) (by omega))) (blk92 m c t l) (blk93 m c t l)).trans ?_
    skip
    exact rope_shift (pj (a0 m c) (a1 m c) (t.val / 16) (t.val % 16 * 256 + l.val)) _ _ 512 (by omega) 4112 _ (by omega)
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay77 (F := Ideal) _ _ (ix3 u r l) = (if (256 + 1 * r.val) < 256 ∨ (512 ≤ (256 + 1 * r.val) ∧ (256 + 1 * r.val) < 768) then rope (fun n => pj (a0 m c) (a1 m c) (t.val / 16) (t.val % 16 * 256 + (0 + 1 * l.val)) (4112 + n)) (t.val % 16 * 256 + (0 + 1 * l.val)) (256 + 1 * r.val) else pj (a0 m c) (a1 m c) (t.val / 16) (t.val % 16 * 256 + (0 + 1 * l.val)) (4112 + (256 + 1 * r.val)))
    rw [show t.val % 16 * 256 + (0 + 1 * l.val) = t.val % 16 * 256 + l.val by omega]
    rw [if_neg (by omega)]
    exact p77 (a0 m c) (a1 m c) _ _ _ _ u r l _ (blk91 m c t l) (fun k => (blk2 m c t 1280 _ k r).trans (wt_hi _ _ _ _ (by omega) (by omega)))
  rcases List.mem_cons.mp hpc with rfl | hpc
  · intro x
    obtain ⟨u, r, l, rfl⟩ : ∃ (u : Fin 1) (r : Fin 256) (l : Fin 256), x = ix3 u r l := ⟨x 0, x 1, x 2, eq_ix3 x⟩
    show k0_pay76 (F := Ideal) _ _ _ _ _ _ (ix3 u r l) = (if (0 + 1 * r.val) < 256 ∨ (512 ≤ (0 + 1 * r.val) ∧ (0 + 1 * r.val) < 768) then rope (fun n => pj (a0 m c) (a1 m c) (t.val / 16) (t.val % 16 * 256 + (0 + 1 * l.val)) (4112 + n)) (t.val % 16 * 256 + (0 + 1 * l.val)) (0 + 1 * r.val) else pj (a0 m c) (a1 m c) (t.val / 16) (t.val % 16 * 256 + (0 + 1 * l.val)) (4112 + (0 + 1 * r.val)))
    rw [show t.val % 16 * 256 + (0 + 1 * l.val) = t.val % 16 * 256 + l.val by omega]
    rw [if_pos (by omega)]
    refine (p76 (a0 m c) (a1 m c) (t.val / 16) (t.val % 16 * 256 + l.val) _ _ _ _ u r l 4112 (blk91 m c t l)
      (fun n k => (blk2 m c t 1024 _ k n).trans (wt_hi _ _ _ _ (by omega) (by omega))) (blk92 m c t l) (blk93 m c t l)).trans ?_
    skip
    exact rope_shift (pj (a0 m c) (a1 m c) (t.val / 16) (t.val % 16 * 256 + l.val)) _ _ 0 (by omega) 4112 _ (by omega)
  nomatch hpc
theorem at7 (c : Dev nD) (t : Fin cfg0.N) (y : (⟨3, ![1, 256, 128]⟩ : Shape).Idx) :
    out0_7 (F := Ideal) (iblk m c 0 t) (iblk m c 1 t) (iblk m c 2 t) (iblk m c 3 t) (iblk m c 4 t) y
      = (if (y 2).val < 16 then pj (a0 m c) (a1 m c) (t.val / 16) (t.val % 16 * 256 + (y 1).val) (2560 + (y 2).val) else if (y 2).val - 16 < 48 then pj (a0 m c) (a1 m c) (t.val / 16) (t.val % 16 * 256 + (y 1).val) (5136 + ((y 2).val - 16)) else 0) := by
  unfold out0_7
  refine View.canon_apply_of_pieces (Val := Elt Ideal) (fun y => (if (y 2).val < 16 then pj (a0 m c) (a1 m c) (t.val / 16) (t.val % 16 * 256 + (y 1).val) (2560 + (y 2).val) else if (y 2).val - 16 < 48 then pj (a0 m c) (a1 m c) (t.val / 16) (t.val % 16 * 256 + (y 1).val) (5136 + ((y 2).val - 16)) else 0)) _ ?_ y (cover0_7 _ y)
  intro pc hpc
  rcases List.mem_cons.mp hpc with rfl | hpc
  · intro x
    obtain ⟨u, r, l, rfl⟩ : ∃ (u : Fin 1) (r : Fin 256) (l : Fin 128), x = ix3 u r l := ⟨x 0, x 1, x 2, eq_ix3 x⟩
    show k0_pay15 (F := Ideal) _ _ (ix3 u r l) = (if (0 + 1 * l.val) < 16 then pj (a0 m c) (a1 m c) (t.val / 16) (t.val % 16 * 256 + (0 + 1 * r.val)) (2560 + (0 + 1 * l.val)) else if (0 + 1 * l.val) - 16 < 48 then pj (a0 m c) (a1 m c) (t.val / 16) (t.val % 16 * 256 + (0 + 1 * r.val)) (5136 + ((0 + 1 * l.val) - 16)) else 0)
    simp only [Nat.zero_add, Nat.one_mul]
    rw [p15]
    simp only [blk91 m c t]
    have hw : ∀ k, View.ld (iblk m c 1 t) r0_21 (ix2 k l) = wn (a1 m c) k (2560 + l.val) := fun k => blk1 m c t 2560 128 _ k l
    simp only [hw]
    split_ifs with h1 h2
    · exact Finset.sum_congr rfl fun k _ => congrArg (_ * ·) (wn_lo _ _ _ (by omega))
    · refine Finset.sum_congr rfl fun k _ => congrArg (_ * ·) ?_
      unfold wn
      rw [if_neg (by omega), if_pos (by omega)]
      exact congrArg _ (by omega)
    · refine Finset.sum_eq_zero fun k _ => ?_
      unfold wn
      rw [if_neg (by omega), if_neg (by omega), if_pos (by omega), mul_zero]
  nomatch hpc

section Results
variable (c : Dev nD)

/-- The six result arrays: the reference's functions of the kernel's arguments. -/
abbrev G5 : FVec Ideal S4x4096x1024 .f32 := Cert.Reference2Ideal.Read.val_main_v1 (F := Ideal) (a0 m c) (a1 m c)
abbrev G6 : FVec Ideal S4x4096x1536 .f32 := Cert.Reference2Ideal.Read.val_main_v2 (F := Ideal) (a0 m c) (a1 m c)
abbrev G7 : FVec Ideal S4x4096x128 .f32 := Cert.Reference2Ideal.Read.val_main_v97 (F := Ideal) (a0 m c) (a1 m c)
abbrev G8 : FVec Ideal S4x4096x512 .f32 := Cert.Reference2Ideal.Read.val_main_v98 (F := Ideal) (a0 m c) (a1 m c)
abbrev G9 : FVec Ideal S4x1024x4096 .bf16 := Cert.Reference2Ideal.Read.val_main_v103 (F := Ideal) (a0 m c) (a1 m c)
abbrev G10 : FVec Ideal S4x1024x4096 .bf16 := Cert.Reference2Ideal.Read.val_main_v104 (F := Ideal) (a0 m c) (a1 m c)
/-- What point `t` writes back of result 0 is block `t` of the array. -/
theorem flushed_eq5 (t : Fin cfg0.N) : (dats m 0 c).flushed 5 t = ((cfg0.win 5).blk t).view.read (Elt Ideal) (G5 m c) := by
  rw [Value.flushed5]
  funext y
  obtain ⟨u, r, l, rfl⟩ : ∃ (u : Fin 1) (r : Fin 256) (l : Fin 1024), y = ix3 u r l := ⟨y 0, y 1, y 2, eq_ix3 y⟩
  have ht : t.val < 64 := lt_of_lt_of_eq t.isLt N_0
  have hb : t.val / 16 < 4 := by omega
  have hq : t.val % 16 * 256 + r.val < 4096 := by omega
  show out0_5 (F := Ideal) _ _ _ _ _ (ix3 u r l) = G5 m c (((cfg0.win 5).blk t).view.emb (ix3 u r l))
  have e : ((cfg0.win 5).blk t).view.emb (ix3 u r l) = ix3 (⟨t.val / 16, hb⟩ : Fin 4) (⟨t.val % 16 * 256 + r.val, hq⟩ : Fin 4096) l := by
    obtain ⟨h0, h1, h2⟩ := idx5 t
    refine funext fun a => Fin.ext ?_
    match a with
    | ⟨0, _⟩ => show win0_5.index t (0 : Fin 3) * 1 + 1 * u.val = t.val / 16; omega
    | ⟨1, _⟩ => show win0_5.index t (1 : Fin 3) * 256 + 1 * r.val = t.val % 16 * 256 + r.val; omega
    | ⟨2, _⟩ => show win0_5.index t (2 : Fin 3) * 1024 + 1 * l.val = l.val; omega
  rw [e]
  exact (at5 m c t (ix3 u r l)).trans (ref5 (a0 m c) (a1 m c) ⟨t.val / 16, hb⟩ ⟨t.val % 16 * 256 + r.val, hq⟩ l).symm

theorem cover5 (i : S4x4096x1024.Idx) : ∃ t : Fin cfg0.N, (cfg0.win 5).flush t = true ∧ i ∈ ((cfg0.win 5).blk t).view.set := by
  obtain ⟨b, q, l, rfl⟩ : ∃ (b : Fin 4) (q : Fin 4096) (l : Fin 1024), i = ix3 b q l := ⟨i 0, i 1, i 2, eq_ix3 i⟩
  have hN : cfg0.N = 64 := N_0
  refine ⟨⟨16 * b.val + q.val / 256, by omega⟩, flush0_5 _, ?_⟩
  generalize ht : (⟨16 * b.val + q.val / 256, by omega⟩ : Fin cfg0.N) = t
  have htv : t.val = 16 * b.val + q.val / 256 := by rw [← ht]
  obtain ⟨h0, h1, h2⟩ := idx5 t
  show ix3 b q l ∈ ((View.whole main_v31_0).slice (win0_5.rect t)).set
  rw [View.set_slice_whole, Rect.mem_set_unit]
  intro a
  match a with
  | ⟨0, _⟩ => show win0_5.index t (0 : Fin 3) * 1 ≤ b.val ∧ b.val < win0_5.index t (0 : Fin 3) * 1 + 1; omega
  | ⟨1, _⟩ => show win0_5.index t (1 : Fin 3) * 256 ≤ q.val ∧ q.val < win0_5.index t (1 : Fin 3) * 256 + 256; omega
  | ⟨2, _⟩ => show win0_5.index t (2 : Fin 3) * 1024 ≤ l.val ∧ l.val < win0_5.index t (2 : Fin 3) * 1024 + 1024; omega

theorem final5 : (dats m 0 c).arrAt 5 cfg0.N = G5 m c :=
  (dats m 0 c).arrAt_eq_of_cover 5 (G5 m c) (fun t _ => flushed_eq5 m c t) cover5

/-- What point `t` writes back of result 1 is block `t` of the array. -/
theorem flushed_eq6 (t : Fin cfg0.N) : (dats m 0 c).flushed 6 t = ((cfg0.win 6).blk t).view.read (Elt Ideal) (G6 m c) := by
  rw [Value.flushed6]
  funext y
  obtain ⟨u, r, l, rfl⟩ : ∃ (u : Fin 1) (r : Fin 256) (l : Fin 1536), y = ix3 u r l := ⟨y 0, y 1, y 2, eq_ix3 y⟩
  have ht : t.val < 64 := lt_of_lt_of_eq t.isLt N_0
  have hb : t.val / 16 < 4 := by omega
  have hq : t.val % 16 * 256 + r.val < 4096 := by omega
  show out0_6 (F := Ideal) _ _ _ _ _ (ix3 u r l) = G6 m c (((cfg0.win 6).blk t).view.emb (ix3 u r l))
  have e : ((cfg0.win 6).blk t).view.emb (ix3 u r l) = ix3 (⟨t.val / 16, hb⟩ : Fin 4) (⟨t.val % 16 * 256 + r.val, hq⟩ : Fin 4096) l := by
    obtain ⟨h0, h1, h2⟩ := idx6 t
    refine funext fun a => Fin.ext ?_
    match a with
    | ⟨0, _⟩ => show win0_6.index t (0 : Fin 3) * 1 + 1 * u.val = t.val / 16; omega
    | ⟨1, _⟩ => show win0_6.index t (1 : Fin 3) * 256 + 1 * r.val = t.val % 16 * 256 + r.val; omega
    | ⟨2, _⟩ => show win0_6.index t (2 : Fin 3) * 1536 + 1 * l.val = l.val; omega
  rw [e]
  exact (at6 m c t (ix3 u r l)).trans (ref6 (a0 m c) (a1 m c) ⟨t.val / 16, hb⟩ ⟨t.val % 16 * 256 + r.val, hq⟩ l).symm

theorem cover6 (i : S4x4096x1536.Idx) : ∃ t : Fin cfg0.N, (cfg0.win 6).flush t = true ∧ i ∈ ((cfg0.win 6).blk t).view.set := by
  obtain ⟨b, q, l, rfl⟩ : ∃ (b : Fin 4) (q : Fin 4096) (l : Fin 1536), i = ix3 b q l := ⟨i 0, i 1, i 2, eq_ix3 i⟩
  have hN : cfg0.N = 64 := N_0
  refine ⟨⟨16 * b.val + q.val / 256, by omega⟩, flush0_6 _, ?_⟩
  generalize ht : (⟨16 * b.val + q.val / 256, by omega⟩ : Fin cfg0.N) = t
  have htv : t.val = 16 * b.val + q.val / 256 := by rw [← ht]
  obtain ⟨h0, h1, h2⟩ := idx6 t
  show ix3 b q l ∈ ((View.whole main_v31_1).slice (win0_6.rect t)).set
  rw [View.set_slice_whole, Rect.mem_set_unit]
  intro a
  match a with
  | ⟨0, _⟩ => show win0_6.index t (0 : Fin 3) * 1 ≤ b.val ∧ b.val < win0_6.index t (0 : Fin 3) * 1 + 1; omega
  | ⟨1, _⟩ => show win0_6.index t (1 : Fin 3) * 256 ≤ q.val ∧ q.val < win0_6.index t (1 : Fin 3) * 256 + 256; omega
  | ⟨2, _⟩ => show win0_6.index t (2 : Fin 3) * 1536 ≤ l.val ∧ l.val < win0_6.index t (2 : Fin 3) * 1536 + 1536; omega

theorem final6 : (dats m 0 c).arrAt 6 cfg0.N = G6 m c :=
  (dats m 0 c).arrAt_eq_of_cover 6 (G6 m c) (fun t _ => flushed_eq6 m c t) cover6

/-- What point `t` writes back of result 2 is block `t` of the array. -/
theorem flushed_eq7 (t : Fin cfg0.N) : (dats m 0 c).flushed 7 t = ((cfg0.win 7).blk t).view.read (Elt Ideal) (G7 m c) := by
  rw [Value.flushed7]
  funext y
  obtain ⟨u, r, l, rfl⟩ : ∃ (u : Fin 1) (r : Fin 256) (l : Fin 128), y = ix3 u r l := ⟨y 0, y 1, y 2, eq_ix3 y⟩
  have ht : t.val < 64 := lt_of_lt_of_eq t.isLt N_0
  have hb : t.val / 16 < 4 := by omega
  have hq : t.val % 16 * 256 + r.val < 4096 := by omega
  show out0_7 (F := Ideal) _ _ _ _ _ (ix3 u r l) = G7 m c (((cfg0.win 7).blk t).view.emb (ix3 u r l))
  have e : ((cfg0.win 7).blk t).view.emb (ix3 u r l) = ix3 (⟨t.val / 16, hb⟩ : Fin 4) (⟨t.val % 16 * 256 + r.val, hq⟩ : Fin 4096) l := by
    obtain ⟨h0, h1, h2⟩ := idx7 t
    refine funext fun a => Fin.ext ?_
    match a with
    | ⟨0, _⟩ => show win0_7.index t (0 : Fin 3) * 1 + 1 * u.val = t.val / 16; omega
    | ⟨1, _⟩ => show win0_7.index t (1 : Fin 3) * 256 + 1 * r.val = t.val % 16 * 256 + r.val; omega
    | ⟨2, _⟩ => show win0_7.index t (2 : Fin 3) * 128 + 1 * l.val = l.val; omega
  rw [e]
  exact (at7 m c t (ix3 u r l)).trans (ref7 (a0 m c) (a1 m c) ⟨t.val / 16, hb⟩ ⟨t.val % 16 * 256 + r.val, hq⟩ l).symm

theorem cover7 (i : S4x4096x128.Idx) : ∃ t : Fin cfg0.N, (cfg0.win 7).flush t = true ∧ i ∈ ((cfg0.win 7).blk t).view.set := by
  obtain ⟨b, q, l, rfl⟩ : ∃ (b : Fin 4) (q : Fin 4096) (l : Fin 128), i = ix3 b q l := ⟨i 0, i 1, i 2, eq_ix3 i⟩
  have hN : cfg0.N = 64 := N_0
  refine ⟨⟨16 * b.val + q.val / 256, by omega⟩, flush0_7 _, ?_⟩
  generalize ht : (⟨16 * b.val + q.val / 256, by omega⟩ : Fin cfg0.N) = t
  have htv : t.val = 16 * b.val + q.val / 256 := by rw [← ht]
  obtain ⟨h0, h1, h2⟩ := idx7 t
  show ix3 b q l ∈ ((View.whole main_v31_2).slice (win0_7.rect t)).set
  rw [View.set_slice_whole, Rect.mem_set_unit]
  intro a
  match a with
  | ⟨0, _⟩ => show win0_7.index t (0 : Fin 3) * 1 ≤ b.val ∧ b.val < win0_7.index t (0 : Fin 3) * 1 + 1; omega
  | ⟨1, _⟩ => show win0_7.index t (1 : Fin 3) * 256 ≤ q.val ∧ q.val < win0_7.index t (1 : Fin 3) * 256 + 256; omega
  | ⟨2, _⟩ => show win0_7.index t (2 : Fin 3) * 128 ≤ l.val ∧ l.val < win0_7.index t (2 : Fin 3) * 128 + 128; omega

theorem final7 : (dats m 0 c).arrAt 7 cfg0.N = G7 m c :=
  (dats m 0 c).arrAt_eq_of_cover 7 (G7 m c) (fun t _ => flushed_eq7 m c t) cover7

/-- What point `t` writes back of result 3 is block `t` of the array. -/
theorem flushed_eq8 (t : Fin cfg0.N) : (dats m 0 c).flushed 8 t = ((cfg0.win 8).blk t).view.read (Elt Ideal) (G8 m c) := by
  rw [Value.flushed8]
  funext y
  obtain ⟨u, r, l, rfl⟩ : ∃ (u : Fin 1) (r : Fin 256) (l : Fin 512), y = ix3 u r l := ⟨y 0, y 1, y 2, eq_ix3 y⟩
  have ht : t.val < 64 := lt_of_lt_of_eq t.isLt N_0
  have hb : t.val / 16 < 4 := by omega
  have hq : t.val % 16 * 256 + r.val < 4096 := by omega
  show out0_8 (F := Ideal) _ _ _ _ _ (ix3 u r l) = G8 m c (((cfg0.win 8).blk t).view.emb (ix3 u r l))
  have e : ((cfg0.win 8).blk t).view.emb (ix3 u r l) = ix3 (⟨t.val / 16, hb⟩ : Fin 4) (⟨t.val % 16 * 256 + r.val, hq⟩ : Fin 4096) l := by
    obtain ⟨h0, h1, h2⟩ := idx8 t
    refine funext fun a => Fin.ext ?_
    match a with
    | ⟨0, _⟩ => show win0_8.index t (0 : Fin 3) * 1 + 1 * u.val = t.val / 16; omega
    | ⟨1, _⟩ => show win0_8.index t (1 : Fin 3) * 256 + 1 * r.val = t.val % 16 * 256 + r.val; omega
    | ⟨2, _⟩ => show win0_8.index t (2 : Fin 3) * 512 + 1 * l.val = l.val; omega
  rw [e]
  exact (at8 m c t (ix3 u r l)).trans (ref8 (a0 m c) (a1 m c) ⟨t.val / 16, hb⟩ ⟨t.val % 16 * 256 + r.val, hq⟩ l).symm

theorem cover8 (i : S4x4096x512.Idx) : ∃ t : Fin cfg0.N, (cfg0.win 8).flush t = true ∧ i ∈ ((cfg0.win 8).blk t).view.set := by
  obtain ⟨b, q, l, rfl⟩ : ∃ (b : Fin 4) (q : Fin 4096) (l : Fin 512), i = ix3 b q l := ⟨i 0, i 1, i 2, eq_ix3 i⟩
  have hN : cfg0.N = 64 := N_0
  refine ⟨⟨16 * b.val + q.val / 256, by omega⟩, flush0_8 _, ?_⟩
  generalize ht : (⟨16 * b.val + q.val / 256, by omega⟩ : Fin cfg0.N) = t
  have htv : t.val = 16 * b.val + q.val / 256 := by rw [← ht]
  obtain ⟨h0, h1, h2⟩ := idx8 t
  show ix3 b q l ∈ ((View.whole main_v31_3).slice (win0_8.rect t)).set
  rw [View.set_slice_whole, Rect.mem_set_unit]
  intro a
  match a with
  | ⟨0, _⟩ => show win0_8.index t (0 : Fin 3) * 1 ≤ b.val ∧ b.val < win0_8.index t (0 : Fin 3) * 1 + 1; omega
  | ⟨1, _⟩ => show win0_8.index t (1 : Fin 3) * 256 ≤ q.val ∧ q.val < win0_8.index t (1 : Fin 3) * 256 + 256; omega
  | ⟨2, _⟩ => show win0_8.index t (2 : Fin 3) * 512 ≤ l.val ∧ l.val < win0_8.index t (2 : Fin 3) * 512 + 512; omega

theorem final8 : (dats m 0 c).arrAt 8 cfg0.N = G8 m c :=
  (dats m 0 c).arrAt_eq_of_cover 8 (G8 m c) (fun t _ => flushed_eq8 m c t) cover8

end Results

end Cert.Proof.InProj

end
-- ==== Proof.InProj.lean ====
/-
  The last two results of the input projection (the queries; the keys and values), and the claim.
-/
module

public import proofs.«01_k».proof.Defs
public import proofs.«01_k».proof.Proof.InProjA
public import proofs.«01_k».proof.Proof.Gen.Kernel2Ideal.Value
public import proofs.«01_k».proof.Proof.Gen.Reference2Ideal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.InProj

open Cert.Kernel2Ideal Cert.Kernel2Ideal.Gen

section Results

variable (m : (ℓ : Loc nD τ sig) → Buf (Elt Ideal) ℓ)
variable (c : Dev nD)

/-- What point `t` writes back of result 4 is block `t` of the array. -/
theorem flushed_eq9 (t : Fin cfg0.N) : (dats m 0 c).flushed 9 t = ((cfg0.win 9).blk t).view.read (Elt Ideal) (G9 m c) := by
  rw [Value.flushed9]
  funext y
  obtain ⟨u, r, l, rfl⟩ : ∃ (u : Fin 1) (r : Fin 1024) (l : Fin 256), y = ix3 u r l := ⟨y 0, y 1, y 2, eq_ix3 y⟩
  have ht : t.val < 64 := lt_of_lt_of_eq t.isLt N_0
  have hb : t.val / 16 < 4 := by omega
  have hq : t.val % 16 * 256 + l.val < 4096 := by omega
  have hc : ∀ (X : Vec Ideal S1x1024x256 .bf16) (y : S1x1024x256.Idx), (cfg0.win 9).cut (grid0.coords t) X y = X y := fun _ _ => rfl
  have hr : ∀ (G : Vec Ideal S4x1024x4096 .bf16) (y : S1x1024x256.Idx),
      ((cfg0.win 9).blk t).view.read (Elt Ideal) G y = G (((cfg0.win 9).blk t).view.emb y) := fun _ _ => rfl
  refine (hc _ _).trans (Eq.trans ?_ (hr _ _).symm)
  have e : ((cfg0.win 9).blk t).view.emb (ix3 u r l) = ix3 (⟨t.val / 16, hb⟩ : Fin 4) r (⟨t.val % 16 * 256 + l.val, hq⟩ : Fin 4096) := by
    obtain ⟨h0, h1, h2⟩ := idx9 t
    refine funext fun a => Fin.ext ?_
    match a with
    | ⟨0, _⟩ => show win0_9.index t (0 : Fin 3) * 1 + 1 * u.val = t.val / 16; omega
    | ⟨1, _⟩ => show win0_9.index t (1 : Fin 3) * 1024 + 1 * r.val = r.val; omega
    | ⟨2, _⟩ => show win0_9.index t (2 : Fin 3) * 256 + 1 * l.val = t.val % 16 * 256 + l.val; omega
  rw [e]
  have h := at9 m c t (ix3 u r l)
  have h' := ref9 (a0 m c) (a1 m c) ⟨t.val / 16, hb⟩ ⟨t.val % 16 * 256 + l.val, hq⟩ r
  rw [show (ix3 u r l : S1x1024x256.Idx) 2 = l from rfl, show (ix3 u r l : S1x1024x256.Idx) 1 = r from rfl] at h
  dsimp only at h'
  rw [G9, h', ← h]

theorem cover9 (i : S4x1024x4096.Idx) : ∃ t : Fin cfg0.N, (cfg0.win 9).flush t = true ∧ i ∈ ((cfg0.win 9).blk t).view.set := by
  obtain ⟨b, q, l, rfl⟩ : ∃ (b : Fin 4) (q : Fin 1024) (l : Fin 4096), i = ix3 b q l := ⟨i 0, i 1, i 2, eq_ix3 i⟩
  have hN : cfg0.N = 64 := N_0
  refine ⟨⟨16 * b.val + l.val / 256, by omega⟩, flush0_9 _, ?_⟩
  generalize ht : (⟨16 * b.val + l.val / 256, by omega⟩ : Fin cfg0.N) = t
  have htv : t.val = 16 * b.val + l.val / 256 := by rw [← ht]
  obtain ⟨h0, h1, h2⟩ := idx9 t
  show ix3 b q l ∈ ((View.whole main_v31_4).slice (win0_9.rect t)).set
  rw [View.set_slice_whole, Rect.mem_set_unit]
  intro a
  match a with
  | ⟨0, _⟩ => show win0_9.index t (0 : Fin 3) * 1 ≤ b.val ∧ b.val < win0_9.index t (0 : Fin 3) * 1 + 1; omega
  | ⟨1, _⟩ => show win0_9.index t (1 : Fin 3) * 1024 ≤ q.val ∧ q.val < win0_9.index t (1 : Fin 3) * 1024 + 1024; omega
  | ⟨2, _⟩ => show win0_9.index t (2 : Fin 3) * 256 ≤ l.val ∧ l.val < win0_9.index t (2 : Fin 3) * 256 + 256; omega

theorem final9 : (dats m 0 c).arrAt 9 cfg0.N = G9 m c :=
  (dats m 0 c).arrAt_eq_of_cover 9 (G9 m c) (fun t _ => flushed_eq9 m c t) cover9

/-- What point `t` writes back of result 5 is block `t` of the array. -/
theorem flushed_eq10 (t : Fin cfg0.N) : (dats m 0 c).flushed 10 t = ((cfg0.win 10).blk t).view.read (Elt Ideal) (G10 m c) := by
  rw [Value.flushed10]
  funext y
  obtain ⟨u, r, l, rfl⟩ : ∃ (u : Fin 1) (r : Fin 1024) (l : Fin 256), y = ix3 u r l := ⟨y 0, y 1, y 2, eq_ix3 y⟩
  have ht : t.val < 64 := lt_of_lt_of_eq t.isLt N_0
  have hb : t.val / 16 < 4 := by omega
  have hq : t.val % 16 * 256 + l.val < 4096 := by omega
  show out0_10 (F := Ideal) _ _ _ _ _ (ix3 u r l) = G10 m c (((cfg0.win 10).blk t).view.emb (ix3 u r l))
  have e : ((cfg0.win 10).blk t).view.emb (ix3 u r l) = ix3 (⟨t.val / 16, hb⟩ : Fin 4) r (⟨t.val % 16 * 256 + l.val, hq⟩ : Fin 4096) := by
    obtain ⟨h0, h1, h2⟩ := idx10 t
    refine funext fun a => Fin.ext ?_
    match a with
    | ⟨0, _⟩ => show win0_10.index t (0 : Fin 3) * 1 + 1 * u.val = t.val / 16; omega
    | ⟨1, _⟩ => show win0_10.index t (1 : Fin 3) * 1024 + 1 * r.val = r.val; omega
    | ⟨2, _⟩ => show win0_10.index t (2 : Fin 3) * 256 + 1 * l.val = t.val % 16 * 256 + l.val; omega
  rw [e]
  exact (at10 m c t (ix3 u r l)).trans (ref10 (a0 m c) (a1 m c) ⟨t.val / 16, hb⟩ ⟨t.val % 16 * 256 + l.val, hq⟩ r).symm

theorem cover10 (i : S4x1024x4096.Idx) : ∃ t : Fin cfg0.N, (cfg0.win 10).flush t = true ∧ i ∈ ((cfg0.win 10).blk t).view.set := by
  obtain ⟨b, q, l, rfl⟩ : ∃ (b : Fin 4) (q : Fin 1024) (l : Fin 4096), i = ix3 b q l := ⟨i 0, i 1, i 2, eq_ix3 i⟩
  have hN : cfg0.N = 64 := N_0
  refine ⟨⟨16 * b.val + l.val / 256, by omega⟩, flush0_10 _, ?_⟩
  generalize ht : (⟨16 * b.val + l.val / 256, by omega⟩ : Fin cfg0.N) = t
  have htv : t.val = 16 * b.val + l.val / 256 := by rw [← ht]
  obtain ⟨h0, h1, h2⟩ := idx10 t
  show ix3 b q l ∈ ((View.whole main_v31_5).slice (win0_10.rect t)).set
  rw [View.set_slice_whole, Rect.mem_set_unit]
  intro a
  match a with
  | ⟨0, _⟩ => show win0_10.index t (0 : Fin 3) * 1 ≤ b.val ∧ b.val < win0_10.index t (0 : Fin 3) * 1 + 1; omega
  | ⟨1, _⟩ => show win0_10.index t (1 : Fin 3) * 1024 ≤ q.val ∧ q.val < win0_10.index t (1 : Fin 3) * 1024 + 1024; omega
  | ⟨2, _⟩ => show win0_10.index t (2 : Fin 3) * 256 ≤ l.val ∧ l.val < win0_10.index t (2 : Fin 3) * 256 + 256; omega

theorem final10 : (dats m 0 c).arrAt 10 cfg0.N = G10 m c :=
  (dats m 0 c).arrAt_eq_of_cover 10 (G10 m c) (fun t _ => flushed_eq10 m c t) cover10

end Results

/-- The kernel's and the reference's six results are equal at the extended reals, from arguments that agree. -/
theorem algebraic : Cert.algebraic_Kernel2Ideal_Reference2Ideal := by
  intro m ρ m' ρ' _ hagree
  refine ⟨fun c => G5 m c, fun c => G6 m c, fun c => G7 m c, fun c => G8 m c, fun c => G9 m c, fun c => G10 m c, ?_, ?_⟩
  · refine (θ_run Cert.Kernel2Ideal.defs _ _).mono (fun _ h c => ?_) (Cert.Kernel2Ideal.Value.run_blocks (F := Ideal) m ρ)
    obtain ⟨h0, h1, h2, h3, h4, h5, hk⟩ := h c
    exact ⟨h0.trans (final5 m c), h1.trans (final6 m c), h2.trans (final7 m c), h3.trans (final8 m c), h4.trans (final9 m c),
      h5.trans (final10 m c), hk⟩
  refine (θ_run Cert.Reference2Ideal.defs _ _).mono (fun _ h c => ?_) (Cert.Reference2Ideal.Value.run (F := Ideal) m' ρ')
  obtain ⟨e0, e1⟩ := hagree c
  obtain ⟨h0, h1, h2, h3, h4, h5, hk⟩ := h c
  refine ⟨h0.trans ?_, h1.trans ?_, h2.trans ?_, h3.trans ?_, h4.trans ?_, h5.trans ?_, hk⟩
  · rw [Cert.Reference2Ideal.Read.val_main_v1_eq, e0, e1]
  · rw [Cert.Reference2Ideal.Read.val_main_v2_eq, e0, e1]
  · rw [Cert.Reference2Ideal.Read.val_main_v97_eq, e0, e1]
  · rw [Cert.Reference2Ideal.Read.val_main_v98_eq, e0, e1]
  · rw [Cert.Reference2Ideal.Read.val_main_v103_eq, e0, e1]
  · rw [Cert.Reference2Ideal.Read.val_main_v104_eq, e0, e1]

end Cert.Proof.InProj

end
-- ==== Proof.Out.lean ====
/-
  The output projection, at the extended reals: the pipelined kernel's result array is the reference's.
  `pay_eq`: what the kernel's body computes of its blocks, element by element, is the reference's value at the
  element the block stands for (both read at an index by `pointwise`; the reference's sum over the concatenated
  2048 columns is the kernel's two sums over 1024). `blkN`: where each window's block reads its array. `cover`:
  the 64 blocks fill the array. `algebraic`: the claim.
-/
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.Out

open Cert.Kernel3Ideal Cert.Kernel3Ideal.Gen

/-- The reference's result as a function of its seven arguments. -/
abbrev refOut (x0 : FVec Ideal S4x4096x1024 .f32) (x1 : FVec Ideal S4x4096x1024 .bf16) (x2 : FVec Ideal S4x1024x4096 .f32)
    (x3 : FVec Ideal S1024 .f32) (x4 : FVec Ideal S2048x1024 .f32) (x5 x6 : FVec Ideal S1024 .f32) : FVec Ideal S4x4096x1024 .f32 :=
  Cert.Reference3Ideal.Read.val_main_v43 (F := Ideal) x0 x1 x2 x3 x4 x5 x6

open Cert.Reference3Ideal.Read in
/-- The body's result at row `r`, column `l` of its block is the reference's at row `q` of batch `b`, when the blocks
    read the arrays there: `P0` the attention's columns, `P2` and `P5` the rows of the other two inputs, `P3` and `P4`
    the two halves of the weight, `P1`, `P6`, `P7` the three vectors. -/
theorem pay_eq (x0 : FVec Ideal S4x4096x1024 .f32) (x1 : FVec Ideal S4x4096x1024 .bf16) (x2 : FVec Ideal S4x1024x4096 .f32)
    (x3 : FVec Ideal S1024 .f32) (x4 : FVec Ideal S2048x1024 .f32) (x5 x6 : FVec Ideal S1024 .f32)
    (P0 : Vec Ideal S1x1024x256 .f32) (P1 : Vec Ideal S1024x1 .f32) (P2 : Vec Ideal S1x256x1024 .bf16)
    (P3 P4 : Vec Ideal S1024x1024 .bf16) (P5 : Vec Ideal S1x256x1024 .f32) (P6 P7 : Vec Ideal S1x1024 .f32)
    (u : Fin 1) (r : Fin 256) (l : Fin 1024) (b : Fin 4) (q : Fin 4096)
    (h0 : ∀ k : Fin 1024, P0 (ix3 0 k r) = x2 (ix3 b k q)) (h1 : ∀ k : Fin 1024, P1 (ix2 k 0) = x3 (ix1 k))
    (h2 : ∀ k : Fin 1024, P2 (ix3 0 r k) = x1 (ix3 b q k))
    (h3 : ∀ k j : Fin 1024, P3 (ix2 k j) = x4 (ix2 ⟨k.val, by omega⟩ j))
    (h4 : ∀ k j : Fin 1024, P4 (ix2 k j) = x4 (ix2 ⟨1024 + k.val, by omega⟩ j))
    (h5 : ∀ k : Fin 1024, P5 (ix3 0 r k) = x0 (ix3 b q k)) (h6 : ∀ k : Fin 1024, P6 (ix2 0 k) = x5 (ix1 k))
    (h7 : ∀ k : Fin 1024, P7 (ix2 0 k) = x6 (ix1 k)) :
    k0_pay1 (k0_pay2 P0 P1 P2 P3 P4 P5) (k0_pay3 P6) P7 (ix3 u r l) = refOut x0 x1 x2 x3 x4 x5 x6 (ix3 b q l) := by
  unfold refOut
  pointwise [k0_pay1, k0_pay2, k0_pay3, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_cst_2, val_main_v17, val_main_v18, val_main_v19, val_main_cst_3, val_main_v20, val_main_v21, val_main_cst_4, val_main_v22, val_main_v23, val_main_v24, val_main_v25, val_main_v26, val_main_cst_5, val_main_v27, val_main_v28, val_main_cst_6, val_main_v29, val_main_v30, val_main_v31, val_main_v32, val_main_cst_7, val_main_v33, val_main_v34, val_main_v35, val_main_v36, val_main_v37, val_main_v38, val_main_v39, val_main_v40, val_main_v41, val_main_v42, val_main_v43]
  simp only [h0, h1, h2, h3, h4, h5, h6, h7]

variable (m : (ℓ : Loc nD τ sig) → Buf (Elt Ideal) ℓ)

/-- Device `c`'s contents of each argument. -/
abbrev a0 (c : Dev nD) : FVec Ideal S4x4096x1024 .f32 := m ((c : Thread nD τ).loc main_arg0)
abbrev a1 (c : Dev nD) : FVec Ideal S4x4096x1024 .bf16 := m ((c : Thread nD τ).loc main_arg1)
abbrev a2 (c : Dev nD) : FVec Ideal S4x1024x4096 .f32 := m ((c : Thread nD τ).loc main_arg2)
abbrev a3 (c : Dev nD) : FVec Ideal S1024 .f32 := m ((c : Thread nD τ).loc main_arg3)
abbrev a4 (c : Dev nD) : FVec Ideal S2048x1024 .f32 := m ((c : Thread nD τ).loc main_arg4)
abbrev a5 (c : Dev nD) : FVec Ideal S1024 .f32 := m ((c : Thread nD τ).loc main_arg5)
abbrev a6 (c : Dev nD) : FVec Ideal S1024 .f32 := m ((c : Thread nD τ).loc main_arg6)

/-- What the host wrote before the call, at an index: the three vectors reshaped, the weight rounded (the identity here). -/
theorem V_v0 (c : Dev nD) (k : Fin 1024) : V m c main_v0 (ix2 k 0) = a3 m c (ix1 k) := by
  unfold V a3
  after_reads_at
  all_goals rfl
theorem V_v1 (c : Dev nD) (k : Fin 2048) (j : Fin 1024) : V m c main_v1 (ix2 k j) = a4 m c (ix2 k j) := by
  unfold V a4
  after_reads_at
  all_goals rfl
theorem V_v2 (c : Dev nD) (k : Fin 1024) : V m c main_v2 (ix2 0 k) = a5 m c (ix1 k) := by
  unfold V a5
  after_reads_at
  all_goals rfl
theorem V_v3 (c : Dev nD) (k : Fin 1024) : V m c main_v3 (ix2 0 k) = a6 m c (ix1 k) := by
  unfold V a6
  after_reads_at
  all_goals rfl

/-- The block index of every window at every point: batch `t / 16`, row block `t % 16`. -/
theorem idx_all : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 ∧ win0_1.index t (2 : Fin 3) = 0)
    ∧ (win0_2.index t (0 : Fin 3) = t.val / 16 ∧ win0_2.index t (1 : Fin 3) = 0 ∧ win0_2.index t (2 : Fin 3) = t.val % 16)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val / 16 ∧ win0_7.index t (1 : Fin 3) = t.val % 16 ∧ win0_7.index t (2 : Fin 3) = 0) :=
  (by decide +kernel : ∀ t : Fin grid0.N, _)

/-- Each window's block, read at an index, is its array at that index moved by the block's offset. -/
theorem blk0 (c : Dev nD) (t : Fin cfg0.N) (r : Fin 256) (k : Fin 1024) (b : Fin 4) (q : Fin 4096)
    (hb : b.val = t.val / 16) (hq : q.val = t.val % 16 * 256 + r.val) :
    View.ld (iblk m c 0 t) r0_2 (ix3 0 r k) = a0 m c (ix3 b q k) := by
  show V m c main_arg0 (((cfg0.win 0).blk t).view.emb (r0_2.idx (ix3 0 r k))) = _
  rw [V_main_arg0]
  refine congrArg _ (funext fun a => Fin.ext ?_)
  obtain ⟨h0, h1, h2⟩ := (idx_all t).1
  match a with
  | ⟨0, _⟩ => show win0_0.index t (0 : Fin 3) * 1 + 1 * (0 + 1 * 0) = b.val; omega
  | ⟨1, _⟩ => show win0_0.index t (1 : Fin 3) * 256 + 1 * (0 + 1 * r.val) = q.val; omega
  | ⟨2, _⟩ => show win0_0.index t (2 : Fin 3) * 1024 + 1 * (0 + 1 * k.val) = k.val; omega
theorem blk1 (c : Dev nD) (t : Fin cfg0.N) (r : Fin 256) (k : Fin 1024) (b : Fin 4) (q : Fin 4096)
    (hb : b.val = t.val / 16) (hq : q.val = t.val % 16 * 256 + r.val) :
    View.ld (iblk m c 1 t) r0_2 (ix3 0 r k) = a1 m c (ix3 b q k) := by
  show V m c main_arg1 (((cfg0.win 1).blk t).view.emb (r0_2.idx (ix3 0 r k))) = _
  rw [V_main_arg1]
  refine congrArg _ (funext fun a => Fin.ext ?_)
  obtain ⟨h0, h1, h2⟩ := (idx_all t).2.1
  match a with
  | ⟨0, _⟩ => show win0_1.index t (0 : Fin 3) * 1 + 1 * (0 + 1 * 0) = b.val; omega
  | ⟨1, _⟩ => show win0_1.index t (1 : Fin 3) * 256 + 1 * (0 + 1 * r.val) = q.val; omega
  | ⟨2, _⟩ => show win0_1.index t (2 : Fin 3) * 1024 + 1 * (0 + 1 * k.val) = k.val; omega
theorem blk2 (c : Dev nD) (t : Fin cfg0.N) (r : Fin 256) (k : Fin 1024) (b : Fin 4) (q : Fin 4096)
    (hb : b.val = t.val / 16) (hq : q.val = t.val % 16 * 256 + r.val) :
    View.ld (iblk m c 2 t) r0_0 (ix3 0 k r) = a2 m c (ix3 b k q) := by
  show V m c main_arg2 (((cfg0.win 2).blk t).view.emb (r0_0.idx (ix3 0 k r))) = _
  rw [V_main_arg2]
  refine congrArg _ (funext fun a => Fin.ext ?_)
  obtain ⟨h0, h1, h2⟩ := (idx_all t).2.2.1
  match a with
  | ⟨0, _⟩ => show win0_2.index t (0 : Fin 3) * 1 + 1 * (0 + 1 * 0) = b.val; omega
  | ⟨1, _⟩ => show win0_2.index t (1 : Fin 3) * 1024 + 1 * (0 + 1 * k.val) = k.val; omega
  | ⟨2, _⟩ => show win0_2.index t (2 : Fin 3) * 256 + 1 * (0 + 1 * r.val) = q.val; omega
theorem blk3 (c : Dev nD) (t : Fin cfg0.N) (k : Fin 1024) : View.ld (iblk m c 3 t) r0_1 (ix2 k 0) = a3 m c (ix1 k) := by
  rw [← V_v0]
  show V m c main_v0 (((cfg0.win 3).blk t).view.emb (r0_1.idx (ix2 k 0))) = _
  refine congrArg _ (funext fun a => Fin.ext ?_)
  obtain ⟨h0, h1⟩ := (idx_all t).2.2.2.1
  match a with
  | ⟨0, _⟩ => show win0_3.index t (0 : Fin 2) * 1024 + 1 * (0 + 1 * k.val) = k.val; omega
  | ⟨1, _⟩ => show win0_3.index t (1 : Fin 2) * 1 + 1 * (0 + 1 * 0) = 0; omega
theorem blk4_lo (c : Dev nD) (t : Fin cfg0.N) (k j : Fin 1024) :
    View.ld (iblk m c 4 t) r0_3 (ix2 k j) = a4 m c (ix2 ⟨k.val, by omega⟩ j) := by
  rw [← V_v1]
  show V m c main_v1 (((cfg0.win 4).blk t).view.emb (r0_3.idx (ix2 k j))) = _
  refine congrArg _ (funext fun a => Fin.ext ?_)
  obtain ⟨h0, h1⟩ := (idx_all t).2.2.2.2.1
  match a with
  | ⟨0, _⟩ => show win0_4.index t (0 : Fin 2) * 2048 + 1 * (0 + 1 * k.val) = k.val; omega
  | ⟨1, _⟩ => show win0_4.index t (1 : Fin 2) * 1024 + 1 * (0 + 1 * j.val) = j.val; omega
theorem blk4_hi (c : Dev nD) (t : Fin cfg0.N) (k j : Fin 1024) :
    View.ld (iblk m c 4 t) r0_4 (ix2 k j) = a4 m c (ix2 ⟨1024 + k.val, by omega⟩ j) := by
  rw [← V_v1]
  show V m c main_v1 (((cfg0.win 4).blk t).view.emb (r0_4.idx (ix2 k j))) = _
  refine congrArg _ (funext fun a => Fin.ext ?_)
  obtain ⟨h0, h1⟩ := (idx_all t).2.2.2.2.1
  match a with
  | ⟨0, _⟩ => show win0_4.index t (0 : Fin 2) * 2048 + 1 * (1024 + 1 * k.val) = 1024 + k.val; omega
  | ⟨1, _⟩ => show win0_4.index t (1 : Fin 2) * 1024 + 1 * (0 + 1 * j.val) = j.val; omega
theorem blk5 (c : Dev nD) (t : Fin cfg0.N) (k : Fin 1024) : View.ld (iblk m c 5 t) r0_5 (ix2 0 k) = a5 m c (ix1 k) := by
  rw [← V_v2]
  show V m c main_v2 (((cfg0.win 5).blk t).view.emb (r0_5.idx (ix2 0 k))) = _
  refine congrArg _ (funext fun a => Fin.ext ?_)
  obtain ⟨h0, h1⟩ := (idx_all t).2.2.2.2.2.1
  match a with
  | ⟨0, _⟩ => show win0_5.index t (0 : Fin 2) * 1 + 1 * (0 + 1 * 0) = 0; omega
  | ⟨1, _⟩ => show win0_5.index t (1 : Fin 2) * 1024 + 1 * (0 + 1 * k.val) = k.val; omega
theorem blk6 (c : Dev nD) (t : Fin cfg0.N) (k : Fin 1024) : View.ld (iblk m c 6 t) r0_5 (ix2 0 k) = a6 m c (ix1 k) := by
  rw [← V_v3]
  show V m c main_v3 (((cfg0.win 6).blk t).view.emb (r0_5.idx (ix2 0 k))) = _
  refine congrArg _ (funext fun a => Fin.ext ?_)
  obtain ⟨h0, h1⟩ := (idx_all t).2.2.2.2.2.2.1
  match a with
  | ⟨0, _⟩ => show win0_6.index t (0 : Fin 2) * 1 + 1 * (0 + 1 * 0) = 0; omega
  | ⟨1, _⟩ => show win0_6.index t (1 : Fin 2) * 1024 + 1 * (0 + 1 * k.val) = k.val; omega

/-- The whole result array: the reference's function of the kernel's arguments. -/
abbrev G (c : Dev nD) : FVec Ideal S4x4096x1024 .f32 := refOut (a0 m c) (a1 m c) (a2 m c) (a3 m c) (a4 m c) (a5 m c) (a6 m c)

theorem hz : (![0, 0, 0] : Fin 3 → Nat) = fun _ => 0 := funext fun a => by fin_cases a <;> rfl

/-- What point `t` writes back is block `t` of that array. -/
theorem flushed_eq (c : Dev nD) (t : Fin cfg0.N) :
    (dats m 0 c).flushed 7 t = ((cfg0.win 7).blk t).view.read (Elt Ideal) (G m c) := by
  rw [Value.flushed7]
  funext y
  obtain ⟨u, r, l, rfl⟩ : ∃ (u : Fin 1) (r : Fin 256) (l : Fin 1024), y = ix3 u r l := ⟨y 0, y 1, y 2, eq_ix3 y⟩
  have ht : t.val < 64 := lt_of_lt_of_eq t.isLt N_0
  have hb : t.val / 16 < 4 := by omega
  have hq : t.val % 16 * 256 + r.val < 4096 := by omega
  show out0_7 (F := Ideal) _ _ _ _ _ _ _ (ix3 u r l) = G m c (((cfg0.win 7).blk t).view.emb (ix3 u r l))
  have e : ((cfg0.win 7).blk t).view.emb (ix3 u r l) = ix3 (⟨t.val / 16, hb⟩ : Fin 4) (⟨t.val % 16 * 256 + r.val, hq⟩ : Fin 4096) l := by
    obtain ⟨h0, h1, h2⟩ := (idx_all t).2.2.2.2.2.2.2
    refine funext fun a => Fin.ext ?_
    match a with
    | ⟨0, _⟩ => show win0_7.index t (0 : Fin 3) * 1 + 1 * u.val = t.val / 16; omega
    | ⟨1, _⟩ => show win0_7.index t (1 : Fin 3) * 256 + 1 * r.val = t.val % 16 * 256 + r.val; omega
    | ⟨2, _⟩ => show win0_7.index t (2 : Fin 3) * 1024 + 1 * l.val = l.val; omega
  rw [e]
  unfold out0_7
  rw [View.canon_unit_zero hz]
  exact pay_eq _ _ _ _ _ _ _ _ _ _ _ _ _ _ _ u r l _ _ (fun k => blk2 m c t r k _ _ rfl rfl) (blk3 m c t)
    (fun k => blk1 m c t r k _ _ rfl rfl) (blk4_lo m c t) (blk4_hi m c t) (fun k => blk0 m c t r k _ _ rfl rfl)
    (blk5 m c t) (blk6 m c t)

/-- Every index of the result array lies in the block of point `16 · batch + row / 256`. -/
theorem cover (i : S4x4096x1024.Idx) : ∃ t : Fin cfg0.N, (cfg0.win 7).flush t = true ∧ i ∈ ((cfg0.win 7).blk t).view.set := by
  obtain ⟨b, q, l, rfl⟩ : ∃ (b : Fin 4) (q : Fin 4096) (l : Fin 1024), i = ix3 b q l := ⟨i 0, i 1, i 2, eq_ix3 i⟩
  have hN : cfg0.N = 64 := N_0
  refine ⟨⟨16 * b.val + q.val / 256, by omega⟩, flush0_7 _, ?_⟩
  generalize ht : (⟨16 * b.val + q.val / 256, by omega⟩ : Fin cfg0.N) = t
  have htv : t.val = 16 * b.val + q.val / 256 := by rw [← ht]
  obtain ⟨h0, h1, h2⟩ := (idx_all t).2.2.2.2.2.2.2
  show ix3 b q l ∈ ((View.whole main_v4).slice (win0_7.rect t)).set
  rw [View.set_slice_whole, Rect.mem_set_unit]
  intro a
  match a with
  | ⟨0, _⟩ => show win0_7.index t (0 : Fin 3) * 1 ≤ b.val ∧ b.val < win0_7.index t (0 : Fin 3) * 1 + 1; omega
  | ⟨1, _⟩ => show win0_7.index t (1 : Fin 3) * 256 ≤ q.val ∧ q.val < win0_7.index t (1 : Fin 3) * 256 + 256; omega
  | ⟨2, _⟩ => show win0_7.index t (2 : Fin 3) * 1024 ≤ l.val ∧ l.val < win0_7.index t (2 : Fin 3) * 1024 + 1024; omega

/-- So the result array ends holding the reference's function of the arguments. -/
theorem final (c : Dev nD) : (dats m 0 c).arrAt 7 cfg0.N = G m c :=
  (dats m 0 c).arrAt_eq_of_cover 7 (G m c) (fun t _ => flushed_eq m c t) cover

/-- The kernel's and the reference's results are equal at the extended reals, from arguments that agree. -/
theorem algebraic : Cert.algebraic_Kernel3Ideal_Reference3Ideal := by
  intro m ρ m' ρ' _ hagree
  refine ⟨fun c => G m c, ?_, ?_⟩
  · exact (θ_run Cert.Kernel3Ideal.defs _ _).mono (fun _ h c => ⟨(h c).1.trans (final m c), (h c).2⟩)
      (Cert.Kernel3Ideal.Value.run_blocks (F := Ideal) m ρ)
  refine (θ_run Cert.Reference3Ideal.defs _ _).mono (fun _ h c => ⟨(h c).1.trans ?_, (h c).2⟩)
    (Cert.Reference3Ideal.Value.run (F := Ideal) m' ρ')
  obtain ⟨e0, e1, e2, e3, e4, e5, e6⟩ := hagree c
  rw [Cert.Reference3Ideal.Read.val_main_v43_eq, e0, e1, e2, e3, e4, e5, e6]

end Cert.Proof.Out

end
-- ==== Proof.RefCmp.lean ====
/- The reference's compression, read at an index: the block of 32 positions beginning at `16 n` (what lies beyond the end
   is zero), its product with the first weights, the gelu, and the product with the second. -/
module

public import proofs.«01_k».proof.Proof.Gen.Reference4Ideal.Read
public import Idealize.ShloMosaic.Lib.Pointwise
public import Idealize.ShloMosaic.Lib.ValueIdx

@[expose] public section

set_option maxRecDepth 16384

noncomputable section

namespace Cert.Proof.Cmp

open Cert.Reference4Ideal Cert.Reference4Ideal.Gen Cert.Reference4Ideal.Read Idealize.ShloMosaic Idealize.ShloMosaic.TcCoe

/-- Position `l` of block `n`, head `h`, with the position's embedding; zero beyond the end. -/
def blkR (X : S4x4096x512.Idx → EReal) (p : S32x64.Idx → EReal) (b : Fin 4) (n : Fin 256) (l : Fin 32) (h : Fin 4) (d : Fin 64) : EReal :=
  if 16 * n.val + l.val < 4096 then
    X (ix3 b (⟨min (16 * n.val + l.val) 4095, by omega⟩ : Fin 4096) (⟨256 + h.val * 64 + d.val, by omega⟩ : Fin 512)) + p (ix2 l d) else 0

/-- The first product. -/
def preR (X : S4x4096x512.Idx → EReal) (p : S32x64.Idx → EReal) (w : S2048x256.Idx → EReal) (b h : Fin 4) (n j : Fin 256) : EReal :=
  ∑ k : Fin 2048, blkR X p b n ⟨k.val / 64, by omega⟩ h ⟨k.val % 64, by omega⟩ * w (ix2 k j)

/-- The gelu, as the reference's host computes it. -/
def geluR (x : EReal) : EReal :=
  (Ideal.ofBits .f32 0x3F000000#32 * x) * Ideal.erfc (-x * Ideal.ofBits .f32 0x3F3504F3#32)

/-- The second product. -/
def outR (X : S4x4096x512.Idx → EReal) (p : S32x64.Idx → EReal) (w : S2048x256.Idx → EReal) (w2 : S256x64.Idx → EReal)
    (b h : Fin 4) (n : Fin 256) (d : Fin 64) : EReal :=
  ∑ j : Fin 256, geluR (preR X p w b h n j) * w2 (ix2 j d)

/-- The position's word, and its order against a literal. -/
theorem word (n : Fin 256) (l : Fin 32) : IntOp.addi (IntOp.muli (BitVec.ofNat 32 n.val) 16#32) (BitVec.ofNat 32 l.val) = BitVec.ofNat 32 (16 * n.val + l.val) := by
  unfold IntOp.addi IntOp.muli
  apply BitVec.eq_of_toNat_eq
  simp only [BitVec.toNat_add, BitVec.toNat_mul, BitVec.toNat_ofNat]
  omega
theorem slt_lit (q r : ℕ) (hq : q < 8192) (hr : r < 8192) : (BitVec.ofNat 32 q).slt (BitVec.ofNat 32 r) = decide (q < r) := by
  have e (k : ℕ) (hk : k < 8192) : (BitVec.ofNat 32 k).toInt = (k : Int) := by rw [BitVec.toInt_ofNat', Int.bmod_def]; omega
  rw [BitVec.slt, e q hq, e r hr]
  exact decide_eq_decide.2 (by omega)

/-- The position gathered: the word, kept below the end. -/
theorem min_word (n : Fin 256) (l : Fin 32) : IntOp.minsi (BitVec.ofNat 32 (16 * n.val + l.val)) 4095#32 = BitVec.ofNat 32 (min (16 * n.val + l.val) 4095) := by
  unfold IntOp.minsi
  rw [slt_lit _ 4095 (by omega) (by omega)]
  by_cases h : 16 * n.val + l.val < 4095
  · rw [if_pos (decide_eq_true h), Nat.min_eq_left (by omega)]
  · rw [if_neg (by rw [decide_eq_true_iff]; exact h), Nat.min_eq_right (by omega)]
/-- It is not negative, so it is not counted from the end. -/
theorem pos_word (q : ℕ) (hq : q < 4096) (z : BitVec 32) : Scalar.select (IntOp.cmpi .slt (BitVec.ofNat 32 q) 0#32) z (BitVec.ofNat 32 q) = BitVec.ofNat 32 q := by
  have h0 : IntOp.cmpi .slt (BitVec.ofNat 32 q) 0#32 = 0#1 := by
    show BitVec.ofBool ((BitVec.ofNat 32 _).slt (BitVec.ofNat 32 0)) = 0#1
    rw [slt_lit _ 0 (by omega) (by omega)]
    rfl
  rw [h0]
  rfl
theorem toInt_word (q : ℕ) (hq : q < 4096) : (BitVec.ofNat 32 q).toInt.toNat = q := by
  rw [BitVec.toInt_ofNat', Int.bmod_def]
  omega
/-- The bit that says whether a position lies before the end. -/
theorem in_word (q : ℕ) (hq : q < 8192) : IntOp.cmpi .slt (BitVec.ofNat 32 q) 4096#32 = if q < 4096 then 1#1 else 0#1 := by
  show BitVec.ofBool ((BitVec.ofNat 32 _).slt (BitVec.ofNat 32 4096)) = _
  rw [slt_lit _ 4096 (by omega) (by omega)]
  by_cases h : q < 4096
  · rw [if_pos h, decide_eq_true h]; rfl
  · rw [if_neg h, decide_eq_false h]; rfl

/-- The gather of a position by number. -/
theorem gather_at (X : FVec Ideal S4x4096x4x64 .f32) (I : IVec S256x32x1 32) (b : Fin 4) (n : Fin 256) (l : Fin 32) (h : Fin 4) (d : Fin 64) (k : Fin 4096)
    (hI : (I (ix3 n l 0)).toInt.toNat = k.val) :
    Host.gather gather_S4x4096x4x64_S256x32x1_S4x256x32x4x64_034_1_n_n_1_2_41464 X I (ix5 b n l h d) = X (ix4 b k h d) := by
  unfold Host.gather
  refine congrArg X (funext fun a => Fin.ext ?_)
  match a with
  | ⟨0, _⟩ => show 0 + 0 + b.val = b.val; omega
  | ⟨1, _⟩ =>
    show GatherDims.start _ _ I 1 + 0 + 0 = k.val
    unfold GatherDims.start
    rw [dif_pos (by decide)]
    have hs : ∀ q, (gather_S4x4096x4x64_S256x32x1_S4x256x32x4x64_034_1_n_n_1_2_41464).siIdx (ix5 b n l h d) q = ix3 n l 0 := fun q => by
      funext a; refine Fin.ext ?_
      match a with | ⟨0, _⟩ => rfl | ⟨1, _⟩ => rfl | ⟨2, _⟩ => exact Nat.lt_one_iff.mp q.isLt
    rw [hs, hI]
    have hk := k.isLt
    show min k.val (4096 - 1) + 0 + 0 = k.val
    omega
  | ⟨2, _⟩ => show 0 + 0 + h.val = h.val; omega
  | ⟨3, _⟩ => show 0 + 0 + d.val = d.val; omega

variable (x0 : FVec Ideal S4x4096x512 .f32) (p : FVec Ideal S32x64 .f32) (w : FVec Ideal S2048x256 .f32) (w2 : FVec Ideal S256x64 .f32)
  (b h : Fin 4) (n j : Fin 256) (l : Fin 32) (d : Fin 64)

theorem v_at (k : Fin 4096) : val_main_v1 (F := Ideal) x0 (ix4 b k h d) = x0 (ix3 b k ⟨256 + h.val * 64 + d.val, by omega⟩) := by
  pointwise [val_main_v0, val_main_v1]
  exact congrArg (fun z => x0 (ix3 b k z)) (Fin.ext (by show 256 + (h.val * 64 + d.val) = 256 + h.val * 64 + d.val; omega))
theorem p10 : val_main_v10 (F := Ideal) (ix2 n l) = BitVec.ofNat 32 (16 * n.val + l.val) := by
  pointwise [val_main_v2, val_main_v3, val_main_c, val_main_v4, val_main_v5, val_main_v6, val_main_v7, val_main_v8, val_main_v9, val_main_v10]
  exact word n l
theorem p12 : val_main_v12 (F := Ideal) (ix2 n l) = BitVec.ofNat 32 (min (16 * n.val + l.val) 4095) := by
  rw [val_main_v12_apply, p10, val_main_v11_apply, val_main_c_0_apply]
  exact min_word n l
theorem p17 : val_main_v17 (F := Ideal) (ix2 n l) = BitVec.ofNat 32 (min (16 * n.val + l.val) 4095) := by
  rw [val_main_v17_apply, val_main_v14_apply, p12, val_main_v13_apply, val_main_c_1_apply]
  exact pos_word _ (by omega) _
theorem p18 : val_main_v18 (F := Ideal) (ix3 n l 0) = BitVec.ofNat 32 (min (16 * n.val + l.val) 4095) := by
  rw [val_main_v18_apply]
  exact p17 n l
theorem vg_at : val_main_v19 (F := Ideal) x0 (ix5 b n l h d) = x0 (ix3 b ⟨min (16 * n.val + l.val) 4095, by omega⟩ ⟨256 + h.val * 64 + d.val, by omega⟩) := by
  unfold val_main_v19
  refine (gather_at _ _ b n l h d ⟨min (16 * n.val + l.val) 4095, by omega⟩ ?_).trans (v_at x0 b h d _)
  rw [p18]
  exact toInt_word _ (by omega)
theorem sel_lt (q : Prop) [Decidable q] (a c : EReal) : Scalar.select (if q then 1#1 else 0#1) a c = if q then a else c := by
  split <;> rfl
theorem zero_word : (Ideal.ofBits FTy.f32 0x00000000#32 : EReal) = 0 := by simp [Ideal.ofBits, Ideal.ieee]
theorem in_at : val_main_v25 (F := Ideal) (ix2 n l) = if 16 * n.val + l.val < 4096 then 1#1 else 0#1 := by
  rw [val_main_v25_apply, p10, val_main_v24_apply, val_main_c_3_apply]
  exact in_word _ (by omega)
theorem vp_at : val_main_v22 (F := Ideal) p (ix5 b n l h d) = p (ix2 l d) := by
  pointwise [val_main_v20, val_main_v21, val_main_v22]
theorem z_at : val_main_call0_v2 (F := Ideal) (ix5 b n l h d) = 0 := by
  pointwise [val_main_cst, val_main_call0_v0, val_main_call0_v2]
  exact zero_word
theorem m_at : val_main_call0_v1 (F := Ideal) (ix5 b n l h d) = if 16 * n.val + l.val < 4096 then 1#1 else 0#1 := by
  rw [val_main_call0_v1_apply, val_main_v26_apply]
  exact in_at n l
theorem vb_at : val_main_v27 (F := Ideal) x0 p (ix5 b n l h d) = blkR x0 p b n l h d := by
  rw [val_main_v27_apply, m_at, z_at, val_main_v23_apply, vg_at, vp_at]
  exact sel_lt _ _ _
theorem vf_at (k : Fin 2048) : val_main_v29 (F := Ideal) x0 p (ix4 b n h k) = blkR x0 p b n ⟨k.val / 64, by omega⟩ h ⟨k.val % 64, by omega⟩ := by
  have e := vb_at x0 p b h n ⟨k.val / 64, by omega⟩ ⟨k.val % 64, by omega⟩
  pointwise [val_main_v28, val_main_v29]
  exact e
theorem vq_at : val_main_v30 (F := Ideal) x0 p w (ix4 b n h j) = preR x0 p w b h n j := by
  have e := fun k : Fin 2048 => vf_at x0 p b h n k
  unfold preR
  pointwise [val_main_v30]
  simp only [e]
theorem vl_at : val_main_v37 (F := Ideal) x0 p w (ix4 b n h j) = geluR (preR x0 p w b h n j) := by
  have e := vq_at x0 p w b h n j
  unfold geluR
  pointwise [val_main_cst_4, val_main_v31, val_main_v32, val_main_v33, val_main_cst_5, val_main_v34, val_main_v35, val_main_v36, val_main_v37]
  rw [e]
theorem vo_at : val_main_v38 (F := Ideal) x0 p w w2 (ix4 b n h d) = outR x0 p w w2 b h n d := by
  have e := fun j => vl_at x0 p w b h n j
  unfold outR
  pointwise [val_main_v38]
  simp only [e]

/-- The result. -/
theorem vt_at : val_main_v40 (F := Ideal) x0 p w w2 (ix4 b h d n) = outR x0 p w w2 b h n d := by
  have e := vo_at x0 p w w2 b h n d
  pointwise [val_main_v39, val_main_v40]
  exact e

end Cert.Proof.Cmp

end
-- ==== Proof.KernCmp.lean ====
/- The compression kernel's body. It repeats one computation for each head of the keys and of the values: two sums of 16
   products (`chain`), the second kept in a scratch array and read back one row further on (`shifted`), the gelu (`hid`)
   and the last products (`outK`, `outV`). Here that computation is stated once, and what the body stores is shown to be
   it, head by head. -/
module

public import proofs.«01_k».proof.Proof.Gen.Kernel4Ideal.Skeleton
public import Idealize.ShloMosaic.Lib.Pointwise
public import Idealize.ShloMosaic.Lib.ValueIdx
public import Idealize.ShloMosaic.Lib.VecWindow
public import Idealize.ShloMosaic.Lib.WritesUnit

@[expose] public section

set_option maxRecDepth 16384

noncomputable section

namespace Cert.Proof.Cmp.Kern

open Cert.Kernel4Ideal Cert.Kernel4Ideal.Gen Idealize.ShloMosaic Idealize.ShloMosaic.TcCoe Idealize.SL.Sem

/-- The loads lie in their arrays. -/
theorem inX (l o : ℕ) (hl : l < 16) (ho : o + 64 ≤ 512) : ∀ a, (![0, 0, l, o] : Fin 4 → ℕ) a + S1x256x1x64.size a ≤ S1x256x16x512.size a := fun a =>
  match a with
  | ⟨0, _⟩ => by show 0 + 1 ≤ 1; omega
  | ⟨1, _⟩ => by show 0 + 256 ≤ 256; omega
  | ⟨2, _⟩ => by show l + 1 ≤ 16; omega
  | ⟨3, _⟩ => by show o + 64 ≤ 512; omega
theorem inP (k l : ℕ) (hk : k < 2) (hl : l < 32) : ∀ a, (![k, l, 0] : Fin 3 → ℕ) a + S1x1x64.size a ≤ S2x32x64.size a := fun a =>
  match a with
  | ⟨0, _⟩ => by show k + 1 ≤ 2; omega
  | ⟨1, _⟩ => by show l + 1 ≤ 32; omega
  | ⟨2, _⟩ => by show 0 + 64 ≤ 64; omega
theorem inW (k o : ℕ) (hk : k < 2) (ho : o + 64 ≤ 2048) : ∀ a, (![k, o, 0] : Fin 3 → ℕ) a + S1x64x256.size a ≤ S2x2048x256.size a := fun a =>
  match a with
  | ⟨0, _⟩ => by show k + 1 ≤ 2; omega
  | ⟨1, _⟩ => by show o + 64 ≤ 2048; omega
  | ⟨2, _⟩ => by show 0 + 256 ≤ 256; omega
theorem inV (k : ℕ) (hk : k < 2) : ∀ a, (![k, 0, 0] : Fin 3 → ℕ) a + S1x256x64.size a ≤ S2x256x64.size a := fun a =>
  match a with
  | ⟨0, _⟩ => by show k + 1 ≤ 2; omega
  | ⟨1, _⟩ => by show 0 + 256 ≤ 256; omega
  | ⟨2, _⟩ => by show 0 + 64 ≤ 64; omega

/-- One product of a sum: a row of each segment, its embedding added, times 64 rows of the first weights. -/
def step (acc : FVec Ideal S256x256 .f32) (xl : Vec Ideal S1x256x1x64 .f32) (p : Vec Ideal S1x1x64 .f32) (w : Vec Ideal S1x64x256 .bf16) : FVec Ideal S256x256 .f32 :=
  addf acc (matmul (F := Ideal) (φ₂ := .bf16) dot_S256x64_S64x256_S256x256_1_0_0_1_n_n none
    (truncf .bf16 (addf (F := Ideal) (shapeCast S256x64 xl shapeCasts_S1x256x1x64_S256x64) (broadcastTo S256x64 (shapeCast S1x64 p shapeCasts_S1x1x64_S1x64) broadcasts_S1x64_S256x64)) bitsLt_bf16_f32)
    (shapeCast S64x256 w shapeCasts_S1x64x256_S64x256) (constant S256x256 .f32 0x00000000#32))

variable (c : Dev nD) (i : grid0.Coords)
  (arg1 : Memref sig .tc .vmem S1x256x16x512 .f32) (harg1 : arg1.IsWhole)
  (arg2 : Memref sig .tc .vmem S2x32x64 .f32) (harg2 : arg2.IsWhole)
  (arg3 : Memref sig .tc .vmem S2x2048x256 .bf16) (harg3 : arg3.IsWhole)
  (arg4 : Memref sig .tc .vmem S2x256x64 .bf16) (harg4 : arg4.IsWhole)
  (arg5 : Memref sig .tc .vmem S256x64 .bf16) (harg5 : arg5.IsWhole)
  (arg6 : Memref sig .tc .vmem S256x64 .f32) (harg6 : arg6.IsWhole)
  (arg7 : Memref sig .tc .vmem S256x64 .f32) (harg7 : arg7.IsWhole)
  (arg8 : Memref sig .tc .vmem S1x4x256x64 .bf16) (harg8 : arg8.IsWhole)
  (arg9 : Memref sig .tc .vmem S1x4x64x256 .bf16) (harg9 : arg9.IsWhole)
  (arg10 : Memref sig .tc .vmem S264x256 .f32) (harg10 : arg10.IsWhole)
variable (x0 : Vec Ideal S1x256x16x512 .f32) (x1 : Vec Ideal S2x32x64 .f32) (x2 : Vec Ideal S2x2048x256 .bf16) (x3 : Vec Ideal S2x256x64 .bf16)
  (x4 : Vec Ideal S256x64 .bf16) (x5 x6 : Vec Ideal S256x64 .f32)

/-- The first `N` products of keys (`k = 0`) or values, head `h`, first or second half of the block. -/
def chain (k h e : ℕ) (hk : k < 2) (hh : h < 4) (he : e < 2) : (N : ℕ) → N ≤ 16 → FVec Ideal S256x256 .f32
  | 0, _ => broadcast S256x256 (Scalar.ofBits (F := Ideal) .f32 0x00000000#32)
  | N + 1, hN => step (chain k h e hk hh he N (by omega))
      (View.readAt (Elt Ideal) arg1.view (Rect.unit (s := S1x256x16x512) ![0, 0, N, k * 256 + h * 64] S1x256x1x64.size (inX N (k * 256 + h * 64) (by omega) (by omega))).toLoadRect (harg1.unread x0))
      (View.readAt (Elt Ideal) arg2.view (Rect.unit (s := S2x32x64) ![k, e * 16 + N, 0] S1x1x64.size (inP k (e * 16 + N) hk (by omega))).toLoadRect (harg2.unread x1))
      (View.readAt (Elt Ideal) arg3.view (Rect.unit (s := S2x2048x256) ![k, (e * 16 + N) * 64, 0] S1x64x256.size (inW k ((e * 16 + N) * 64) hk (by omega))).toLoadRect (harg3.unread x2))

/-- The second half's sums, one row further on; the row after the last is zero. -/
def shifted (k h : ℕ) (hk : k < 2) (hh : h < 4) (L : List (View.Piece (Elt Ideal) S264x256 .f32)) : Vec Ideal S256x256 .f32 :=
  View.readCov arg10.view (⟨Rect.unit ![256, 0] S8x256.size inb_S264x256_S8x256_256_0, k0_pay104 (F := Ideal)⟩
    :: ⟨Rect.unit ![0, 0] S256x256.size inb_S264x256_S256x256_0_0,
        shapeCast S256x256 (chain arg1 harg1 arg2 harg2 arg3 harg3 x0 x1 x2 k h 1 hk hh (by omega) 16 (le_refl _)) shapeCasts_S256x256_S256x256⟩ :: L)
    (Rect.unit (s := S264x256) ![1, 0] S256x256.size inb_S264x256_S256x256_1_0).toLoadRect

/-- The gelu of the two halves' sum. -/
def hid (k h : ℕ) (hk : k < 2) (hh : h < 4) (L : List (View.Piece (Elt Ideal) S264x256 .f32)) : FVec Ideal S256x256 .bf16 :=
  let pre : FVec Ideal S256x256 .f32 := addf (chain arg1 harg1 arg2 harg2 arg3 harg3 x0 x1 x2 k h 0 hk hh (by omega) 16 (le_refl _)) (shifted arg1 harg1 arg2 harg2 arg3 harg3 arg10 x0 x1 x2 k h hk hh L)
  truncf .bf16 (mulf (mulf (broadcast S256x256 (Scalar.ofBits (F := Ideal) .f32 0x3F000000#32)) pre)
    (addf (broadcast S256x256 (Scalar.ofBits (F := Ideal) .f32 0x3F800000#32)) (erf (mulf pre (broadcast S256x256 (Scalar.ofBits (F := Ideal) .f32 0x3F3504F3#32)))))) bitsLt_bf16_f32

/-- The values of head `h`, transposed. -/
def outV (h : ℕ) (hh : h < 4) (L : List (View.Piece (Elt Ideal) S264x256 .f32)) : FVec Ideal S1x1x64x256 .bf16 :=
  shapeCast S1x1x64x256 (truncf (F := Ideal) .bf16 (transpose S64x256 [1, 0]
    (matmul (F := Ideal) (φ₂ := .bf16) dot_S256x256_S256x64_S256x64_1_0_0_1_n_n none (hid arg1 harg1 arg2 harg2 arg3 harg3 arg10 x0 x1 x2 1 h (by omega) hh L)
      (shapeCast S256x64 (View.readAt (Elt Ideal) arg4.view (Rect.unit (s := S2x256x64) ![1, 0, 0] S1x256x64.size (inV 1 (by omega))).toLoadRect (harg4.unread x3)) shapeCasts_S1x256x64_S256x64)
      (constant S256x64 .f32 0x00000000#32)) transposes_S256x64_p1_0_S64x256) bitsLt_bf16_f32) shapeCasts_S64x256_S1x1x64x256

end Cert.Proof.Cmp.Kern

end
-- ==== Proof.KernAt.lean ====
/- The compression kernel's body, read at an index: a sum of products is a finite sum, the scratch read back one row further on is
   the second sum's next row (zero after the last), and the gelu is the reference's. -/
module

public import proofs.«01_k».proof.Proof.KernCmp

@[expose] public section

set_option maxRecDepth 16384

noncomputable section

namespace Cert.Proof.Cmp.Kern

open Cert.Kernel4Ideal Cert.Kernel4Ideal.Gen Idealize.ShloMosaic Idealize.ShloMosaic.TcCoe Idealize.SL.Sem

theorem zero32 : (Ideal.ofBits FTy.f32 0x00000000#32 : EReal) = 0 := by simp [Ideal.ofBits, Ideal.ieee]
theorem one32 : (Ideal.ofBits FTy.f32 0x3F800000#32 : EReal) = 1 := by
  simp [Ideal.ofBits, Ideal.ieee]
  rw [← EReal.coe_mul]
  norm_num

theorem step_at (acc : FVec Ideal S256x256 .f32) (xl : Vec Ideal S1x256x1x64 .f32) (p : Vec Ideal S1x1x64 .f32) (w : Vec Ideal S1x64x256 .bf16) (n j : Fin 256) :
    step acc xl p w (ix2 n j) = acc (ix2 n j) + ∑ e : Fin 64, (xl (ix4 0 n 0 e) + p (ix3 0 0 e)) * w (ix3 0 e j) := by
  pointwise [step]

/-- A row's product with 64 rows of the first weights: row `l` of segment `n`, in the first or second half of the block. -/
def term (x0 : Vec Ideal S1x256x16x512 .f32) (x1 : Vec Ideal S2x32x64 .f32) (x2 : Vec Ideal S2x2048x256 .bf16) (k : Fin 2) (h : Fin 4) (e : Fin 2) (n j : Fin 256) (l : Fin 16) : EReal :=
  ∑ d : Fin 64, ((x0 (ix4 0 n l (⟨k.val * 256 + h.val * 64 + d.val, by omega⟩ : Fin 512)) : EReal) + (x1 (ix3 k (⟨e.val * 16 + l.val, by omega⟩ : Fin 32) d) : EReal))
    * (x2 (ix3 k (⟨(e.val * 16 + l.val) * 64 + d.val, by omega⟩ : Fin 2048) j) : EReal)

variable (c : Dev nD) (i : grid0.Coords)
  (arg1 : Memref sig .tc .vmem S1x256x16x512 .f32) (harg1 : arg1.IsWhole)
  (arg2 : Memref sig .tc .vmem S2x32x64 .f32) (harg2 : arg2.IsWhole)
  (arg3 : Memref sig .tc .vmem S2x2048x256 .bf16) (harg3 : arg3.IsWhole)
  (arg4 : Memref sig .tc .vmem S2x256x64 .bf16) (harg4 : arg4.IsWhole)
  (arg5 : Memref sig .tc .vmem S256x64 .bf16) (harg5 : arg5.IsWhole)
  (arg6 : Memref sig .tc .vmem S256x64 .f32) (harg6 : arg6.IsWhole)
  (arg7 : Memref sig .tc .vmem S256x64 .f32) (harg7 : arg7.IsWhole)
  (arg8 : Memref sig .tc .vmem S1x4x256x64 .bf16) (harg8 : arg8.IsWhole)
  (arg9 : Memref sig .tc .vmem S1x4x64x256 .bf16) (harg9 : arg9.IsWhole)
  (arg10 : Memref sig .tc .vmem S264x256 .f32) (harg10 : arg10.IsWhole)
variable (x0 : Vec Ideal S1x256x16x512 .f32) (x1 : Vec Ideal S2x32x64 .f32) (x2 : Vec Ideal S2x2048x256 .bf16) (x3 : Vec Ideal S2x256x64 .bf16)
  (x4 : Vec Ideal S256x64 .bf16) (x5 x6 : Vec Ideal S256x64 .f32)

theorem chain_at (k : Fin 2) (h : Fin 4) (e : Fin 2) (n j : Fin 256) : ∀ (N : ℕ) (hN : N ≤ 16),
    chain arg1 harg1 arg2 harg2 arg3 harg3 x0 x1 x2 k.val h.val e.val k.isLt h.isLt e.isLt N hN (ix2 n j) = ∑ l : Fin N, term x0 x1 x2 k h e n j ⟨l.val, by omega⟩
  | 0, _ => zero32
  | N + 1, hN => by
    rw [Fin.sum_univ_castSucc]
    refine (step_at _ _ _ _ n j).trans (congrArg₂ (· + ·) (chain_at k h e n j N (by omega)) ?_)
    unfold term
    refine Finset.sum_congr rfl fun d _ => congrArg₂ (· * ·) (congrArg₂ (· + ·) ?_ ?_) ?_
    · rw [View.readAt_apply, harg1.read_unread]
      refine congrArg x0 (funext fun a => Fin.ext ?_)
      match a with
      | ⟨0, _⟩ => rfl
      | ⟨1, _⟩ => show 0 + 1 * n.val = n.val; omega
      | ⟨2, _⟩ => show N + 1 * 0 = N; omega
      | ⟨3, _⟩ => show k.val * 256 + h.val * 64 + 1 * d.val = k.val * 256 + h.val * 64 + d.val; omega
    · rw [View.readAt_apply, harg2.read_unread]
      refine congrArg x1 (funext fun a => Fin.ext ?_)
      match a with
      | ⟨0, _⟩ => show k.val + 1 * 0 = k.val; omega
      | ⟨1, _⟩ => show e.val * 16 + N + 1 * 0 = e.val * 16 + N; omega
      | ⟨2, _⟩ => show 0 + 1 * d.val = d.val; omega
    · rw [View.readAt_apply, harg3.read_unread]
      refine congrArg x2 (funext fun a => Fin.ext ?_)
      match a with
      | ⟨0, _⟩ => show k.val + 1 * 0 = k.val; omega
      | ⟨1, _⟩ => show (e.val * 16 + N) * 64 + 1 * d.val = (e.val * 16 + N) * 64 + d.val; omega
      | ⟨2, _⟩ => show 0 + 1 * j.val = j.val; omega

/-- Half a block's sum at an element. -/
def half (x0 : Vec Ideal S1x256x16x512 .f32) (x1 : Vec Ideal S2x32x64 .f32) (x2 : Vec Ideal S2x2048x256 .bf16) (k : Fin 2) (h : Fin 4) (e : Fin 2) (n j : Fin 256) : EReal :=
  ∑ l : Fin 16, term x0 x1 x2 k h e n j l
/-- A block's sum: its first segment's, and the next segment's if there is one. -/
def preK (x0 : Vec Ideal S1x256x16x512 .f32) (x1 : Vec Ideal S2x32x64 .f32) (x2 : Vec Ideal S2x2048x256 .bf16) (k : Fin 2) (h : Fin 4) (n j : Fin 256) : EReal :=
  half x0 x1 x2 k h 0 n j + if hn : n.val + 1 < 256 then half x0 x1 x2 k h 1 ⟨n.val + 1, hn⟩ j else 0
/-- The gelu, as the kernel computes it. -/
def geluK (x : EReal) : EReal := (Ideal.ofBits .f32 0x3F000000#32 * x) * (Ideal.ofBits .f32 0x3F800000#32 + Ideal.erf (x * Ideal.ofBits .f32 0x3F3504F3#32))
/-- It is the reference's. -/
theorem gelu_eq (x : EReal) : geluK x = (Ideal.ofBits .f32 0x3F000000#32 * x) * Ideal.erfc (-x * Ideal.ofBits .f32 0x3F3504F3#32) := by
  unfold geluK
  rw [EReal.neg_mul, Ideal.erfc_neg, one32]

theorem shifted_at (k : Fin 2) (h : Fin 4) (L : List (View.Piece (Elt Ideal) S264x256 .f32)) (n j : Fin 256) :
    shifted arg1 harg1 arg2 harg2 arg3 harg3 arg10 x0 x1 x2 k.val h.val k.isLt h.isLt L (ix2 n j)
      = if hn : n.val + 1 < 256 then half x0 x1 x2 k h 1 ⟨n.val + 1, hn⟩ j else 0 := by
  unfold shifted View.readCov
  rw [View.readAt_apply]
  have hi : (Rect.unit (s := S264x256) ![1, 0] S256x256.size inb_S264x256_S256x256_1_0).toLoadRect.idx (ix2 n j) = ix2 (⟨n.val + 1, by omega⟩ : Fin 264) j := by
    funext a
    refine Fin.ext ?_
    match a with
    | ⟨0, _⟩ => show 1 + 1 * n.val = n.val + 1; omega
    | ⟨1, _⟩ => show 0 + 1 * j.val = j.val; omega
  rw [hi]
  by_cases hn : n.val + 1 < 256
  · rw [dif_pos hn]
    refine (View.read_writes_cons_rows_of_not_mem (o := 256) (W := 8) _ _ _ _ _ _ rfl rfl (Or.inl hn)).trans ?_
    refine (View.read_writes_cons_rows_of_mem (size := S256x256.size) (o := 0) (y := ix2 (⟨n.val + 1, by omega⟩ : Fin 264) j) _ _ _ _ _ (ix2 (⟨n.val + 1, hn⟩ : Fin 256) j) rfl (by show n.val + 1 = 0 + (n.val + 1); omega) rfl).trans ?_
    refine Eq.trans ?_ (chain_at arg1 harg1 arg2 harg2 arg3 harg3 x0 x1 x2 k h 1 ⟨n.val + 1, hn⟩ j 16 (le_refl _))
    pointwise []
  · rw [dif_neg hn]
    refine (View.read_writes_cons_rows_of_mem (size := S8x256.size) (o := 256) (y := ix2 (⟨n.val + 1, by omega⟩ : Fin 264) j) _ _ _ _ _ (ix2 (⟨n.val + 1 - 256, by omega⟩ : Fin 8) j) rfl (by show n.val + 1 = 256 + (n.val + 1 - 256); omega) rfl).trans ?_
    pointwise [k0_pay104]

theorem hid_at (k : Fin 2) (h : Fin 4) (L : List (View.Piece (Elt Ideal) S264x256 .f32)) (n j : Fin 256) :
    hid arg1 harg1 arg2 harg2 arg3 harg3 arg10 x0 x1 x2 k.val h.val k.isLt h.isLt L (ix2 n j) = geluK (preK x0 x1 x2 k h n j) := by
  have e : chain arg1 harg1 arg2 harg2 arg3 harg3 x0 x1 x2 k.val h.val 0 k.isLt h.isLt (by omega) 16 (le_refl _) (ix2 n j)
      + shifted arg1 harg1 arg2 harg2 arg3 harg3 arg10 x0 x1 x2 k.val h.val k.isLt h.isLt L (ix2 n j) = preK x0 x1 x2 k h n j :=
    congrArg₂ (· + ·) (chain_at arg1 harg1 arg2 harg2 arg3 harg3 x0 x1 x2 k h 0 n j 16 (le_refl _)) (shifted_at arg1 harg1 arg2 harg2 arg3 harg3 arg10 x0 x1 x2 k h L n j)
  rw [← e]
  rfl

theorem last_at (H : FVec Ideal S256x256 .bf16) (W : Vec Ideal S1x256x64 .bf16) (u v : Fin 1) (d : Fin 64) (n : Fin 256) :
    shapeCast S1x1x64x256 (truncf (F := Ideal) .bf16 (transpose S64x256 [1, 0]
      (matmul (F := Ideal) (φ₂ := .bf16) dot_S256x256_S256x64_S256x64_1_0_0_1_n_n none H (shapeCast S256x64 W shapeCasts_S1x256x64_S256x64)
        (constant S256x64 .f32 0x00000000#32)) transposes_S256x64_p1_0_S64x256) bitsLt_bf16_f32) shapeCasts_S64x256_S1x1x64x256 (ix4 u v d n)
      = ∑ j : Fin 256, H (ix2 n j) * W (ix3 0 j d) := by
  pointwise []

theorem outV_at (h : Fin 4) (L : List (View.Piece (Elt Ideal) S264x256 .f32)) (u v : Fin 1) (d : Fin 64) (n : Fin 256) :
    outV arg1 harg1 arg2 harg2 arg3 harg3 arg4 harg4 arg10 x0 x1 x2 x3 h.val h.isLt L (ix4 u v d n)
      = ∑ j : Fin 256, geluK (preK x0 x1 x2 1 h n j) * x3 (ix3 1 j d) := by
  unfold outV
  refine (last_at _ _ u v d n).trans (Finset.sum_congr rfl fun j _ => congrArg₂ (· * ·) (hid_at arg1 harg1 arg2 harg2 arg3 harg3 arg10 x0 x1 x2 1 h L n j) ?_)
  rw [View.readAt_apply, harg4.read_unread]
  refine congrArg x3 (funext fun a => Fin.ext ?_)
  match a with
  | ⟨0, _⟩ => rfl
  | ⟨1, _⟩ => show 0 + 1 * j.val = j.val; omega
  | ⟨2, _⟩ => show 0 + 1 * d.val = d.val; omega

end Cert.Proof.Cmp.Kern

end
-- ==== Proof.CmpSum.lean ====
/- The compression's first product: the reference's sum over 2048 positions and columns is the kernel's two sums over a segment,
   the block's own and the next one's. Where there is no next segment the reference's block is zero. -/
module

public import proofs.«01_k».proof.Proof.RefCmp
public import proofs.«01_k».proof.Proof.KernAt

@[expose] public section

set_option maxRecDepth 16384

noncomputable section

namespace Cert.Proof.Cmp

open Cert.Kernel4Ideal Idealize.ShloMosaic Idealize.ShloMosaic.TcCoe

/-- Position `l` of segment `n`. -/
def seg (n : Fin 256) (l : Fin 16) : Fin 4096 := ⟨16 * n.val + l.val, by omega⟩

/-- A sum over 2048 as two halves of 16 rows of 64. -/
theorem sum_split (f : Fin 2048 → EReal) : ∑ k, f k = (∑ l : Fin 16, ∑ d : Fin 64, f ⟨(0 * 16 + l.val) * 64 + d.val, by omega⟩)
    + ∑ l : Fin 16, ∑ d : Fin 64, f ⟨(1 * 16 + l.val) * 64 + d.val, by omega⟩ := by
  have e1 : ∑ k : Fin 2048, f k = ∑ q : Fin 32 × Fin 64, f (finProdFinEquiv (m := 32) (n := 64) q) :=
    (Equiv.sum_comp (finProdFinEquiv (m := 32) (n := 64)) f).symm
  have e2 : ∀ g : Fin 32 → EReal, ∑ l, g l = (∑ l : Fin 16, g ⟨l.val, by omega⟩) + ∑ l : Fin 16, g ⟨16 + l.val, by omega⟩ :=
    fun g => Fin.sum_univ_add (a := 16) (b := 16) g
  rw [e1, Fintype.sum_prod_type, e2]
  refine congrArg₂ (· + ·) ?_ ?_
  all_goals refine Finset.sum_congr rfl fun l _ => Finset.sum_congr rfl fun d _ => congrArg f (Fin.ext ?_)
  · show d.val + 64 * l.val = (0 * 16 + l.val) * 64 + d.val
    omega
  · show d.val + 64 * (16 + l.val) = (1 * 16 + l.val) * 64 + d.val
    omega

section
variable (X : S4x4096x512.Idx → EReal) (p : S32x64.Idx → EReal) (b : Fin 4) (n : Fin 256) (l : Fin 32) (h : Fin 4) (d : Fin 64)

theorem blk_in (q : Fin 4096) (hq : 16 * n.val + l.val = q.val) : blkR X p b n l h d = X (ix3 b q ⟨256 + h.val * 64 + d.val, by omega⟩) + p (ix2 l d) := by
  unfold blkR
  rw [if_pos (by omega)]
  exact congrArg (fun z : Fin 4096 => X (ix3 b z _) + _) (Fin.ext (by show min _ _ = _; omega))
theorem blk_out (hq : ¬16 * n.val + l.val < 4096) : blkR X p b n l h d = 0 := by
  unfold blkR
  rw [if_neg hq]
end

section
variable (X : S4x4096x512.Idx → EReal) (p : S32x64.Idx → EReal) (w : S2048x256.Idx → EReal)
  (x0 : Vec Ideal S1x256x16x512 .f32) (x1 : Vec Ideal S2x32x64 .f32) (x2 : Vec Ideal S2x2048x256 .bf16)
  (b h : Fin 4) (n j : Fin 256)
  (h0 : ∀ (n : Fin 256) (l : Fin 16) (c : Fin 512), x0 (ix4 0 n l c) = X (ix3 b (seg n l) c))
  (h1 : ∀ (l : Fin 32) (d : Fin 64), x1 (ix3 1 l d) = p (ix2 l d))
  (h2 : ∀ (r : Fin 2048) (j : Fin 256), x2 (ix3 1 r j) = w (ix2 r j))
include h0 h1 h2

/-- One term of the kernel's sum, from segment `n'`, is the reference's for the block's positions of that segment. -/
theorem term_eq (e : Fin 2) (n' : Fin 256) (hn : n'.val = n.val + e.val) (l : Fin 16) : Kern.term x0 x1 x2 1 h e n' j l
    = ∑ d : Fin 64, blkR X p b n ⟨e.val * 16 + l.val, by omega⟩ h d * w (ix2 ⟨(e.val * 16 + l.val) * 64 + d.val, by omega⟩ j) := by
  unfold Kern.term
  refine Finset.sum_congr rfl fun d _ => ?_
  rw [h0, h1, h2, blk_in X p b n _ h d (seg n' l) (by show 16 * n.val + (e.val * 16 + l.val) = 16 * n'.val + l.val; omega)]
  exact congrArg (fun z : Fin 512 => (X (ix3 b _ z) + _) * _) (Fin.ext (by show 1 * 256 + h.val * 64 + d.val = 256 + h.val * 64 + d.val; omega))

/-- The two computations of a block's first product agree. -/
theorem pre_eq : Kern.preK x0 x1 x2 1 h n j = preR X p w b h n j := by
  have idx : ∀ (e : Fin 2) (l : Fin 16) (d : Fin 64), blkR X p b n ⟨((e.val * 16 + l.val) * 64 + d.val) / 64, by omega⟩ h ⟨((e.val * 16 + l.val) * 64 + d.val) % 64, by omega⟩
      = blkR X p b n ⟨e.val * 16 + l.val, by omega⟩ h d := fun e l d =>
    congrArg₂ (fun (a : Fin 32) (c : Fin 64) => blkR X p b n a h c) (Fin.ext (by show ((e.val * 16 + l.val) * 64 + d.val) / 64 = e.val * 16 + l.val; omega))
      (Fin.ext (by show ((e.val * 16 + l.val) * 64 + d.val) % 64 = d.val; omega))
  unfold preR Kern.preK Kern.half
  rw [sum_split]
  refine congrArg₂ (· + ·) ?_ ?_
  · refine Finset.sum_congr rfl fun l _ => (term_eq X p w x0 x1 x2 b h n j h0 h1 h2 0 n rfl l).trans (Finset.sum_congr rfl fun d _ => ?_)
    exact congrArg (· * _) (idx 0 l d).symm
  · by_cases hn : n.val + 1 < 256
    · rw [dif_pos hn]
      refine Finset.sum_congr rfl fun l _ => (term_eq X p w x0 x1 x2 b h n j h0 h1 h2 1 ⟨n.val + 1, hn⟩ rfl l).trans (Finset.sum_congr rfl fun d _ => ?_)
      exact congrArg (· * _) (idx 1 l d).symm
    · rw [dif_neg hn]
      refine (Finset.sum_eq_zero fun l _ => Finset.sum_eq_zero fun d _ => ?_).symm
      have z := (idx 1 l d).trans (blk_out X p b n _ h d (by show ¬16 * n.val + (1 * 16 + l.val) < 4096; omega))
      exact (congrArg (· * _) z).trans (zero_mul _)
end

end Cert.Proof.Cmp

end
-- ==== Proof.KernStores.lean ====
/- What the compression kernel's body stores in the values' block: one piece for each head, the same computation of its head. -/
module

public import proofs.«01_k».proof.Proof.Gen.Kernel4Ideal.Value
public import proofs.«01_k».proof.Proof.KernAt

@[expose] public section

set_option maxRecDepth 16384

noncomputable section

namespace Cert.Proof.Cmp.Kern

open Cert.Kernel4Ideal Cert.Kernel4Ideal.Gen Idealize.ShloMosaic Idealize.ShloMosaic.TcCoe Idealize.SL.Sem

variable (c : Dev nD) (i : grid0.Coords)
  (arg1 : Memref sig .tc .vmem S1x256x16x512 .f32) (harg1 : arg1.IsWhole)
  (arg2 : Memref sig .tc .vmem S2x32x64 .f32) (harg2 : arg2.IsWhole)
  (arg3 : Memref sig .tc .vmem S2x2048x256 .bf16) (harg3 : arg3.IsWhole)
  (arg4 : Memref sig .tc .vmem S2x256x64 .bf16) (harg4 : arg4.IsWhole)
  (arg5 : Memref sig .tc .vmem S256x64 .bf16) (harg5 : arg5.IsWhole)
  (arg6 : Memref sig .tc .vmem S256x64 .f32) (harg6 : arg6.IsWhole)
  (arg7 : Memref sig .tc .vmem S256x64 .f32) (harg7 : arg7.IsWhole)
  (arg8 : Memref sig .tc .vmem S1x4x256x64 .bf16) (harg8 : arg8.IsWhole)
  (arg9 : Memref sig .tc .vmem S1x4x64x256 .bf16) (harg9 : arg9.IsWhole)
  (arg10 : Memref sig .tc .vmem S264x256 .f32) (harg10 : arg10.IsWhole)
variable (x0 : Vec Ideal S1x256x16x512 .f32) (x1 : Vec Ideal S2x32x64 .f32) (x2 : Vec Ideal S2x2048x256 .bf16) (x3 : Vec Ideal S2x256x64 .bf16)
  (x4 : Vec Ideal S256x64 .bf16) (x5 x6 : Vec Ideal S256x64 .f32)

/-- What the body stores in the values' block. -/
theorem storesV : (kernelRun0_A c i arg1 harg1 arg2 harg2 arg3 harg3 arg4 harg4 arg5 harg5 arg6 harg6 arg7 harg7 arg8 harg8 arg9 harg9 arg10 harg10 x0 x1 x2 x3 x4 x5 x6).2.1
    = [⟨Rect.unit ![0, 3, 0, 0] S1x1x64x256.size inb_S1x4x64x256_S1x1x64x256_0_3_0_0, outV arg1 harg1 arg2 harg2 arg3 harg3 arg4 harg4 arg10 x0 x1 x2 x3 3 (by omega) (kernelRun0_A.sl.HS0_14 c arg1 harg1 arg2 harg2 arg3 harg3 x0 x1 x2)⟩,
      ⟨Rect.unit ![0, 2, 0, 0] S1x1x64x256.size inb_S1x4x64x256_S1x1x64x256_0_2_0_0, outV arg1 harg1 arg2 harg2 arg3 harg3 arg4 harg4 arg10 x0 x1 x2 x3 2 (by omega) (kernelRun0_A.sl.HS0_12 c arg1 harg1 arg2 harg2 arg3 harg3 x0 x1 x2)⟩,
      ⟨Rect.unit ![0, 1, 0, 0] S1x1x64x256.size inb_S1x4x64x256_S1x1x64x256_0_1_0_0, outV arg1 harg1 arg2 harg2 arg3 harg3 arg4 harg4 arg10 x0 x1 x2 x3 1 (by omega) (kernelRun0_A.sl.HS0_10 c arg1 harg1 arg2 harg2 arg3 harg3 x0 x1 x2)⟩,
      ⟨Rect.unit ![0, 0, 0, 0] S1x1x64x256.size inb_S1x4x64x256_S1x1x64x256_0_0_0_0, outV arg1 harg1 arg2 harg2 arg3 harg3 arg4 harg4 arg10 x0 x1 x2 x3 0 (by omega) (kernelRun0_A.sl.HS0_8 c arg1 harg1 arg2 harg2 arg3 harg3 x0 x1 x2)⟩] := by
  sl_kernel_rfl

end Cert.Proof.Cmp.Kern

end
-- ==== Proof.CmpOut.lean ====
/- The compressed values, at the extended reals: the compression kernel's second result array is the reference's.
   `stored_at`: the four heads' pieces, read as one block. `V_*`: what the host wrote before the call. `blkN`: where each window's
   block reads its array. `flushed_eq`, `cover`: what each of the four points writes back is its batch's block. `algebraic`: the claim. -/
module

public import proofs.«01_k».proof.Defs
public import proofs.«01_k».proof.Proof.Gen.Reference4Ideal.Run
public import proofs.«01_k».proof.Proof.CmpSum
public import proofs.«01_k».proof.Proof.KernStores
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.Cmp.Out

open Cert.Kernel4Ideal Cert.Kernel4Ideal.Gen

/-- One head's piece, at the index of the block that it stands for. -/
theorem piece_at (o : Fin 4 → Fin 64 → Fin 256 → EReal) (w : FVec Ideal S1x1x64x256 .bf16) (k : Fin 4)
    (inb : ∀ a, (![0, k.val, 0, 0] : Fin 4 → ℕ) a + S1x1x64x256.size a ≤ S1x4x64x256.size a)
    (hw : ∀ u v d n, w (ix4 u v d n) = o k d n) (x : S1x1x64x256.Idx) :
    w x = o ((Rect.unit (s := S1x4x64x256) ![0, k.val, 0, 0] S1x1x64x256.size inb).emb x 1)
      ((Rect.unit (s := S1x4x64x256) ![0, k.val, 0, 0] S1x1x64x256.size inb).emb x 2)
      ((Rect.unit (s := S1x4x64x256) ![0, k.val, 0, 0] S1x1x64x256.size inb).emb x 3) := by
  obtain ⟨u, v, d, n, rfl⟩ : ∃ (u v : Fin 1) (d : Fin 64) (n : Fin 256), x = ix4 u v d n := ⟨x 0, x 1, x 2, x 3, eq_ix4 x⟩
  rw [hw]
  refine congr (congr (congrArg o (Fin.ext ?_)) (Fin.ext ?_)) (Fin.ext ?_)
  · show k.val = k.val + 1 * v.val
    omega
  · show d.val = 0 + 1 * d.val
    omega
  · show n.val = 0 + 1 * n.val
    omega

/-- The four heads' pieces read as one block. -/
theorem stored_at (o : Fin 4 → Fin 64 → Fin 256 → EReal) (w0 w1 w2 w3 : FVec Ideal S1x1x64x256 .bf16)
    (e0 : ∀ u v d n, w0 (ix4 u v d n) = o 0 d n) (e1 : ∀ u v d n, w1 (ix4 u v d n) = o 1 d n)
    (e2 : ∀ u v d n, w2 (ix4 u v d n) = o 2 d n) (e3 : ∀ u v d n, w3 (ix4 u v d n) = o 3 d n)
    (L : List (View.Piece (Elt Ideal) S1x4x64x256 .bf16)) (h0 h1 h2 h3)
    (hL : L = [⟨Rect.unit ![0, 3, 0, 0] S1x1x64x256.size h3, w3⟩, ⟨Rect.unit ![0, 2, 0, 0] S1x1x64x256.size h2, w2⟩,
      ⟨Rect.unit ![0, 1, 0, 0] S1x1x64x256.size h1, w1⟩, ⟨Rect.unit ![0, 0, 0, 0] S1x1x64x256.size h0, w0⟩])
    (hc : ∀ y, ∃ p ∈ L, y ∈ p.1.set) (u : Fin 1) (h : Fin 4) (d : Fin 64) (n : Fin 256) :
    VO0_8.read (Elt Ideal) (VO0_8.writes (Elt Ideal) VO0_8.junk L) (ix4 u h d n) = o h d n := by
  refine (congrFun (View.read_writes_eq_canon VO0_8 VO0_8.junk L hc) _).trans ?_
  refine View.canon_apply_of_pieces (Val := Elt Ideal) (fun z : S1x4x64x256.Idx => o (z 1) (z 2) (z 3)) L ?_ (ix4 u h d n) (hc _)
  intro pc hpc
  rw [hL] at hpc
  rcases List.mem_cons.mp hpc with rfl | hpc
  · exact piece_at o w3 3 h3 e3
  rcases List.mem_cons.mp hpc with rfl | hpc
  · exact piece_at o w2 2 h2 e2
  rcases List.mem_cons.mp hpc with rfl | hpc
  · exact piece_at o w1 1 h1 e1
  rcases List.mem_cons.mp hpc with rfl | hpc
  · exact piece_at o w0 0 h0 e0
  · cases hpc

/-- The block's element at head `h`. -/
def oV (x0 : Vec Ideal S1x256x16x512 .f32) (x1 : Vec Ideal S2x32x64 .f32) (x2 : Vec Ideal S2x2048x256 .bf16) (x3 : Vec Ideal S2x256x64 .bf16)
    (h : Fin 4) (d : Fin 64) (n : Fin 256) : EReal :=
  ∑ j : Fin 256, Kern.geluK (Kern.preK x0 x1 x2 1 h n j) * x3 (ix3 1 j d)

/-- What the body leaves in the values' block. -/
theorem block_at (c : Dev nD) (i : grid0.Coords)
    (arg1 : Memref sig .tc .vmem S1x256x16x512 .f32) (harg1 : arg1.IsWhole) (arg2 : Memref sig .tc .vmem S2x32x64 .f32) (harg2 : arg2.IsWhole)
    (arg3 : Memref sig .tc .vmem S2x2048x256 .bf16) (harg3 : arg3.IsWhole) (arg4 : Memref sig .tc .vmem S2x256x64 .bf16) (harg4 : arg4.IsWhole)
    (arg5 : Memref sig .tc .vmem S256x64 .bf16) (harg5 : arg5.IsWhole) (arg6 : Memref sig .tc .vmem S256x64 .f32) (harg6 : arg6.IsWhole)
    (arg7 : Memref sig .tc .vmem S256x64 .f32) (harg7 : arg7.IsWhole) (arg8 : Memref sig .tc .vmem S1x4x256x64 .bf16) (harg8 : arg8.IsWhole)
    (arg9 : Memref sig .tc .vmem S1x4x64x256 .bf16) (harg9 : arg9.IsWhole) (arg10 : Memref sig .tc .vmem S264x256 .f32) (harg10 : arg10.IsWhole)
    (x0 : Vec Ideal S1x256x16x512 .f32) (x1 : Vec Ideal S2x32x64 .f32) (x2 : Vec Ideal S2x2048x256 .bf16) (x3 : Vec Ideal S2x256x64 .bf16)
    (x4 : Vec Ideal S256x64 .bf16) (x5 x6 : Vec Ideal S256x64 .f32) (u : Fin 1) (h : Fin 4) (d : Fin 64) (n : Fin 256) :
    out0_A_8 c i arg1 harg1 arg2 harg2 arg3 harg3 arg4 harg4 arg5 harg5 arg6 harg6 arg7 harg7 arg8 harg8 arg9 harg9 arg10 harg10 x0 x1 x2 x3 x4 x5 x6 (ix4 u h d n) = oV x0 x1 x2 x3 h d n := by
  unfold out0_A_8
  have at_ := fun (h : Fin 4) L => Kern.outV_at arg1 harg1 arg2 harg2 arg3 harg3 arg4 harg4 arg10 x0 x1 x2 x3 h L
  exact stored_at (oV x0 x1 x2 x3) _ _ _ _ (at_ 0 _) (at_ 1 _) (at_ 2 _) (at_ 3 _) _ _ _ _ _
    (Kern.storesV c i arg1 harg1 arg2 harg2 arg3 harg3 arg4 harg4 arg5 harg5 arg6 harg6 arg7 harg7 arg8 harg8 arg9 harg9 arg10 harg10 x0 x1 x2 x3 x4 x5 x6)
    (cover0_A_8 c i arg1 harg1 arg2 harg2 arg3 harg3 arg4 harg4 arg5 harg5 arg6 harg6 arg7 harg7 arg8 harg8 arg9 harg9 arg10 harg10 x0 x1 x2 x3 x4 x5 x6) u h d n

variable (m : (ℓ : Loc nD τ sig) → Buf (Elt Ideal) ℓ)

/-- Device `c`'s contents of the arguments that the values are computed from. -/
abbrev a0 (c : Dev nD) : FVec Ideal S4x4096x512 .f32 := m ((c : Thread nD τ).loc main_arg0)
abbrev a4 (c : Dev nD) : FVec Ideal S32x64 .f32 := m ((c : Thread nD τ).loc main_arg4)
abbrev a5 (c : Dev nD) : FVec Ideal S2048x256 .f32 := m ((c : Thread nD τ).loc main_arg5)
abbrev a6 (c : Dev nD) : FVec Ideal S256x64 .f32 := m ((c : Thread nD τ).loc main_arg6)

/-- What the host wrote before the call, at an index: the positions by segments of 16, and the values' part of each stack. -/
theorem V_v0 (c : Dev nD) (b : Fin 4) (n : Fin 256) (l : Fin 16) (k : Fin 512) :
    V m c main_v0 (ix4 b n l k) = a0 m c (ix3 b (seg n l) k) := by
  unfold V a0
  after_reads_at
  pointwise []
  exact congrArg (fun z : Fin 4096 => a0 m c (ix3 b z k)) (Fin.ext (by show n.val * 16 + l.val = 16 * n.val + l.val; omega))
theorem V_v3 (c : Dev nD) (l : Fin 32) (d : Fin 64) : V m c main_v3 (ix3 1 l d) = a4 m c (ix2 l d) := by
  unfold V a4
  after_reads_at
  all_goals rfl
theorem V_v7 (c : Dev nD) (r : Fin 2048) (j : Fin 256) : V m c main_v7 (ix3 1 r j) = a5 m c (ix2 r j) := by
  unfold V a5
  after_reads_at
  after_reads_at
  all_goals rfl
theorem V_v11 (c : Dev nD) (j : Fin 256) (d : Fin 64) : V m c main_v11 (ix3 1 j d) = a6 m c (ix2 j d) := by
  unfold V a6
  after_reads_at
  after_reads_at
  all_goals rfl

/-- The block index of every window at every point: the point is the batch. -/
theorem idx_all : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_8.index t (0 : Fin 4) = t.val ∧ win0_8.index t (1 : Fin 4) = 0 ∧ win0_8.index t (2 : Fin 4) = 0 ∧ win0_8.index t (3 : Fin 4) = 0) :=
  (by decide +kernel : ∀ t : Fin grid0.N, _)

/-- Each window's block, read at an index, is its array at that index moved by the block's offset. -/
theorem blk0 (c : Dev nD) (t : Fin cfg0.N) (b : Fin 4) (hb : b.val = t.val) (n : Fin 256) (l : Fin 16) (k : Fin 512) :
    iblk m c 0 t (ix4 0 n l k) = a0 m c (ix3 b (seg n l) k) := by
  rw [← V_v0]
  show V m c main_v0 (((cfg0.win 0).blk t).view.emb (ix4 0 n l k)) = _
  refine congrArg _ (funext fun a => Fin.ext ?_)
  obtain ⟨h0, h1, h2, h3⟩ := (idx_all t).1
  match a with
  | ⟨0, _⟩ => show win0_0.index t (0 : Fin 4) * 1 + 1 * 0 = b.val; omega
  | ⟨1, _⟩ => show win0_0.index t (1 : Fin 4) * 256 + 1 * n.val = n.val; omega
  | ⟨2, _⟩ => show win0_0.index t (2 : Fin 4) * 16 + 1 * l.val = l.val; omega
  | ⟨3, _⟩ => show win0_0.index t (3 : Fin 4) * 512 + 1 * k.val = k.val; omega
theorem blk1 (c : Dev nD) (t : Fin cfg0.N) (l : Fin 32) (d : Fin 64) : iblk m c 1 t (ix3 1 l d) = a4 m c (ix2 l d) := by
  rw [← V_v3]
  show V m c main_v3 (((cfg0.win 1).blk t).view.emb (ix3 1 l d)) = _
  refine congrArg _ (funext fun a => Fin.ext ?_)
  obtain ⟨h0, h1, h2⟩ := (idx_all t).2.1
  match a with
  | ⟨0, _⟩ => show win0_1.index t (0 : Fin 3) * 2 + 1 * 1 = 1; omega
  | ⟨1, _⟩ => show win0_1.index t (1 : Fin 3) * 32 + 1 * l.val = l.val; omega
  | ⟨2, _⟩ => show win0_1.index t (2 : Fin 3) * 64 + 1 * d.val = d.val; omega
theorem blk2 (c : Dev nD) (t : Fin cfg0.N) (r : Fin 2048) (j : Fin 256) : iblk m c 2 t (ix3 1 r j) = a5 m c (ix2 r j) := by
  rw [← V_v7]
  show V m c main_v7 (((cfg0.win 2).blk t).view.emb (ix3 1 r j)) = _
  refine congrArg _ (funext fun a => Fin.ext ?_)
  obtain ⟨h0, h1, h2⟩ := (idx_all t).2.2.1
  match a with
  | ⟨0, _⟩ => show win0_2.index t (0 : Fin 3) * 2 + 1 * 1 = 1; omega
  | ⟨1, _⟩ => show win0_2.index t (1 : Fin 3) * 2048 + 1 * r.val = r.val; omega
  | ⟨2, _⟩ => show win0_2.index t (2 : Fin 3) * 256 + 1 * j.val = j.val; omega
theorem blk3 (c : Dev nD) (t : Fin cfg0.N) (j : Fin 256) (d : Fin 64) : iblk m c 3 t (ix3 1 j d) = a6 m c (ix2 j d) := by
  rw [← V_v11]
  show V m c main_v11 (((cfg0.win 3).blk t).view.emb (ix3 1 j d)) = _
  refine congrArg _ (funext fun a => Fin.ext ?_)
  obtain ⟨h0, h1, h2⟩ := (idx_all t).2.2.2.1
  match a with
  | ⟨0, _⟩ => show win0_3.index t (0 : Fin 3) * 2 + 1 * 1 = 1; omega
  | ⟨1, _⟩ => show win0_3.index t (1 : Fin 3) * 256 + 1 * j.val = j.val; omega
  | ⟨2, _⟩ => show win0_3.index t (2 : Fin 3) * 64 + 1 * d.val = d.val; omega

/-- The whole result array: the reference's function of the kernel's arguments. -/
abbrev G (c : Dev nD) : FVec Ideal S4x4x64x256 .bf16 := Cert.Reference4Ideal.Read.val_main_v40 (F := Ideal) (a0 m c) (a4 m c) (a5 m c) (a6 m c)

/-- What point `t` writes back is block `t` of that array. -/
theorem flushed_eq (c : Dev nD) (t : Fin cfg0.N) :
    (dats m 0 c).flushed 8 t = ((cfg0.win 8).blk t).view.read (Elt Ideal) (G m c) := by
  rw [Value.flushed8_A]
  funext y
  obtain ⟨u, h, d, n, rfl⟩ : ∃ (u : Fin 1) (h : Fin 4) (d : Fin 64) (n : Fin 256), y = ix4 u h d n := ⟨y 0, y 1, y 2, y 3, eq_ix4 y⟩
  have ht : t.val < 4 := lt_of_lt_of_eq t.isLt N_0
  refine Eq.trans (block_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (iblk m c 0 t) (iblk m c 1 t) (iblk m c 2 t) (iblk m c 3 t) (iblk m c 4 t) (iblk m c 5 t) (iblk m c 6 t) u h d n) ?_
  show _ = G m c (((cfg0.win 8).blk t).view.emb (ix4 u h d n))
  have e : ((cfg0.win 8).blk t).view.emb (ix4 u h d n) = ix4 (⟨t.val, ht⟩ : Fin 4) h d n := by
    obtain ⟨h0, h1, h2, h3⟩ := (idx_all t).2.2.2.2
    refine funext fun a => Fin.ext ?_
    match a with
    | ⟨0, _⟩ => show win0_8.index t (0 : Fin 4) * 1 + 1 * u.val = t.val; omega
    | ⟨1, _⟩ => show win0_8.index t (1 : Fin 4) * 4 + 1 * h.val = h.val; omega
    | ⟨2, _⟩ => show win0_8.index t (2 : Fin 4) * 64 + 1 * d.val = d.val; omega
    | ⟨3, _⟩ => show win0_8.index t (3 : Fin 4) * 256 + 1 * n.val = n.val; omega
  rw [e]
  refine Eq.trans ?_ (vt_at (a0 m c) (a4 m c) (a5 m c) (a6 m c) ⟨t.val, ht⟩ h n d).symm
  unfold oV outR
  refine Finset.sum_congr rfl fun j _ => congrArg₂ (· * ·) ?_ (blk3 m c t j d)
  rw [Kern.gelu_eq, pre_eq (a0 m c) (a4 m c) (a5 m c) (iblk m c 0 t) (iblk m c 1 t) (iblk m c 2 t) ⟨t.val, ht⟩ h n j
    (blk0 m c t ⟨t.val, ht⟩ rfl) (blk1 m c t) (blk2 m c t)]
  rfl

/-- Every index of the result array lies in the block of its batch's point. -/
theorem cover (i : S4x4x64x256.Idx) : ∃ t : Fin cfg0.N, (cfg0.win 8).flush t = true ∧ i ∈ ((cfg0.win 8).blk t).view.set := by
  obtain ⟨b, h, d, n, rfl⟩ : ∃ (b h : Fin 4) (d : Fin 64) (n : Fin 256), i = ix4 b h d n := ⟨i 0, i 1, i 2, i 3, eq_ix4 i⟩
  have hN : cfg0.N = 4 := N_0
  refine ⟨⟨b.val, by omega⟩, flush0_8 _, ?_⟩
  generalize ht : (⟨b.val, by omega⟩ : Fin cfg0.N) = t
  have htv : t.val = b.val := by rw [← ht]
  obtain ⟨h0, h1, h2, h3⟩ := (idx_all t).2.2.2.2
  show ix4 b h d n ∈ ((View.whole main_v44_1).slice (win0_8.rect t)).set
  rw [View.set_slice_whole, Rect.mem_set_unit]
  intro a
  match a with
  | ⟨0, _⟩ => show win0_8.index t (0 : Fin 4) * 1 ≤ b.val ∧ b.val < win0_8.index t (0 : Fin 4) * 1 + 1; omega
  | ⟨1, _⟩ => show win0_8.index t (1 : Fin 4) * 4 ≤ h.val ∧ h.val < win0_8.index t (1 : Fin 4) * 4 + 4; omega
  | ⟨2, _⟩ => show win0_8.index t (2 : Fin 4) * 64 ≤ d.val ∧ d.val < win0_8.index t (2 : Fin 4) * 64 + 64; omega
  | ⟨3, _⟩ => show win0_8.index t (3 : Fin 4) * 256 ≤ n.val ∧ n.val < win0_8.index t (3 : Fin 4) * 256 + 256; omega

/-- So the result array ends holding the reference's function of the arguments. -/
theorem final (c : Dev nD) : (dats m 0 c).arrAt 8 cfg0.N = G m c :=
  (dats m 0 c).arrAt_eq_of_cover 8 (G m c) (fun t _ => flushed_eq m c t) cover

/-- The kernel's and the reference's results are equal at the extended reals, from arguments that agree. -/
theorem algebraic : Cert.algebraic_Kernel4Ideal_Reference4Ideal := by
  intro m ρ m' ρ' _ hagree
  refine ⟨fun c => G m c, ?_, ?_⟩
  · exact (θ_run Cert.Kernel4Ideal.defs _ _).mono (fun _ h c => ⟨(h c).2.1.trans (final m c), (h c).2.2⟩)
      (Cert.Kernel4Ideal.Value.run_blocks (F := Ideal) m ρ)
  refine (θ_run Cert.Reference4Ideal.defs _ _).mono (fun _ h c => ⟨(h c).1.trans ?_, (h c).2⟩)
    (Cert.Reference4Ideal.Value.run (F := Ideal) m' ρ')
  obtain ⟨e0, e1, e2, e3, e4, e5, e6⟩ := hagree c
  rw [Cert.Reference4Ideal.Read.val_main_v40_eq, e0, e4, e5, e6]

end Cert.Proof.Cmp.Out

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Attn
public import proofs.«01_k».proof.Proof.InProj
public import proofs.«01_k».proof.Proof.Out
public import proofs.«01_k».proof.Proof.CmpOut
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Proof.Attn.preFacts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩) (Cert.ReferenceIdeal.Value.run (F := Ideal) m ρ),
    fun m ρ _ => (θ_run Cert.ReferenceIdeal.defs _ _).mono
      (fun r h => ⟨fun c => (h c).2, sem_eq_zero_of_no_sems (by decide) r.2⟩) (Cert.ReferenceIdeal.Value.run (F := Ideal) m ρ),
    fun m ρ _ => Cert.Kernel2.Gen.frame m ρ,
    fun m ρ _ => Cert.Kernel2Ideal.Gen.frame m ρ,
    fun m ρ _ => (θ_run Cert.Reference2Ideal.defs _ _).mono
      (fun r h => ⟨fun c => (h c).2.2.2.2.2.2, sem_eq_zero_of_no_sems (by decide) r.2⟩) (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono
      (fun r h => ⟨fun c => (h c).2, sem_eq_zero_of_no_sems (by decide) r.2⟩) (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono
      (fun r h => ⟨fun c => (h c).2, sem_eq_zero_of_no_sems (by decide) r.2⟩) (Cert.Reference4Ideal.Value.run (F := Ideal) m ρ),
    IdealRules.named_const.statement Cert.KernelIdeal.κ "mask" .f32 0xF149F2CA#32 ⊥ rfl,
    Cert.Proof.Attn.algebraic, trivial, Cert.Proof.InProj.algebraic, trivial, Cert.Proof.Out.algebraic, trivial, Cert.Proof.Cmp.Out.algebraic⟩

end Cert.Proof

end
